-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_weights [hPre_finite_weights : Cert.Pre_finite_weights.Facts] (m : (ℓ : Loc Cert.KernelIdeal.nD Cert.KernelIdeal.τ Cert.KernelIdeal.sig) → Buf (Elt Ideal) ℓ) : Prop :=
  ∀ c : Dev Cert.KernelIdeal.nD,
    (Cert.Pre_finite_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_weights [hPre_finite_weights : Cert.Pre_finite_weights.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_weights [hKernelIdeal : Cert.KernelIdeal.Facts] [hPre_finite_weights : Cert.Pre_finite_weights.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_weights m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_weights [hReferenceIdeal : Cert.ReferenceIdeal.Facts] [hPre_finite_weights : Cert.Pre_finite_weights.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_weights m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def preserves_Kernel_KernelIdeal : Prop :=
  IdealRules.named_const.Statement Cert.KernelIdeal.κ "scale_log2e" .f32 0x3E0293EE#32 (((11863283 / 134217728) * (Real.log 2)⁻¹ : ℝ) : EReal)

def algebraic_KernelIdeal_ReferenceIdeal_pre_finite_weights [hKernelIdeal : Cert.KernelIdeal.Facts] [hReferenceIdeal : Cert.ReferenceIdeal.Facts] [hPre_finite_weights : Cert.Pre_finite_weights.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_weights m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v126) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v23) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)) →
    ∃ (v0 : (c : Dev Cert.Kernel3Ideal.nD) → Buf (Elt Ideal) ((c.tc : Thread Cert.Kernel3Ideal.nD Cert.Kernel3Ideal.τ).loc Cert.Kernel3Ideal.main_v7_0)) (v1 : (c : Dev Cert.Kernel3Ideal.nD) → Buf (Elt Ideal) ((c.tc : Thread Cert.Kernel3Ideal.nD Cert.Kernel3Ideal.τ).loc Cert.Kernel3Ideal.main_v7_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7_0) = v0 c
          ∧ r.2.mem ((c.tc : Thread Cert.Kernel3Ideal.nD Cert.Kernel3Ideal.τ).loc Cert.Kernel3Ideal.main_v7_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v26) = v0 c
          ∧ r.2.mem ((c.tc : Thread Cert.Reference3Ideal.nD Cert.Reference3Ideal.τ).loc Cert.Reference3Ideal.main_v48) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v41) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite_weights : Cert.Pre_finite_weights.Facts),
    quiescent_Kernel (hKernel := hKernel)
    ∧ quiescent_KernelIdeal (hKernelIdeal := hKernelIdeal)
    ∧ quiescent_KernelIdeal_pre_finite_weights (hKernelIdeal := hKernelIdeal) (hPre_finite_weights := hPre_finite_weights)
    ∧ quiescent_ReferenceIdeal (hReferenceIdeal := hReferenceIdeal)
    ∧ quiescent_ReferenceIdeal_pre_finite_weights (hReferenceIdeal := hReferenceIdeal) (hPre_finite_weights := hPre_finite_weights)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite_weights (hKernelIdeal := hKernelIdeal) (hReferenceIdeal := hReferenceIdeal) (hPre_finite_weights := hPre_finite_weights)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite_weights.lean ====
abbrev S4x4096x11776 : Shape := ⟨3, ![4, 4096, 11776]⟩
abbrev S4x256x11776 : Shape := ⟨3, ![4, 256, 11776]⟩
abbrev S128 : Shape := ⟨1, ![128]⟩
abbrev S_ : Shape := ⟨0, ![]⟩

class Facts : Prop where
  bcast_S_S128 : S_.BroadcastsInDim S128 (![] : Fin 0 → Fin S128.rank)

variable [Facts]

def fn {F : FTy → Type} [FloatOps F] (main_arg0 : FVec F S4x4096x11776 .bf16) (main_arg1 : FVec F S4x256x11776 .bf16) (main_arg2 : FVec F S128 .f32) (main_arg3 : FVec F S128 .f32) : IVec S128 1 :=
  let main_v0 : FVec F S128 .f32 := Host.absf main_arg2
  let main_cst : FVec F S_ .f32 := constant S_ .f32 0x7F800000#32
  let main_v1 : FVec F S128 .f32 := broadcastInDim S128 ![] bcast_S_S128 main_cst
  let main_v2 : IVec S128 1 := cmpf .olt main_v0 main_v1
  let main_v3 : FVec F S128 .f32 := Host.absf main_arg3
  let main_cst_0 : FVec F S_ .f32 := constant S_ .f32 0x7F800000#32
  let main_v4 : FVec F S128 .f32 := broadcastInDim S128 ![] bcast_S_S128 main_cst_0
  let main_v5 : IVec S128 1 := cmpf .olt main_v3 main_v4
  let main_v6 : IVec S128 1 := andi main_v2 main_v5
  main_v6
-- ==== Kernel.lean ====
abbrev S4x4096x11776 : Shape := ⟨3, ![4, 4096, 11776]⟩
abbrev S4x256x11776 : Shape := ⟨3, ![4, 256, 11776]⟩
abbrev S128 : Shape := ⟨1, ![128]⟩
abbrev S4096 : Shape := ⟨1, ![4096]⟩
abbrev S_ : Shape := ⟨0, ![]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S4096x128 : Shape := ⟨2, ![4096, 128]⟩
abbrev S1x128 : Shape := ⟨2, ![1, 128]⟩
abbrev S4x4096x1024 : Shape := ⟨3, ![4, 4096, 1024]⟩
abbrev S1x512x1024 : Shape := ⟨3, ![1, 512, 1024]⟩
abbrev S1x256x256 : Shape := ⟨3, ![1, 256, 256]⟩
abbrev S1x4096x256 : Shape := ⟨3, ![1, 4096, 256]⟩
abbrev S512x128 : Shape := ⟨2, ![512, 128]⟩
abbrev S2x4352x128 : Shape := ⟨3, ![2, 4352, 128]⟩
abbrev S2x4352x256 : Shape := ⟨3, ![2, 4352, 256]⟩
abbrev S1x256x128 : Shape := ⟨3, ![1, 256, 128]⟩
abbrev S256x128 : Shape := ⟨2, ![256, 128]⟩
abbrev S256 : Shape := ⟨1, ![256]⟩
abbrev S256x1 : Shape := ⟨2, ![256, 1]⟩
abbrev S1x4096x128 : Shape := ⟨3, ![1, 4096, 128]⟩
abbrev S4352x128 : Shape := ⟨2, ![4352, 128]⟩
abbrev S1x4352x128 : Shape := ⟨3, ![1, 4352, 128]⟩
abbrev S256x4352 : Shape := ⟨2, ![256, 4352]⟩
abbrev S1x4352x256 : Shape := ⟨3, ![1, 4352, 256]⟩
abbrev S4352x256 : Shape := ⟨2, ![4352, 256]⟩
abbrev S256x256 : Shape := ⟨2, ![256, 256]⟩

abbrev nBuf : Space → Nat
  | .hbm => 74
  | .vmem => 22
  | .smem => 0
  | _ => 0

abbrev bufTy : (tb : Table) → Fin (tcTables nBuf tb) → BufTy
  | .hbm, ⟨0, _⟩ => ⟨S4x4096x11776, .bf16⟩
  | .hbm, ⟨1, _⟩ => ⟨S4x256x11776, .bf16⟩
  | .hbm, ⟨2, _⟩ => ⟨S128, .f32⟩
  | .hbm, ⟨3, _⟩ => ⟨S128, .f32⟩
  | .hbm, ⟨4, _⟩ => ⟨S4096, .i32⟩
  | .hbm, ⟨5, _⟩ => ⟨S_, .i32⟩
  | .hbm, ⟨6, _⟩ => ⟨S_, .i32⟩
  | .hbm, ⟨7, _⟩ => ⟨S4096, .i32⟩
  | .hbm, ⟨8, _⟩ => ⟨S4096, .i32⟩
  | .hbm, ⟨9, _⟩ => ⟨S4096, .i32⟩
  | .hbm, ⟨10, _⟩ => ⟨S_, .i32⟩
  | .hbm, ⟨11, _⟩ => ⟨S4096, .i32⟩
  | .hbm, ⟨12, _⟩ => ⟨S4096, .i1⟩
  | .hbm, ⟨13, _⟩ => ⟨S4096, .i32⟩
  | .hbm, ⟨14, _⟩ => ⟨S4096, .i32⟩
  | .hbm, ⟨15, _⟩ => ⟨S_, .i32⟩
  | .hbm, ⟨16, _⟩ => ⟨S4096, .i32⟩
  | .hbm, ⟨17, _⟩ => ⟨S4096, .i1⟩
  | .hbm, ⟨18, _⟩ => ⟨S4096, .i1⟩
  | .hbm, ⟨19, _⟩ => ⟨S_, .i32⟩
  | .hbm, ⟨20, _⟩ => ⟨S4096, .i32⟩
  | .hbm, ⟨21, _⟩ => ⟨S4096, .i32⟩
  | .hbm, ⟨22, _⟩ => ⟨S4096, .i32⟩
  | .hbm, ⟨23, _⟩ => ⟨S4096, .f32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i1⟩
  | .hbm, ⟨28, _⟩ => ⟨S_, .i32⟩
  | .hbm, ⟨29, _⟩ => ⟨S_, .i32⟩
  | .hbm, ⟨30, _⟩ => ⟨S4096, .i32⟩
  | .hbm, ⟨31, _⟩ => ⟨S4096, .i32⟩
  | .hbm, ⟨32, _⟩ => ⟨S_, .i32⟩
  | .hbm, ⟨33, _⟩ => ⟨S4096, .i32⟩
  | .hbm, ⟨34, _⟩ => ⟨S4096, .i1⟩
  | .hbm, ⟨35, _⟩ => ⟨S_, .i32⟩
  | .hbm, ⟨36, _⟩ => ⟨S4096, .i32⟩
  | .hbm, ⟨37, _⟩ => ⟨S4096, .i1⟩
  | .hbm, ⟨38, _⟩ => ⟨S_, .i32⟩
  | .hbm, ⟨39, _⟩ => ⟨S_, .i1⟩
  | .hbm, ⟨40, _⟩ => ⟨S4096, .i1⟩
  | .hbm, ⟨41, _⟩ => ⟨S4096, .i1⟩
  | .hbm, ⟨42, _⟩ => ⟨S4096, .i1⟩
  | .hbm, ⟨43, _⟩ => ⟨S4096, .i32⟩
  | .hbm, ⟨44, _⟩ => ⟨S4096, .i32⟩
  | .hbm, ⟨45, _⟩ => ⟨S4096, .i32⟩
  | .hbm, ⟨46, _⟩ => ⟨S4096, .f32⟩
  | .hbm, ⟨47, _⟩ => ⟨S32, .f32⟩
  | .hbm, ⟨48, _⟩ => ⟨S32, .f32⟩
  | .hbm, ⟨49, _⟩ => ⟨S_, .f32⟩
  | .hbm, ⟨50, _⟩ => ⟨S32, .f32⟩
  | .hbm, ⟨51, _⟩ => ⟨S32, .f32⟩
  | .hbm, ⟨52, _⟩ => ⟨S_, .f32⟩
  | .hbm, ⟨53, _⟩ => ⟨S32, .f32⟩
  | .hbm, ⟨54, _⟩ => ⟨S32, .f32⟩
  | .hbm, ⟨55, _⟩ => ⟨S4096x1, .f32⟩
  | .hbm, ⟨56, _⟩ => ⟨S1x32, .f32⟩
  | .hbm, ⟨57, _⟩ => ⟨S4096x32, .f32⟩
  | .hbm, ⟨58, _⟩ => ⟨S4096x32, .f32⟩
  | .hbm, ⟨59, _⟩ => ⟨S4096x32, .f32⟩
  | .hbm, ⟨60, _⟩ => ⟨S4096x1, .f32⟩
  | .hbm, ⟨61, _⟩ => ⟨S1x32, .f32⟩
  | .hbm, ⟨62, _⟩ => ⟨S4096x32, .f32⟩
  | .hbm, ⟨63, _⟩ => ⟨S4096x32, .f32⟩
  | .hbm, ⟨64, _⟩ => ⟨S4096x32, .f32⟩
  | .hbm, ⟨65, _⟩ => ⟨S4096x64, .f32⟩
  | .hbm, ⟨66, _⟩ => ⟨S4096x64, .f32⟩
  | .hbm, ⟨67, _⟩ => ⟨S4096x64, .f32⟩
  | .hbm, ⟨68, _⟩ => ⟨S4096x128, .f32⟩
  | .hbm, ⟨69, _⟩ => ⟨S4096x64, .f32⟩
  | .hbm, ⟨70, _⟩ => ⟨S4096x128, .f32⟩
  | .hbm, ⟨71, _⟩ => ⟨S1x128, .f32⟩
  | .hbm, ⟨72, _⟩ => ⟨S1x128, .f32⟩
  | .hbm, ⟨73, _⟩ => ⟨S4x4096x1024, .bf16⟩
  | .local _ .vmem, ⟨0, _⟩ => ⟨S1x512x1024, .bf16⟩
  | .local _ .vmem, ⟨1, _⟩ => ⟨S1x512x1024, .bf16⟩
  | .local _ .vmem, ⟨2, _⟩ => ⟨S1x256x256, .bf16⟩
  | .local _ .vmem, ⟨3, _⟩ => ⟨S1x256x256, .bf16⟩
  | .local _ .vmem, ⟨4, _⟩ => ⟨S1x4096x256, .bf16⟩
  | .local _ .vmem, ⟨5, _⟩ => ⟨S1x4096x256, .bf16⟩
  | .local _ .vmem, ⟨6, _⟩ => ⟨S1x256x256, .bf16⟩
  | .local _ .vmem, ⟨7, _⟩ => ⟨S1x256x256, .bf16⟩
  | .local _ .vmem, ⟨8, _⟩ => ⟨S1x4096x256, .bf16⟩
  | .local _ .vmem, ⟨9, _⟩ => ⟨S1x4096x256, .bf16⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S4096x128, .f32⟩
  | .local _ .vmem, ⟨15, _⟩ => ⟨S4096x128, .f32⟩
  | .local _ .vmem, ⟨16, _⟩ => ⟨S1x128, .f32⟩
  | .local _ .vmem, ⟨17, _⟩ => ⟨S1x128, .f32⟩
  | .local _ .vmem, ⟨18, _⟩ => ⟨S1x512x1024, .bf16⟩
  | .local _ .vmem, ⟨19, _⟩ => ⟨S1x512x1024, .bf16⟩
  | .local _ .vmem, ⟨20, _⟩ => ⟨S2x4352x128, .bf16⟩
  | .local _ .vmem, ⟨21, _⟩ => ⟨S2x4352x256, .bf16⟩
  | _, _ => ⟨S4x4096x11776, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_c : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_0 : Ref sig .tc := ⟨.hbm, 19, rfl⟩
abbrev main_call0_v12 : Ref sig .tc := ⟨.hbm, 20, rfl⟩
abbrev main_call0_v13 : Ref sig .tc := ⟨.hbm, 21, rfl⟩
abbrev main_v1 : Ref sig .tc := ⟨.hbm, 22, rfl⟩
abbrev main_v2 : Ref sig .tc := ⟨.hbm, 23, rfl⟩
abbrev main_c_0 : Ref sig .tc := ⟨.hbm, 24, rfl⟩
abbrev main_call1_v0 : Ref sig .tc := ⟨.hbm, 25, rfl⟩
abbrev main_call1_c : Ref sig .tc := ⟨.hbm, 26, rfl⟩
abbrev main_call1_v1 : Ref sig .tc := ⟨.hbm, 27, rfl⟩
abbrev main_call1_c_0 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_c_1 : Ref sig .tc := ⟨.hbm, 32, rfl⟩
abbrev main_call1_v5 : Ref sig .tc := ⟨.hbm, 33, rfl⟩
abbrev main_call1_v6 : Ref sig .tc := ⟨.hbm, 34, rfl⟩
abbrev main_call1_c_2 : Ref sig .tc := ⟨.hbm, 35, rfl⟩
abbrev main_call1_v7 : Ref sig .tc := ⟨.hbm, 36, rfl⟩
abbrev main_call1_v8 : Ref sig .tc := ⟨.hbm, 37, rfl⟩
abbrev main_call1_c_3 : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_v12 : Ref sig .tc := ⟨.hbm, 42, rfl⟩
abbrev main_call1_v13 : Ref sig .tc := ⟨.hbm, 43, rfl⟩
abbrev main_call1_v14 : Ref sig .tc := ⟨.hbm, 44, rfl⟩
abbrev main_v3 : Ref sig .tc := ⟨.hbm, 45, rfl⟩
abbrev main_v4 : Ref sig .tc := ⟨.hbm, 46, rfl⟩
abbrev main_v5 : Ref sig .tc := ⟨.hbm, 47, rfl⟩
abbrev main_v6 : Ref sig .tc := ⟨.hbm, 48, rfl⟩
abbrev main_cst : Ref sig .tc := ⟨.hbm, 49, rfl⟩
abbrev main_v7 : Ref sig .tc := ⟨.hbm, 50, rfl⟩
abbrev main_v8 : Ref sig .tc := ⟨.hbm, 51, rfl⟩
abbrev main_cst_1 : Ref sig .tc := ⟨.hbm, 52, rfl⟩
abbrev main_v9 : Ref sig .tc := ⟨.hbm, 53, rfl⟩
abbrev main_v10 : Ref sig .tc := ⟨.hbm, 54, rfl⟩
abbrev main_v11 : Ref sig .tc := ⟨.hbm, 55, rfl⟩
abbrev main_v12 : Ref sig .tc := ⟨.hbm, 56, rfl⟩
abbrev main_v13 : Ref sig .tc := ⟨.hbm, 57, rfl⟩
abbrev main_v14 : Ref sig .tc := ⟨.hbm, 58, rfl⟩
abbrev main_v15 : Ref sig .tc := ⟨.hbm, 59, rfl⟩
abbrev main_v16 : Ref sig .tc := ⟨.hbm, 60, rfl⟩
abbrev main_v17 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c4_i32 : BitVec 32 := 4#32
  let c0_i32_0 : BitVec 32 := 0#32
  ![arg0.toNat, c0_i32.toNat, c4_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c4_i32 : BitVec 32 := 4#32
  let c0_i32_0 : BitVec 32 := 0#32
  ![arg0.toNat, c0_i32.toNat, c4_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c5_i32 : BitVec 32 := 5#32
  let c0_i32_0 : BitVec 32 := 0#32
  ![arg0.toNat, c0_i32.toNat, c5_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c5_i32 : BitVec 32 := 5#32
  let c0_i32_0 : BitVec 32 := 0#32
  ![arg0.toNat, c0_i32.toNat, c5_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S4096x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S4096x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== KernelIdeal.lean ====
variable {F : FTy → Type} [FloatOps F] [Named F]
def κ : String → Option EReal := fun
  | "scale_log2e" => some (((11863283 / 134217728) * (Real.log 2)⁻¹ : ℝ) : EReal)
  | _ => none
-- ==== ReferenceIdeal.lean ====
abbrev S4x4096x11776 : Shape := ⟨3, ![4, 4096, 11776]⟩
abbrev S4x256x11776 : Shape := ⟨3, ![4, 256, 11776]⟩
abbrev S128 : Shape := ⟨1, ![128]⟩
abbrev S4096 : Shape := ⟨1, ![4096]⟩
abbrev S_ : Shape := ⟨0, ![]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S4x4096x1024 : Shape := ⟨3, ![4, 4096, 1024]⟩
abbrev S4x4096x256 : Shape := ⟨3, ![4, 4096, 256]⟩
abbrev S4x256x256 : Shape := ⟨3, ![4, 256, 256]⟩
abbrev S4x4096x8x128 : Shape := ⟨4, ![4, 4096, 8, 128]⟩
abbrev S4x4096x8 : Shape := ⟨3, ![4, 4096, 8]⟩
abbrev S4x4096x8x1 : Shape := ⟨4, ![4, 4096, 8, 1]⟩
abbrev S1x1x1x128 : Shape := ⟨4, ![1, 1, 1, 128]⟩
abbrev S4x4096x8x64 : Shape := ⟨4, ![4, 4096, 8, 64]⟩
abbrev S1x4096x1x64 : Shape := ⟨4, ![1, 4096, 1, 64]⟩
abbrev S4x4096x2x128 : Shape := ⟨4, ![4, 4096, 2, 128]⟩
abbrev S4x4096x2 : Shape := ⟨3, ![4, 4096, 2]⟩
abbrev S4x4096x2x1 : Shape := ⟨4, ![4, 4096, 2, 1]⟩
abbrev S4x4096x2x64 : Shape := ⟨4, ![4, 4096, 2, 64]⟩
abbrev S4x256x2x128 : Shape := ⟨4, ![4, 256, 2, 128]⟩
abbrev S4x256x2 : Shape := ⟨3, ![4, 256, 2]⟩
abbrev S4x256x2x1 : Shape := ⟨4, ![4, 256, 2, 1]⟩
abbrev S4x4352x2x128 : Shape := ⟨4, ![4, 4352, 2, 128]⟩
abbrev S4x4096x2x4x128 : Shape := ⟨5, ![4, 4096, 2, 4, 128]⟩
abbrev S4x2x4352x4096x4 : Shape := ⟨5, ![4, 2, 4352, 4096, 4]⟩
abbrev S4x2x4x4096x4352 : Shape := ⟨5, ![4, 2, 4, 4096, 4352]⟩
abbrev S4x2x4x4096 : Shape := ⟨4, ![4, 2, 4, 4096]⟩
abbrev S4x2x4x4096x1 : Shape := ⟨5, ![4, 2, 4, 4096, 1]⟩
abbrev S4x2x128x4x4096 : Shape := ⟨5, ![4, 2, 128, 4, 4096]⟩

abbrev nBuf : Space → Nat
  | .hbm => 184
  | .vmem => 0
  | .smem => 0
  | _ => 0

abbrev hbmTy0_0 (i : Nat) : BufTy := match i % 128 with
  | 0 => ⟨S4x4096x11776, .bf16⟩
  | 1 => ⟨S4x256x11776, .bf16⟩
  | 2 => ⟨S128, .f32⟩
  | 3 => ⟨S128, .f32⟩
  | 4 => ⟨S4x4096x11776, .f32⟩
  | 5 => ⟨S4x256x11776, .f32⟩
  | 6 => ⟨S4096, .i32⟩
  | 7 => ⟨S_, .i32⟩
  | 8 => ⟨S_, .i32⟩
  | 9 => ⟨S4096, .i32⟩
  | 10 => ⟨S4096, .i32⟩
  | 11 => ⟨S4096, .i32⟩
  | 12 => ⟨S_, .i32⟩
  | 13 => ⟨S4096, .i32⟩
  | 14 => ⟨S4096, .i1⟩
  | 15 => ⟨S4096, .i32⟩
  | 16 => ⟨S4096, .i32⟩
  | 17 => ⟨S_, .i32⟩
  | 18 => ⟨S4096, .i32⟩
  | 19 => ⟨S4096, .i1⟩
  | 20 => ⟨S4096, .i1⟩
  | 21 => ⟨S_, .i32⟩
  | 22 => ⟨S4096, .i32⟩
  | 23 => ⟨S4096, .i32⟩
  | 24 => ⟨S4096, .i32⟩
  | 25 => ⟨S4096, .f32⟩
  | 26 => ⟨S_, .i32⟩
  | 27 => ⟨S_, .i32⟩
  | 28 => ⟨S_, .i32⟩
  | 29 => ⟨S_, .i1⟩
  | 30 => ⟨S_, .i32⟩
  | 31 => ⟨S_, .i32⟩
  | 32 => ⟨S4096, .i32⟩
  | 33 => ⟨S4096, .i32⟩
  | 34 => ⟨S_, .i32⟩
  | 35 => ⟨S4096, .i32⟩
  | 36 => ⟨S4096, .i1⟩
  | 37 => ⟨S_, .i32⟩
  | 38 => ⟨S4096, .i32⟩
  | 39 => ⟨S4096, .i1⟩
  | 40 => ⟨S_, .i32⟩
  | 41 => ⟨S_, .i1⟩
  | 42 => ⟨S4096, .i1⟩
  | 43 => ⟨S4096, .i1⟩
  | 44 => ⟨S4096, .i1⟩
  | 45 => ⟨S4096, .i32⟩
  | 46 => ⟨S4096, .i32⟩
  | 47 => ⟨S4096, .i32⟩
  | 48 => ⟨S4096, .f32⟩
  | 49 => ⟨S32, .f32⟩
  | 50 => ⟨S32, .f32⟩
  | 51 => ⟨S_, .f32⟩
  | 52 => ⟨S32, .f32⟩
  | 53 => ⟨S32, .f32⟩
  | 54 => ⟨S_, .f32⟩
  | 55 => ⟨S32, .f32⟩
  | 56 => ⟨S32, .f32⟩
  | 57 => ⟨S4096x1, .f32⟩
  | 58 => ⟨S1x32, .f32⟩
  | 59 => ⟨S4096x32, .f32⟩
  | 60 => ⟨S4096x32, .f32⟩
  | 61 => ⟨S4096x32, .f32⟩
  | 62 => ⟨S4096x1, .f32⟩
  | 63 => ⟨S1x32, .f32⟩
  | 64 => ⟨S4096x32, .f32⟩
  | 65 => ⟨S4096x32, .f32⟩
  | 66 => ⟨S4096x32, .f32⟩
  | 67 => ⟨S4096x64, .f32⟩
  | 68 => ⟨S4096x64, .f32⟩
  | 69 => ⟨S4096x64, .f32⟩
  | 70 => ⟨S4x4096x1024, .f32⟩
  | 71 => ⟨S4x4096x256, .f32⟩
  | 72 => ⟨S4x4096x256, .f32⟩
  | 73 => ⟨S4x256x256, .f32⟩
  | 74 => ⟨S4x256x256, .f32⟩
  | 75 => ⟨S4x4096x8x128, .f32⟩
  | 76 => ⟨S4x4096x8x128, .f32⟩
  | 77 => ⟨S_, .f32⟩
  | 78 => ⟨S4x4096x8, .f32⟩
  | 79 => ⟨S4x4096x8x1, .f32⟩
  | 80 => ⟨S_, .f32⟩
  | 81 => ⟨S4x4096x8x1, .f32⟩
  | 82 => ⟨S4x4096x8x1, .f32⟩
  | 83 => ⟨S_, .f32⟩
  | 84 => ⟨S4x4096x8x1, .f32⟩
  | 85 => ⟨S4x4096x8x1, .f32⟩
  | 86 => ⟨S4x4096x8x1, .f32⟩
  | 87 => ⟨S4x4096x8x128, .f32⟩
  | 88 => ⟨S4x4096x8x128, .f32⟩
  | 89 => ⟨S1x1x1x128, .f32⟩
  | 90 => ⟨S4x4096x8x128, .f32⟩
  | 91 => ⟨S4x4096x8x128, .f32⟩
  | 92 => ⟨S4x4096x8x64, .f32⟩
  | 93 => ⟨S4x4096x8x64, .f32⟩
  | 94 => ⟨S1x4096x1x64, .f32⟩
  | 95 => ⟨S1x4096x1x64, .f32⟩
  | 96 => ⟨S4x4096x8x64, .f32⟩
  | 97 => ⟨S4x4096x8x64, .f32⟩
  | 98 => ⟨S4x4096x8x64, .f32⟩
  | 99 => ⟨S4x4096x8x64, .f32⟩
  | 100 => ⟨S4x4096x8x64, .f32⟩
  | 101 => ⟨S4x4096x8x64, .f32⟩
  | 102 => ⟨S4x4096x8x64, .f32⟩
  | 103 => ⟨S4x4096x8x64, .f32⟩
  | 104 => ⟨S4x4096x8x64, .f32⟩
  | 105 => ⟨S4x4096x8x64, .f32⟩
  | 106 => ⟨S4x4096x8x128, .f32⟩
  | 107 => ⟨S4x4096x2x128, .f32⟩
  | 108 => ⟨S4x4096x2x128, .f32⟩
  | 109 => ⟨S_, .f32⟩
  | 110 => ⟨S4x4096x2, .f32⟩
  | 111 => ⟨S4x4096x2x1, .f32⟩
  | 112 => ⟨S_, .f32⟩
  | 113 => ⟨S4x4096x2x1, .f32⟩
  | 114 => ⟨S4x4096x2x1, .f32⟩
  | 115 => ⟨S_, .f32⟩
  | 116 => ⟨S4x4096x2x1, .f32⟩
  | 117 => ⟨S4x4096x2x1, .f32⟩
  | 118 => ⟨S4x4096x2x1, .f32⟩
  | 119 => ⟨S4x4096x2x128, .f32⟩
  | 120 => ⟨S4x4096x2x128, .f32⟩
  | 121 => ⟨S1x1x1x128, .f32⟩
  | 122 => ⟨S4x4096x2x128, .f32⟩
  | 123 => ⟨S4x4096x2x128, .f32⟩
  | 124 => ⟨S4x4096x2x64, .f32⟩
  | 125 => ⟨S4x4096x2x64, .f32⟩
  | 126 => ⟨S1x4096x1x64, .f32⟩
  | 127 => ⟨S1x4096x1x64, .f32⟩
  | _ => ⟨S4x4096x11776, .bf16⟩

abbrev hbmTy0_1 (i : Nat) : BufTy := match i % 128 with
  | 0 => ⟨S4x4096x2x64, .f32⟩
  | 1 => ⟨S4x4096x2x64, .f32⟩
  | 2 => ⟨S4x4096x2x64, .f32⟩
  | 3 => ⟨S4x4096x2x64, .f32⟩
  | 4 => ⟨S4x4096x2x64, .f32⟩
  | 5 => ⟨S4x4096x2x64, .f32⟩
  | 6 => ⟨S4x4096x2x64, .f32⟩
  | 7 => ⟨S4x4096x2x64, .f32⟩
  | 8 => ⟨S4x4096x2x64, .f32⟩
  | 9 => ⟨S4x4096x2x64, .f32⟩
  | 10 => ⟨S4x4096x2x128, .f32⟩
  | 11 => ⟨S4x4096x2x128, .f32⟩
  | 12 => ⟨S4x256x2x128, .f32⟩
  | 13 => ⟨S4x256x2x128, .f32⟩
  | 14 => ⟨S_, .f32⟩
  | 15 => ⟨S4x256x2, .f32⟩
  | 16 => ⟨S4x256x2x1, .f32⟩
  | 17 => ⟨S_, .f32⟩
  | 18 => ⟨S4x256x2x1, .f32⟩
  | 19 => ⟨S4x256x2x1, .f32⟩
  | 20 => ⟨S_, .f32⟩
  | 21 => ⟨S4x256x2x1, .f32⟩
  | 22 => ⟨S4x256x2x1, .f32⟩
  | 23 => ⟨S4x256x2x1, .f32⟩
  | 24 => ⟨S4x256x2x128, .f32⟩
  | 25 => ⟨S4x256x2x128, .f32⟩
  | 26 => ⟨S1x1x1x128, .f32⟩
  | 27 => ⟨S4x256x2x128, .f32⟩
  | 28 => ⟨S4x256x2x128, .f32⟩
  | 29 => ⟨S4x256x2x128, .f32⟩
  | 30 => ⟨S4x4352x2x128, .f32⟩
  | 31 => ⟨S4x4352x2x128, .f32⟩
  | 32 => ⟨S4x4096x2x4x128, .f32⟩
  | 33 => ⟨S4x2x4352x4096x4, .f32⟩
  | 34 => ⟨S4x2x4x4096x4352, .f32⟩
  | 35 => ⟨S_, .f32⟩
  | 36 => ⟨S4x2x4x4096x4352, .f32⟩
  | 37 => ⟨S4x2x4x4096x4352, .f32⟩
  | 38 => ⟨S_, .f32⟩
  | 39 => ⟨S4x2x4x4096, .f32⟩
  | 40 => ⟨S_, .f32⟩
  | 41 => ⟨S4x2x4x4096, .f32⟩
  | 42 => ⟨S4x2x4x4096, .f32⟩
  | 43 => ⟨S4x2x4x4096x1, .f32⟩
  | 44 => ⟨S4x2x4x4096x4352, .f32⟩
  | 45 => ⟨S4x2x4x4096x4352, .f32⟩
  | 46 => ⟨S4x2x4x4096x4352, .f32⟩
  | 47 => ⟨S_, .f32⟩
  | 48 => ⟨S4x2x4x4096, .f32⟩
  | 49 => ⟨S4x2x4x4096x1, .f32⟩
  | 50 => ⟨S4x2x4x4096x4352, .f32⟩
  | 51 => ⟨S4x2x4x4096x4352, .f32⟩
  | 52 => ⟨S4x2x128x4x4096, .f32⟩
  | 53 => ⟨S4x4096x2x4x128, .f32⟩
  | 54 => ⟨S4x4096x1024, .f32⟩
  | 55 => ⟨S4x4096x1024, .bf16⟩
  | _ => ⟨S4x4096x11776, .bf16⟩

abbrev hbmTy (i : Nat) : BufTy := match i / 128 with
  | 0 => hbmTy0_0 i
  | 1 => hbmTy0_1 i
  | _ => ⟨S4x4096x11776, .bf16⟩

abbrev bufTy : (tb : Table) → Fin (tcTables nBuf tb) → BufTy
  | .hbm, ⟨i, _⟩ => hbmTy i
  | _, _ => ⟨S4x4096x11776, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v3 : Ref sig .tc := ⟨.hbm, 24, rfl⟩
abbrev main_v4 : Ref sig .tc := ⟨.hbm, 25, rfl⟩
abbrev main_c_0 : Ref sig .tc := ⟨.hbm, 26, rfl⟩
abbrev main_call1_v0 : Ref sig .tc := ⟨.hbm, 27, rfl⟩
abbrev main_call1_c : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_c_1 : Ref sig .tc := ⟨.hbm, 34, rfl⟩
abbrev main_call1_v5 : Ref sig .tc := ⟨.hbm, 35, rfl⟩
abbrev main_call1_v6 : Ref sig .tc := ⟨.hbm, 36, rfl⟩
abbrev main_call1_c_2 : Ref sig .tc := ⟨.hbm, 37, rfl⟩
abbrev main_call1_v7 : Ref sig .tc := ⟨.hbm, 38, rfl⟩
abbrev main_call1_v8 : Ref sig .tc := ⟨.hbm, 39, rfl⟩
abbrev main_call1_c_3 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_v12 : Ref sig .tc := ⟨.hbm, 44, rfl⟩
abbrev main_call1_v13 : Ref sig .tc := ⟨.hbm, 45, rfl⟩
abbrev main_call1_v14 : Ref sig .tc := ⟨.hbm, 46, rfl⟩
abbrev main_v5 : Ref sig .tc := ⟨.hbm, 47, rfl⟩
abbrev main_v6 : Ref sig .tc := ⟨.hbm, 48, rfl⟩
abbrev main_v7 : Ref sig .tc := ⟨.hbm, 49, rfl⟩
abbrev main_v8 : Ref sig .tc := ⟨.hbm, 50, rfl⟩
abbrev main_cst : Ref sig .tc := ⟨.hbm, 51, rfl⟩
abbrev main_v9 : Ref sig .tc := ⟨.hbm, 52, rfl⟩
abbrev main_v10 : Ref sig .tc := ⟨.hbm, 53, rfl⟩
abbrev main_cst_1 : Ref sig .tc := ⟨.hbm, 54, rfl⟩
abbrev main_v11 : Ref sig .tc := ⟨.hbm, 55, rfl⟩
abbrev main_v12 : Ref sig .tc := ⟨.hbm, 56, rfl⟩
abbrev main_v13 : Ref sig .tc := ⟨.hbm, 57, rfl⟩
abbrev main_v14 : Ref sig .tc := ⟨.hbm, 58, rfl⟩
abbrev main_v15 : Ref sig .tc := ⟨.hbm, 59, rfl⟩
abbrev main_v16 : Ref sig .tc := ⟨.hbm, 60, rfl⟩
abbrev main_v17 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_cst_2 : Ref sig .tc := ⟨.hbm, 77, rfl⟩
abbrev main_v33 : Ref sig .tc := ⟨.hbm, 78, rfl⟩
abbrev main_v34 : Ref sig .tc := ⟨.hbm, 79, rfl⟩
abbrev main_cst_3 : Ref sig .tc := ⟨.hbm, 80, rfl⟩
abbrev main_v35 : Ref sig .tc := ⟨.hbm, 81, rfl⟩
abbrev main_v36 : Ref sig .tc := ⟨.hbm, 82, rfl⟩
abbrev main_cst_4 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_cst_5 : Ref sig .tc := ⟨.hbm, 109, rfl⟩
abbrev main_v62 : Ref sig .tc := ⟨.hbm, 110, rfl⟩
abbrev main_v63 : Ref sig .tc := ⟨.hbm, 111, rfl⟩
abbrev main_cst_6 : Ref sig .tc := ⟨.hbm, 112, rfl⟩
abbrev main_v64 : Ref sig .tc := ⟨.hbm, 113, rfl⟩
abbrev main_v65 : Ref sig .tc := ⟨.hbm, 114, rfl⟩
abbrev main_cst_7 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_cst_8 : Ref sig .tc := ⟨.hbm, 142, rfl⟩
abbrev main_v92 : Ref sig .tc := ⟨.hbm, 143, rfl⟩
abbrev main_v93 : Ref sig .tc := ⟨.hbm, 144, rfl⟩
abbrev main_cst_9 : Ref sig .tc := ⟨.hbm, 145, rfl⟩
abbrev main_v94 : Ref sig .tc := ⟨.hbm, 146, rfl⟩
abbrev main_v95 : Ref sig .tc := ⟨.hbm, 147, rfl⟩
abbrev main_cst_10 : Ref sig .tc := ⟨.hbm, 148, rfl⟩
abbrev main_v96 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_v100 : Ref sig .tc := ⟨.hbm, 153, rfl⟩
abbrev main_v101 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_cst_11 : Ref sig .tc := ⟨.hbm, 163, rfl⟩
abbrev main_v110 : Ref sig .tc := ⟨.hbm, 164, rfl⟩
abbrev main_v111 : Ref sig .tc := ⟨.hbm, 165, rfl⟩
abbrev main_cst_12 : Ref sig .tc := ⟨.hbm, 166, rfl⟩
abbrev main_v112 : Ref sig .tc := ⟨.hbm, 167, rfl⟩
abbrev main_cst_13 : Ref sig .tc := ⟨.hbm, 168, rfl⟩
abbrev main_v113 : Ref sig .tc := ⟨.hbm, 169, rfl⟩
abbrev main_v114 : Ref sig .tc := ⟨.hbm, 170, rfl⟩
abbrev main_v115 : Ref sig .tc := ⟨.hbm, 171, rfl⟩
abbrev main_v116 : Ref sig .tc := ⟨.hbm, 172, rfl⟩
abbrev main_v117 : Ref sig .tc := ⟨.hbm, 173, rfl⟩
abbrev main_v118 : Ref sig .tc := ⟨.hbm, 174, rfl⟩
abbrev main_cst_14 : Ref sig .tc := ⟨.hbm, 175, rfl⟩
abbrev main_v119 : Ref sig .tc := ⟨.hbm, 176, rfl⟩
abbrev main_v120 : Ref sig .tc := ⟨.hbm, 177, rfl⟩
abbrev main_v121 : Ref sig .tc := ⟨.hbm, 178, rfl⟩
abbrev main_v122 : Ref sig .tc := ⟨.hbm, 179, rfl⟩
abbrev main_v123 : Ref sig .tc := ⟨.hbm, 180, rfl⟩
abbrev main_v124 : Ref sig .tc := ⟨.hbm, 181, rfl⟩
abbrev main_v125 : Ref sig .tc := ⟨.hbm, 182, rfl⟩
abbrev main_v126 : Ref sig .tc := ⟨.hbm, 183, rfl⟩

abbrev nD : Nat := 1
abbrev τ : Topo := Topo.v7x

variable {F : FTy → Type} [FloatOps F]
-- ==== Kernel2.lean ====
abbrev S4x4096x2048 : Shape := ⟨3, ![4, 4096, 2048]⟩
abbrev S2048 : Shape := ⟨1, ![2048]⟩
abbrev S4x2048 : Shape := ⟨2, ![4, 2048]⟩
abbrev S2048x11776 : Shape := ⟨2, ![2048, 11776]⟩
abbrev S4x1x2048 : Shape := ⟨3, ![4, 1, 2048]⟩
abbrev S16384x2048 : Shape := ⟨2, ![16384, 2048]⟩
abbrev S1x2048 : Shape := ⟨2, ![1, 2048]⟩
abbrev S16384x11776 : Shape := ⟨2, ![16384, 11776]⟩
abbrev S512x2048 : Shape := ⟨2, ![512, 2048]⟩
abbrev S1x1x2048 : Shape := ⟨3, ![1, 1, 2048]⟩
abbrev S2048x2944 : Shape := ⟨2, ![2048, 2944]⟩
abbrev S512x2944 : Shape := ⟨2, ![512, 2944]⟩
abbrev S2x512x2048 : Shape := ⟨3, ![2, 512, 2048]⟩
abbrev S512 : Shape := ⟨1, ![512]⟩
abbrev S512x1 : Shape := ⟨2, ![512, 1]⟩
abbrev S1x512x2048 : Shape := ⟨3, ![1, 512, 2048]⟩

abbrev nBuf : Space → Nat
  | .hbm => 11
  | .vmem => 15
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S4x2048, .f32⟩
  | .hbm, ⟨3, _⟩ => ⟨S4x2048, .f32⟩
  | .hbm, ⟨4, _⟩ => ⟨S2048x11776, .f32⟩
  | .hbm, ⟨5, _⟩ => ⟨S2048x11776, .bf16⟩
  | .hbm, ⟨6, _⟩ => ⟨S4x1x2048, .f32⟩
  | .hbm, ⟨7, _⟩ => ⟨S4x1x2048, .f32⟩
  | .hbm, ⟨8, _⟩ => ⟨S16384x2048, .f32⟩
  | .hbm, ⟨9, _⟩ => ⟨S1x2048, .f32⟩
  | .hbm, ⟨10, _⟩ => ⟨S16384x11776, .bf16⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x1x2048, .f32⟩
  | .local _ .vmem, ⟨9, _⟩ => ⟨S1x1x2048, .f32⟩
  | .local _ .vmem, ⟨10, _⟩ => ⟨S2048x2944, .bf16⟩
  | .local _ .vmem, ⟨11, _⟩ => ⟨S2048x2944, .bf16⟩
  | .local _ .vmem, ⟨12, _⟩ => ⟨S512x2944, .bf16⟩
  | .local _ .vmem, ⟨13, _⟩ => ⟨S512x2944, .bf16⟩
  | .local _ .vmem, ⟨14, _⟩ => ⟨S2x512x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![32, 4], ![false, false]⟩

def k0_cond2 (i : grid0.Coords) : BitVec 1 :=
  let arg1 : BitVec 32 := BitVec.ofNat 32 (i 1).val
  let c3_i32 : BitVec 32 := 3#32
  let v15 : BitVec 1 := Scalar.cmpi .slt arg1 c3_i32
  let v16 : BitVec 32 := Scalar.extui v15
  let c0_i32_6 : BitVec 32 := 0#32
  let v17 : BitVec 1 := Scalar.cmpi .ne v16 c0_i32_6
  v17

def k0_off1 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v21 : Index := Scalar.indexCast v9
  let c0 : Index := 0#32
  let c0_9 : Index := 0#32
  ![v21.toNat, 0, 0]
def k0_cond3 (i : grid0.Coords) : BitVec 1 :=
  let arg1 : BitVec 32 := BitVec.ofNat 32 (i 1).val
  let c3_i32_7 : BitVec 32 := 3#32
  let v18 : BitVec 1 := Scalar.cmpi .eq arg1 c3_i32_7
  let v19 : BitVec 32 := Scalar.extui v18
  let c0_i32_8 : BitVec 32 := 0#32
  let v20 : BitVec 1 := Scalar.cmpi .ne v19 c0_i32_8
  v20

def k0_off2 (i : grid0.Coords) : Fin 3 → Nat :=
  let c1_i32_16 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v27 : BitVec 32 := Scalar.subi c1_i32_16 v9
  let v49 : Index := Scalar.indexCast v27
  let c0_22 : Index := 0#32
  let c0_23 : Index := 0#32
  ![v49.toNat, 0, 0]
def k0_off3 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v53 : Index := Scalar.indexCast v9
  let c0_24 : Index := 0#32
  let c0_25 : Index := 0#32
  ![v53.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c31_i32 : BitVec 32 := 31#32
  let v1 : BitVec 32 := Scalar.minsi v0 c31_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c31_i32 : BitVec 32 := 31#32
  let v1 : BitVec 32 := Scalar.minsi v0 c31_i32
  let c8_i32 : BitVec 32 := 8#32
  let v2 : BitVec 32 := Scalar.divsi v1 c8_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c0_i32_5 : BitVec 32 := 0#32
  let c0_i32_6 : BitVec 32 := 0#32
  let c0_i32_7 : BitVec 32 := 0#32
  ![v18.toNat, c0_i32_5.toNat, c0_i32_6.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c31_i32 : BitVec 32 := 31#32
  let v1 : BitVec 32 := Scalar.minsi v0 c31_i32
  let c8_i32 : BitVec 32 := 8#32
  let v2 : BitVec 32 := Scalar.divsi v1 c8_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c0_i32_5 : BitVec 32 := 0#32
  let c0_i32_6 : BitVec 32 := 0#32
  let c0_i32_7 : BitVec 32 := 0#32
  ![v18.toNat, c0_i32_5.toNat, c0_i32_6.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2048x2944 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x2944 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference2Ideal.lean ====
abbrev S4x4096x2048 : Shape := ⟨3, ![4, 4096, 2048]⟩
abbrev S2048 : Shape := ⟨1, ![2048]⟩
abbrev S4x2048 : Shape := ⟨2, ![4, 2048]⟩
abbrev S2048x11776 : Shape := ⟨2, ![2048, 11776]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S4x1x2048 : Shape := ⟨3, ![4, 1, 2048]⟩
abbrev S4x4096x11776 : Shape := ⟨3, ![4, 4096, 11776]⟩
abbrev S16384x11776 : Shape := ⟨2, ![16384, 11776]⟩

abbrev nBuf : Space → Nat
  | .hbm => 33
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S4x2048, .f32⟩
  | .hbm, ⟨3, _⟩ => ⟨S4x2048, .f32⟩
  | .hbm, ⟨4, _⟩ => ⟨S2048x11776, .f32⟩
  | .hbm, ⟨5, _⟩ => ⟨S4x4096x2048, .f32⟩
  | .hbm, ⟨6, _⟩ => ⟨S_, .f32⟩
  | .hbm, ⟨7, _⟩ => ⟨S4x4096, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S4x4096x1, .f32⟩
  | .hbm, ⟨16, _⟩ => ⟨S4x4096x2048, .f32⟩
  | .hbm, ⟨17, _⟩ => ⟨S4x4096x2048, .f32⟩
  | .hbm, ⟨18, _⟩ => ⟨S1x1x2048, .f32⟩
  | .hbm, ⟨19, _⟩ => ⟨S4x4096x2048, .f32⟩
  | .hbm, ⟨20, _⟩ => ⟨S4x4096x2048, .f32⟩
  | .hbm, ⟨21, _⟩ => ⟨S4x1x2048, .f32⟩
  | .hbm, ⟨22, _⟩ => ⟨S_, .f32⟩
  | .hbm, ⟨23, _⟩ => ⟨S4x1x2048, .f32⟩
  | .hbm, ⟨24, _⟩ => ⟨S4x1x2048, .f32⟩
  | .hbm, ⟨25, _⟩ => ⟨S4x4096x2048, .f32⟩
  | .hbm, ⟨26, _⟩ => ⟨S4x4096x2048, .f32⟩
  | .hbm, ⟨27, _⟩ => ⟨S4x1x2048, .f32⟩
  | .hbm, ⟨28, _⟩ => ⟨S4x4096x2048, .f32⟩
  | .hbm, ⟨29, _⟩ => ⟨S4x4096x2048, .f32⟩
  | .hbm, ⟨30, _⟩ => ⟨S4x4096x11776, .f32⟩
  | .hbm, ⟨31, _⟩ => ⟨S16384x11776, .f32⟩
  | .hbm, ⟨32, _⟩ => ⟨S16384x11776, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== Kernel3.lean ====
abbrev S4x4096x1024 : Shape := ⟨3, ![4, 4096, 1024]⟩
abbrev S4x4096x2048 : Shape := ⟨3, ![4, 4096, 2048]⟩
abbrev S4x4096x11776 : Shape := ⟨3, ![4, 4096, 11776]⟩
abbrev S4x2048 : Shape := ⟨2, ![4, 2048]⟩
abbrev S2048 : Shape := ⟨1, ![2048]⟩
abbrev S1024x2048 : Shape := ⟨2, ![1024, 2048]⟩
abbrev S2048x2048 : Shape := ⟨2, ![2048, 2048]⟩
abbrev S4x1x2048 : Shape := ⟨3, ![4, 1, 2048]⟩
abbrev S1x2048 : Shape := ⟨2, ![1, 2048]⟩
abbrev S1x256x1024 : Shape := ⟨3, ![1, 256, 1024]⟩
abbrev S1x256x2048 : Shape := ⟨3, ![1, 256, 2048]⟩
abbrev S1x256x512 : Shape := ⟨3, ![1, 256, 512]⟩
abbrev S1x1x2048 : Shape := ⟨3, ![1, 1, 2048]⟩
abbrev S256x512 : Shape := ⟨2, ![256, 512]⟩
abbrev S256x2048 : Shape := ⟨2, ![256, 2048]⟩
abbrev S256x1024 : Shape := ⟨2, ![256, 1024]⟩
abbrev S256 : Shape := ⟨1, ![256]⟩
abbrev S256x1 : Shape := ⟨2, ![256, 1]⟩

abbrev nBuf : Space → Nat
  | .hbm => 20
  | .vmem => 36
  | .smem => 0
  | _ => 0

abbrev bufTy : (tb : Table) → Fin (tcTables nBuf tb) → BufTy
  | .hbm, ⟨0, _⟩ => ⟨S4x4096x1024, .bf16⟩
  | .hbm, ⟨1, _⟩ => ⟨S4x4096x2048, .bf16⟩
  | .hbm, ⟨2, _⟩ => ⟨S4x4096x11776, .bf16⟩
  | .hbm, ⟨3, _⟩ => ⟨S4x4096x2048, .f32⟩
  | .hbm, ⟨4, _⟩ => ⟨S4x2048, .f32⟩
  | .hbm, ⟨5, _⟩ => ⟨S4x2048, .f32⟩
  | .hbm, ⟨6, _⟩ => ⟨S4x2048, .f32⟩
  | .hbm, ⟨7, _⟩ => ⟨S2048, .f32⟩
  | .hbm, ⟨8, _⟩ => ⟨S1024x2048, .f32⟩
  | .hbm, ⟨9, _⟩ => ⟨S2048x2048, .f32⟩
  | .hbm, ⟨10, _⟩ => ⟨S2048x2048, .f32⟩
  | .hbm, ⟨11, _⟩ => ⟨S4x1x2048, .f32⟩
  | .hbm, ⟨12, _⟩ => ⟨S4x1x2048, .f32⟩
  | .hbm, ⟨13, _⟩ => ⟨S4x1x2048, .f32⟩
  | .hbm, ⟨14, _⟩ => ⟨S1024x2048, .bf16⟩
  | .hbm, ⟨15, _⟩ => ⟨S2048x2048, .bf16⟩
  | .hbm, ⟨16, _⟩ => ⟨S2048x2048, .bf16⟩
  | .hbm, ⟨17, _⟩ => ⟨S1x2048, .f32⟩
  | .hbm, ⟨18, _⟩ => ⟨S4x4096x2048, .f32⟩
  | .hbm, ⟨19, _⟩ => ⟨S4x4096x2048, .bf16⟩
  | .local _ .vmem, ⟨0, _⟩ => ⟨S1x256x1024, .bf16⟩
  | .local _ .vmem, ⟨1, _⟩ => ⟨S1x256x1024, .bf16⟩
  | .local _ .vmem, ⟨2, _⟩ => ⟨S1x256x2048, .bf16⟩
  | .local _ .vmem, ⟨3, _⟩ => ⟨S1x256x2048, .bf16⟩
  | .local _ .vmem, ⟨4, _⟩ => ⟨S1x256x512, .bf16⟩
  | .local _ .vmem, ⟨5, _⟩ => ⟨S1x256x512, .bf16⟩
  | .local _ .vmem, ⟨6, _⟩ => ⟨S1x256x512, .bf16⟩
  | .local _ .vmem, ⟨7, _⟩ => ⟨S1x256x512, .bf16⟩
  | .local _ .vmem, ⟨8, _⟩ => ⟨S1x256x512, .bf16⟩
  | .local _ .vmem, ⟨9, _⟩ => ⟨S1x256x512, .bf16⟩
  | .local _ .vmem, ⟨10, _⟩ => ⟨S1x256x512, .bf16⟩
  | .local _ .vmem, ⟨11, _⟩ => ⟨S1x256x512, .bf16⟩
  | .local _ .vmem, ⟨12, _⟩ => ⟨S1x256x512, .bf16⟩
  | .local _ .vmem, ⟨13, _⟩ => ⟨S1x256x512, .bf16⟩
  | .local _ .vmem, ⟨14, _⟩ => ⟨S1x256x512, .bf16⟩
  | .local _ .vmem, ⟨15, _⟩ => ⟨S1x256x512, .bf16⟩
  | .local _ .vmem, ⟨16, _⟩ => ⟨S1x256x512, .bf16⟩
  | .local _ .vmem, ⟨17, _⟩ => ⟨S1x256x512, .bf16⟩
  | .local _ .vmem, ⟨18, _⟩ => ⟨S1x256x512, .bf16⟩
  | .local _ .vmem, ⟨19, _⟩ => ⟨S1x256x512, .bf16⟩
  | .local _ .vmem, ⟨20, _⟩ => ⟨S1x256x2048, .f32⟩
  | .local _ .vmem, ⟨21, _⟩ => ⟨S1x256x2048, .f32⟩
  | .local _ .vmem, ⟨22, _⟩ => ⟨S1x1x2048, .f32⟩
  | .local _ .vmem, ⟨23, _⟩ => ⟨S1x1x2048, .f32⟩
  | .local _ .vmem, ⟨24, _⟩ => ⟨S1x1x2048, .f32⟩
  | .local _ .vmem, ⟨25, _⟩ => ⟨S1x1x2048, .f32⟩
  | .local _ .vmem, ⟨26, _⟩ => ⟨S1x1x2048, .f32⟩
  | .local _ .vmem, ⟨27, _⟩ => ⟨S1x1x2048, .f32⟩
  | .local _ .vmem, ⟨28, _⟩ => ⟨S1x2048, .f32⟩
  | .local _ .vmem, ⟨29, _⟩ => ⟨S1024x2048, .bf16⟩
  | .local _ .vmem, ⟨30, _⟩ => ⟨S2048x2048, .bf16⟩
  | .local _ .vmem, ⟨31, _⟩ => ⟨S2048x2048, .bf16⟩
  | .local _ .vmem, ⟨32, _⟩ => ⟨S1x256x2048, .f32⟩
  | .local _ .vmem, ⟨33, _⟩ => ⟨S1x256x2048, .f32⟩
  | .local _ .vmem, ⟨34, _⟩ => ⟨S1x256x2048, .bf16⟩
  | .local _ .vmem, ⟨35, _⟩ => ⟨S1x256x2048, .bf16⟩
  | _, _ => ⟨S4x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7_0 : Ref sig .tc := ⟨.hbm, 18, rfl⟩
abbrev main_v7_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg15_0 : Ref sig .tc := ⟨.vmem, 29, rfl⟩
abbrev cc0_stg16_0 : Ref sig .tc := ⟨.vmem, 30, rfl⟩
abbrev cc0_stg17_0 : Ref sig .tc := ⟨.vmem, 31, rfl⟩
abbrev cc0_stg18_0 : Ref sig .tc := ⟨.vmem, 32, rfl⟩
abbrev cc0_stg18_1 : Ref sig .tc := ⟨.vmem, 33, rfl⟩
abbrev cc0_stg19_0 : Ref sig .tc := ⟨.vmem, 34, rfl⟩
abbrev cc0_stg19_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem15_0 : DmaSem sig := 29
abbrev cc0_sem16_0 : DmaSem sig := 30
abbrev cc0_sem17_0 : DmaSem sig := 31
abbrev cc0_sem18_0 : DmaSem sig := 32
abbrev cc0_sem18_1 : DmaSem sig := 33
abbrev cc0_sem19_0 : DmaSem sig := 34
abbrev cc0_sem19_1 : DmaSem sig := 35

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c15_i32 : BitVec 32 := 15#32
  let c0_i32 : BitVec 32 := 0#32
  ![arg0.toNat, arg1.toNat, c15_i32.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let c0_i32 : BitVec 32 := 0#32
  ![arg0.toNat, arg1.toNat, c16_i32.toNat]

def cc0_transform_4 (i : grid0.Coords) : Fin 3 → Nat :=
  let arg0 : BitVec 32 := BitVec.ofNat 32 (i 0).val
  let arg1 : BitVec 32 := BitVec.ofNat 32 (i 1).val
  let c17_i32 : BitVec 32 := 17#32
  let c0_i32 : BitVec 32 := 0#32
  ![arg0.toNat, arg1.toNat, c17_i32.toNat]

def cc0_transform_5 (i : grid0.Coords) : Fin 3 → Nat :=
  let arg0 : BitVec 32 := BitVec.ofNat 32 (i 0).val
  let arg1 : BitVec 32 := BitVec.ofNat 32 (i 1).val
  let c18_i32 : BitVec 32 := 18#32
  let c0_i32 : BitVec 32 := 0#32
  ![arg0.toNat, arg1.toNat, c18_i32.toNat]

def cc0_transform_6 (i : grid0.Coords) : Fin 3 → Nat :=
  let arg0 : BitVec 32 := BitVec.ofNat 32 (i 0).val
  let arg1 : BitVec 32 := BitVec.ofNat 32 (i 1).val
  let c19_i32 : BitVec 32 := 19#32
  let c0_i32 : BitVec 32 := 0#32
  ![arg0.toNat, arg1.toNat, c19_i32.toNat]

def cc0_transform_7 (i : grid0.Coords) : Fin 3 → Nat :=
  let arg0 : BitVec 32 := BitVec.ofNat 32 (i 0).val
  let arg1 : BitVec 32 := BitVec.ofNat 32 (i 1).val
  let c20_i32 : BitVec 32 := 20#32
  let c0_i32 : BitVec 32 := 0#32
  ![arg0.toNat, arg1.toNat, c20_i32.toNat]

def cc0_transform_8 (i : grid0.Coords) : Fin 3 → Nat :=
  let arg0 : BitVec 32 := BitVec.ofNat 32 (i 0).val
  let arg1 : BitVec 32 := BitVec.ofNat 32 (i 1).val
  let c21_i32 : BitVec 32 := 21#32
  let c0_i32 : BitVec 32 := 0#32
  ![arg0.toNat, arg1.toNat, c21_i32.toNat]

def cc0_transform_9 (i : grid0.Coords) : Fin 3 → Nat :=
  let arg0 : BitVec 32 := BitVec.ofNat 32 (i 0).val
  let arg1 : BitVec 32 := BitVec.ofNat 32 (i 1).val
  let c22_i32 : BitVec 32 := 22#32
  let c0_i32 : BitVec 32 := 0#32
  ![arg0.toNat, arg1.toNat, c22_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x1x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x1x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 1 → Memref sig .tc .vmem S1x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1024x2048 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S2048x2048 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S2048x2048 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 2 → Memref sig .tc .vmem S1x256x2048 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x256x2048 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]
-- ==== Reference3Ideal.lean ====
abbrev S4x4096x1024 : Shape := ⟨3, ![4, 4096, 1024]⟩
abbrev S4x4096x2048 : Shape := ⟨3, ![4, 4096, 2048]⟩
abbrev S4x4096x11776 : Shape := ⟨3, ![4, 4096, 11776]⟩
abbrev S4x2048 : Shape := ⟨2, ![4, 2048]⟩
abbrev S2048 : Shape := ⟨1, ![2048]⟩
abbrev S1024x2048 : Shape := ⟨2, ![1024, 2048]⟩
abbrev S2048x2048 : Shape := ⟨2, ![2048, 2048]⟩
abbrev S_ : Shape := ⟨0, ![]⟩
abbrev S4x1x2048 : Shape := ⟨3, ![4, 1, 2048]⟩
abbrev S4x4096 : Shape := ⟨2, ![4, 4096]⟩
abbrev S4x4096x1 : Shape := ⟨3, ![4, 4096, 1]⟩
abbrev S1x1x2048 : Shape := ⟨3, ![1, 1, 2048]⟩

abbrev nBuf : Space → Nat
  | .hbm => 68
  | .vmem => 0
  | .smem => 0
  | _ => 0

abbrev bufTy : (tb : Table) → Fin (tcTables nBuf tb) → BufTy
  | .hbm, ⟨0, _⟩ => ⟨S4x4096x1024, .bf16⟩
  | .hbm, ⟨1, _⟩ => ⟨S4x4096x2048, .bf16⟩
  | .hbm, ⟨2, _⟩ => ⟨S4x4096x11776, .bf16⟩
  | .hbm, ⟨3, _⟩ => ⟨S4x4096x2048, .f32⟩
  | .hbm, ⟨4, _⟩ => ⟨S4x2048, .f32⟩
  | .hbm, ⟨5, _⟩ => ⟨S4x2048, .f32⟩
  | .hbm, ⟨6, _⟩ => ⟨S4x2048, .f32⟩
  | .hbm, ⟨7, _⟩ => ⟨S2048, .f32⟩
  | .hbm, ⟨8, _⟩ => ⟨S1024x2048, .f32⟩
  | .hbm, ⟨9, _⟩ => ⟨S2048x2048, .f32⟩
  | .hbm, ⟨10, _⟩ => ⟨S2048x2048, .f32⟩
  | .hbm, ⟨11, _⟩ => ⟨S4x4096x1024, .f32⟩
  | .hbm, ⟨12, _⟩ => ⟨S4x4096x2048, .f32⟩
  | .hbm, ⟨13, _⟩ => ⟨S4x4096x11776, .f32⟩
  | .hbm, ⟨14, _⟩ => ⟨S4x4096x2048, .f32⟩
  | .hbm, ⟨15, _⟩ => ⟨S4x4096x2048, .f32⟩
  | .hbm, ⟨16, _⟩ => ⟨S4x4096x2048, .f32⟩
  | .hbm, ⟨17, _⟩ => ⟨S4x4096x2048, .f32⟩
  | .hbm, ⟨18, _⟩ => ⟨S_, .f32⟩
  | .hbm, ⟨19, _⟩ => ⟨S4x4096x2048, .f32⟩
  | .hbm, ⟨20, _⟩ => ⟨S4x4096x2048, .f32⟩
  | .hbm, ⟨21, _⟩ => ⟨S_, .f32⟩
  | .hbm, ⟨22, _⟩ => ⟨S4x4096x2048, .f32⟩
  | .hbm, ⟨23, _⟩ => ⟨S4x4096x2048, .f32⟩
  | .hbm, ⟨24, _⟩ => ⟨S4x4096x2048, .f32⟩
  | .hbm, ⟨25, _⟩ => ⟨S4x4096x2048, .f32⟩
  | .hbm, ⟨26, _⟩ => ⟨S4x4096x2048, .f32⟩
  | .hbm, ⟨27, _⟩ => ⟨S4x4096x2048, .f32⟩
  | .hbm, ⟨28, _⟩ => ⟨S_, .f32⟩
  | .hbm, ⟨29, _⟩ => ⟨S4x4096x2048, .f32⟩
  | .hbm, ⟨30, _⟩ => ⟨S4x4096x2048, .f32⟩
  | .hbm, ⟨31, _⟩ => ⟨S_, .f32⟩
  | .hbm, ⟨32, _⟩ => ⟨S4x4096x2048, .f32⟩
  | .hbm, ⟨33, _⟩ => ⟨S4x4096x2048, .f32⟩
  | .hbm, ⟨34, _⟩ => ⟨S4x4096x2048, .f32⟩
  | .hbm, ⟨35, _⟩ => ⟨S4x4096x2048, .f32⟩
  | .hbm, ⟨36, _⟩ => ⟨S4x4096x2048, .f32⟩
  | .hbm, ⟨37, _⟩ => ⟨S4x1x2048, .f32⟩
  | .hbm, ⟨38, _⟩ => ⟨S4x4096x2048, .f32⟩
  | .hbm, ⟨39, _⟩ => ⟨S4x4096x2048, .f32⟩
  | .hbm, ⟨40, _⟩ => ⟨S4x4096x2048, .f32⟩
  | .hbm, ⟨41, _⟩ => ⟨S4x4096x2048, .f32⟩
  | .hbm, ⟨42, _⟩ => ⟨S4x4096x2048, .f32⟩
  | .hbm, ⟨43, _⟩ => ⟨S_, .f32⟩
  | .hbm, ⟨44, _⟩ => ⟨S4x4096, .f32⟩
  | .hbm, ⟨45, _⟩ => ⟨S4x4096x1, .f32⟩
  | .hbm, ⟨46, _⟩ => ⟨S_, .f32⟩
  | .hbm, ⟨47, _⟩ => ⟨S4x4096x1, .f32⟩
  | .hbm, ⟨48, _⟩ => ⟨S4x4096x1, .f32⟩
  | .hbm, ⟨49, _⟩ => ⟨S_, .f32⟩
  | .hbm, ⟨50, _⟩ => ⟨S4x4096x1, .f32⟩
  | .hbm, ⟨51, _⟩ => ⟨S4x4096x1, .f32⟩
  | .hbm, ⟨52, _⟩ => ⟨S4x4096x1, .f32⟩
  | .hbm, ⟨53, _⟩ => ⟨S4x4096x2048, .f32⟩
  | .hbm, ⟨54, _⟩ => ⟨S4x4096x2048, .f32⟩
  | .hbm, ⟨55, _⟩ => ⟨S1x1x2048, .f32⟩
  | .hbm, ⟨56, _⟩ => ⟨S4x4096x2048, .f32⟩
  | .hbm, ⟨57, _⟩ => ⟨S4x4096x2048, .f32⟩
  | .hbm, ⟨58, _⟩ => ⟨S4x1x2048, .f32⟩
  | .hbm, ⟨59, _⟩ => ⟨S_, .f32⟩
  | .hbm, ⟨60, _⟩ => ⟨S4x1x2048, .f32⟩
  | .hbm, ⟨61, _⟩ => ⟨S4x1x2048, .f32⟩
  | .hbm, ⟨62, _⟩ => ⟨S4x4096x2048, .f32⟩
  | .hbm, ⟨63, _⟩ => ⟨S4x4096x2048, .f32⟩
  | .hbm, ⟨64, _⟩ => ⟨S4x1x2048, .f32⟩
  | .hbm, ⟨65, _⟩ => ⟨S4x4096x2048, .f32⟩
  | .hbm, ⟨66, _⟩ => ⟨S4x4096x2048, .f32⟩
  | .hbm, ⟨67, _⟩ => ⟨S4x4096x2048, .bf16⟩
  | _, _ => ⟨S4x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_1 : Ref sig .tc := ⟨.hbm, 28, rfl⟩
abbrev main_v15 : Ref sig .tc := ⟨.hbm, 29, rfl⟩
abbrev main_v16 : Ref sig .tc := ⟨.hbm, 30, rfl⟩
abbrev main_cst_2 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_3 : Ref sig .tc := ⟨.hbm, 43, rfl⟩
abbrev main_v28 : Ref sig .tc := ⟨.hbm, 44, rfl⟩
abbrev main_v29 : Ref sig .tc := ⟨.hbm, 45, rfl⟩
abbrev main_cst_4 : Ref sig .tc := ⟨.hbm, 46, rfl⟩
abbrev main_v30 : Ref sig .tc := ⟨.hbm, 47, rfl⟩
abbrev main_v31 : Ref sig .tc := ⟨.hbm, 48, rfl⟩
abbrev main_cst_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_6 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩

abbrev nD : Nat := 1
abbrev τ : Topo := Topo.v7x

variable {F : FTy → Type} [FloatOps F]
-- ==== Kernel4.lean ====
abbrev S4x4096x2048 : Shape := ⟨3, ![4, 4096, 2048]⟩
abbrev S2048x2048 : Shape := ⟨2, ![2048, 2048]⟩
abbrev S16384x2048 : Shape := ⟨2, ![16384, 2048]⟩
abbrev S1024x2048 : Shape := ⟨2, ![1024, 2048]⟩

abbrev nBuf : Space → Nat
  | .hbm => 5
  | .vmem => 5
  | .smem => 0
  | _ => 0

abbrev bufTy : (tb : Table) → Fin (tcTables nBuf tb) → BufTy
  | .hbm, ⟨0, _⟩ => ⟨S4x4096x2048, .bf16⟩
  | .hbm, ⟨1, _⟩ => ⟨S2048x2048, .f32⟩
  | .hbm, ⟨2, _⟩ => ⟨S16384x2048, .bf16⟩
  | .hbm, ⟨3, _⟩ => ⟨S2048x2048, .bf16⟩
  | .hbm, ⟨4, _⟩ => ⟨S16384x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x2048, .bf16⟩
  | .local _ .vmem, ⟨3, _⟩ => ⟨S1024x2048, .bf16⟩
  | .local _ .vmem, ⟨4, _⟩ => ⟨S1024x2048, .bf16⟩
  | _, _ => ⟨S4x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference4Ideal.lean ====
abbrev S4x4096x2048 : Shape := ⟨3, ![4, 4096, 2048]⟩
abbrev S2048x2048 : Shape := ⟨2, ![2048, 2048]⟩
abbrev S16384x2048 : Shape := ⟨2, ![16384, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4x4096x2048, .bf16⟩
  | .hbm, ⟨1, _⟩ => ⟨S2048x2048, .f32⟩
  | .hbm, ⟨2, _⟩ => ⟨S4x4096x2048, .f32⟩
  | .hbm, ⟨3, _⟩ => ⟨S4x4096x2048, .f32⟩
  | .hbm, ⟨4, _⟩ => ⟨S16384x2048, .f32⟩
  | .hbm, ⟨5, _⟩ => ⟨S16384x2048, .bf16⟩
  | _, _ => ⟨S4x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel5.lean ====
abbrev S16384x2048 : Shape := ⟨2, ![16384, 2048]⟩
abbrev S2048x16384 : Shape := ⟨2, ![2048, 16384]⟩
abbrev S4x2048 : Shape := ⟨2, ![4, 2048]⟩
abbrev S2048 : Shape := ⟨1, ![2048]⟩
abbrev S4x1x2048 : Shape := ⟨3, ![4, 1, 2048]⟩
abbrev S1x2048 : Shape := ⟨2, ![1, 2048]⟩
abbrev S512x2048 : Shape := ⟨2, ![512, 2048]⟩
abbrev S1024x2048 : Shape := ⟨2, ![1024, 2048]⟩
abbrev S512x1024 : Shape := ⟨2, ![512, 1024]⟩
abbrev S1x1x2048 : Shape := ⟨3, ![1, 1, 2048]⟩
abbrev S2x512x1024 : Shape := ⟨3, ![2, 512, 1024]⟩
abbrev S512x512 : Shape := ⟨2, ![512, 512]⟩
abbrev S1x512x512 : Shape := ⟨3, ![1, 512, 512]⟩
abbrev S1x512x1024 : Shape := ⟨3, ![1, 512, 1024]⟩
abbrev S1024x512 : Shape := ⟨2, ![1024, 512]⟩
abbrev S512 : Shape := ⟨1, ![512]⟩
abbrev S512x1 : Shape := ⟨2, ![512, 1]⟩

abbrev nBuf : Space → Nat
  | .hbm => 12
  | .vmem => 17
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .f32⟩
  | .hbm, ⟨2, _⟩ => ⟨S16384x2048, .f32⟩
  | .hbm, ⟨3, _⟩ => ⟨S2048x16384, .bf16⟩
  | .hbm, ⟨4, _⟩ => ⟨S16384x2048, .f32⟩
  | .hbm, ⟨5, _⟩ => ⟨S4x2048, .f32⟩
  | .hbm, ⟨6, _⟩ => ⟨S2048, .f32⟩
  | .hbm, ⟨7, _⟩ => ⟨S16384x2048, .bf16⟩
  | .hbm, ⟨8, _⟩ => ⟨S16384x2048, .bf16⟩
  | .hbm, ⟨9, _⟩ => ⟨S4x1x2048, .f32⟩
  | .hbm, ⟨10, _⟩ => ⟨S1x2048, .f32⟩
  | .hbm, ⟨11, _⟩ => ⟨S16384x2048, .f32⟩
  | .local _ .vmem, ⟨0, _⟩ => ⟨S512x2048, .bf16⟩
  | .local _ .vmem, ⟨1, _⟩ => ⟨S512x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .bf16⟩
  | .local _ .vmem, ⟨5, _⟩ => ⟨S1024x2048, .bf16⟩
  | .local _ .vmem, ⟨6, _⟩ => ⟨S512x1024, .bf16⟩
  | .local _ .vmem, ⟨7, _⟩ => ⟨S512x1024, .bf16⟩
  | .local _ .vmem, ⟨8, _⟩ => ⟨S512x2048, .f32⟩
  | .local _ .vmem, ⟨9, _⟩ => ⟨S512x2048, .f32⟩
  | .local _ .vmem, ⟨10, _⟩ => ⟨S1x1x2048, .f32⟩
  | .local _ .vmem, ⟨11, _⟩ => ⟨S1x1x2048, .f32⟩
  | .local _ .vmem, ⟨12, _⟩ => ⟨S1x2048, .f32⟩
  | .local _ .vmem, ⟨13, _⟩ => ⟨S512x2048, .f32⟩
  | .local _ .vmem, ⟨14, _⟩ => ⟨S512x2048, .f32⟩
  | .local _ .vmem, ⟨15, _⟩ => ⟨S512x2048, .f32⟩
  | .local _ .vmem, ⟨16, _⟩ => ⟨S2x512x1024, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![4, 17], ![false, false]⟩

def k0_cond4 (i : grid0.Coords) : BitVec 1 :=
  let arg1 : BitVec 32 := BitVec.ofNat 32 (i 1).val
  let c16_i32_18 : BitVec 32 := 16#32
  let v37 : BitVec 1 := Scalar.cmpi .eq arg1 c16_i32_18
  let v38 : BitVec 32 := Scalar.extui v37
  let c0_i32_19 : BitVec 32 := 0#32
  let v39 : BitVec 1 := Scalar.cmpi .ne v38 c0_i32_19
  v39

def cc0_transform_0 (i : grid0.Coords) : Fin 2 → Nat :=
  let arg0 : BitVec 32 := BitVec.ofNat 32 (i 0).val
  let arg1 : BitVec 32 := BitVec.ofNat 32 (i 1).val
  let c28_i32 : BitVec 32 := 28#32
  let v0 : BitVec 32 := Scalar.addi c28_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg1 c15_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  ![arg0.toNat, v1.toNat]

def cc0_transform_4 (i : grid0.Coords) : Fin 2 → Nat :=
  let arg0 : BitVec 32 := BitVec.ofNat 32 (i 0).val
  let arg1 : BitVec 32 := BitVec.ofNat 32 (i 1).val
  let c28_i32 : BitVec 32 := 28#32
  let v0 : BitVec 32 := Scalar.addi c28_i32 arg0
  let c0_i32 : BitVec 32 := 0#32
  let c0_i32_0 : BitVec 32 := 0#32
  ![v0.toNat, c0_i32.toNat]

def cc0_transform_5 (i : grid0.Coords) : Fin 3 → Nat :=
  let arg0 : BitVec 32 := BitVec.ofNat 32 (i 0).val
  let arg1 : BitVec 32 := BitVec.ofNat 32 (i 1).val
  let c28_i32 : BitVec 32 := 28#32
  let v0 : BitVec 32 := Scalar.addi c28_i32 arg0
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c28_i32 : BitVec 32 := 28#32
  let v0 : BitVec 32 := Scalar.addi c28_i32 arg0
  let c0_i32 : BitVec 32 := 0#32
  let c0_i32_0 : BitVec 32 := 0#32
  ![v0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference5Ideal.lean ====
abbrev S16384x2048 : Shape := ⟨2, ![16384, 2048]⟩
abbrev S2048x16384 : Shape := ⟨2, ![2048, 16384]⟩
abbrev S4x2048 : Shape := ⟨2, ![4, 2048]⟩
abbrev S2048 : Shape := ⟨1, ![2048]⟩
abbrev S2048x2048 : Shape := ⟨2, ![2048, 2048]⟩
abbrev S_ : Shape := ⟨0, ![]⟩
abbrev S14336x2048 : Shape := ⟨2, ![14336, 2048]⟩
abbrev S1x2048 : Shape := ⟨2, ![1, 2048]⟩
abbrev S2048x1 : Shape := ⟨2, ![2048, 1]⟩

abbrev nBuf : Space → Nat
  | .hbm => 56
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .f32⟩
  | .hbm, ⟨2, _⟩ => ⟨S16384x2048, .f32⟩
  | .hbm, ⟨3, _⟩ => ⟨S2048x16384, .bf16⟩
  | .hbm, ⟨4, _⟩ => ⟨S16384x2048, .f32⟩
  | .hbm, ⟨5, _⟩ => ⟨S4x2048, .f32⟩
  | .hbm, ⟨6, _⟩ => ⟨S2048, .f32⟩
  | .hbm, ⟨7, _⟩ => ⟨S16384x2048, .f32⟩
  | .hbm, ⟨8, _⟩ => ⟨S2048x2048, .f32⟩
  | .hbm, ⟨9, _⟩ => ⟨S2048x16384, .f32⟩
  | .hbm, ⟨10, _⟩ => ⟨S2048x16384, .f32⟩
  | .hbm, ⟨11, _⟩ => ⟨S2048x16384, .f32⟩
  | .hbm, ⟨12, _⟩ => ⟨S2048x16384, .f32⟩
  | .hbm, ⟨13, _⟩ => ⟨S_, .f32⟩
  | .hbm, ⟨14, _⟩ => ⟨S2048x16384, .f32⟩
  | .hbm, ⟨15, _⟩ => ⟨S2048x16384, .f32⟩
  | .hbm, ⟨16, _⟩ => ⟨S2048x16384, .f32⟩
  | .hbm, ⟨17, _⟩ => ⟨S_, .f32⟩
  | .hbm, ⟨18, _⟩ => ⟨S2048x16384, .f32⟩
  | .hbm, ⟨19, _⟩ => ⟨S2048x16384, .f32⟩
  | .hbm, ⟨20, _⟩ => ⟨S2048x16384, .f32⟩
  | .hbm, ⟨21, _⟩ => ⟨S_, .f32⟩
  | .hbm, ⟨22, _⟩ => ⟨S2048x16384, .f32⟩
  | .hbm, ⟨23, _⟩ => ⟨S2048x16384, .f32⟩
  | .hbm, ⟨24, _⟩ => ⟨S_, .f32⟩
  | .hbm, ⟨25, _⟩ => ⟨S2048x16384, .f32⟩
  | .hbm, ⟨26, _⟩ => ⟨S2048x16384, .f32⟩
  | .hbm, ⟨27, _⟩ => ⟨S2048x16384, .f32⟩
  | .hbm, ⟨28, _⟩ => ⟨S2048x16384, .f32⟩
  | .hbm, ⟨29, _⟩ => ⟨S2048x16384, .f32⟩
  | .hbm, ⟨30, _⟩ => ⟨S2048x2048, .f32⟩
  | .hbm, ⟨31, _⟩ => ⟨S14336x2048, .f32⟩
  | .hbm, ⟨32, _⟩ => ⟨S2048x2048, .f32⟩
  | .hbm, ⟨33, _⟩ => ⟨S1x2048, .f32⟩
  | .hbm, ⟨34, _⟩ => ⟨S2048, .f32⟩
  | .hbm, ⟨35, _⟩ => ⟨S1x2048, .f32⟩
  | .hbm, ⟨36, _⟩ => ⟨S2048x2048, .f32⟩
  | .hbm, ⟨37, _⟩ => ⟨S2048x2048, .f32⟩
  | .hbm, ⟨38, _⟩ => ⟨S2048x2048, .f32⟩
  | .hbm, ⟨39, _⟩ => ⟨S2048x2048, .f32⟩
  | .hbm, ⟨40, _⟩ => ⟨S_, .f32⟩
  | .hbm, ⟨41, _⟩ => ⟨S2048, .f32⟩
  | .hbm, ⟨42, _⟩ => ⟨S2048x1, .f32⟩
  | .hbm, ⟨43, _⟩ => ⟨S_, .f32⟩
  | .hbm, ⟨44, _⟩ => ⟨S2048x1, .f32⟩
  | .hbm, ⟨45, _⟩ => ⟨S2048x1, .f32⟩
  | .hbm, ⟨46, _⟩ => ⟨S_, .f32⟩
  | .hbm, ⟨47, _⟩ => ⟨S2048x1, .f32⟩
  | .hbm, ⟨48, _⟩ => ⟨S2048x1, .f32⟩
  | .hbm, ⟨49, _⟩ => ⟨S2048x1, .f32⟩
  | .hbm, ⟨50, _⟩ => ⟨S2048x2048, .f32⟩
  | .hbm, ⟨51, _⟩ => ⟨S2048x2048, .f32⟩
  | .hbm, ⟨52, _⟩ => ⟨S1x2048, .f32⟩
  | .hbm, ⟨53, _⟩ => ⟨S2048x2048, .f32⟩
  | .hbm, ⟨54, _⟩ => ⟨S2048x2048, .f32⟩
  | .hbm, ⟨55, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_v32 : Ref sig .tc := ⟨.hbm, 45, rfl⟩
abbrev main_cst_5 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== Kernel6.lean ====
abbrev S8x2048 : Shape := ⟨2, ![8, 2048]⟩
abbrev S2048x12288 : Shape := ⟨2, ![2048, 12288]⟩
abbrev S12288 : Shape := ⟨1, ![12288]⟩
abbrev S1x12288 : Shape := ⟨2, ![1, 12288]⟩
abbrev S8x12288 : Shape := ⟨2, ![8, 12288]⟩
abbrev S2048x1536 : Shape := ⟨2, ![2048, 1536]⟩
abbrev S1x1536 : Shape := ⟨2, ![1, 1536]⟩
abbrev S8x1536 : Shape := ⟨2, ![8, 1536]⟩

abbrev nBuf : Space → Nat
  | .hbm => 5
  | .vmem => 7
  | .smem => 0
  | _ => 0

abbrev bufTy : (tb : Table) → Fin (tcTables nBuf tb) → BufTy
  | .hbm, ⟨0, _⟩ => ⟨S8x2048, .f32⟩
  | .hbm, ⟨1, _⟩ => ⟨S2048x12288, .f32⟩
  | .hbm, ⟨2, _⟩ => ⟨S12288, .f32⟩
  | .hbm, ⟨3, _⟩ => ⟨S1x12288, .f32⟩
  | .hbm, ⟨4, _⟩ => ⟨S8x12288, .f32⟩
  | .local _ .vmem, ⟨0, _⟩ => ⟨S8x2048, .f32⟩
  | .local _ .vmem, ⟨1, _⟩ => ⟨S2048x1536, .f32⟩
  | .local _ .vmem, ⟨2, _⟩ => ⟨S2048x1536, .f32⟩
  | .local _ .vmem, ⟨3, _⟩ => ⟨S1x1536, .f32⟩
  | .local _ .vmem, ⟨4, _⟩ => ⟨S1x1536, .f32⟩
  | .local _ .vmem, ⟨5, _⟩ => ⟨S8x1536, .f32⟩
  | .local _ .vmem, ⟨6, _⟩ => ⟨S8x1536, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference6Ideal.lean ====
abbrev S8x2048 : Shape := ⟨2, ![8, 2048]⟩
abbrev S2048x12288 : Shape := ⟨2, ![2048, 12288]⟩
abbrev S12288 : Shape := ⟨1, ![12288]⟩
abbrev S_ : Shape := ⟨0, ![]⟩
abbrev S8x12288 : Shape := ⟨2, ![8, 12288]⟩
abbrev S1x12288 : Shape := ⟨2, ![1, 12288]⟩

abbrev nBuf : Space → Nat
  | .hbm => 16
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S2048x12288, .f32⟩
  | .hbm, ⟨2, _⟩ => ⟨S12288, .f32⟩
  | .hbm, ⟨3, _⟩ => ⟨S8x2048, .f32⟩
  | .hbm, ⟨4, _⟩ => ⟨S8x2048, .f32⟩
  | .hbm, ⟨5, _⟩ => ⟨S_, .f32⟩
  | .hbm, ⟨6, _⟩ => ⟨S8x2048, .f32⟩
  | .hbm, ⟨7, _⟩ => ⟨S8x2048, .f32⟩
  | .hbm, ⟨8, _⟩ => ⟨S_, .f32⟩
  | .hbm, ⟨9, _⟩ => ⟨S8x2048, .f32⟩
  | .hbm, ⟨10, _⟩ => ⟨S8x2048, .f32⟩
  | .hbm, ⟨11, _⟩ => ⟨S8x2048, .f32⟩
  | .hbm, ⟨12, _⟩ => ⟨S8x12288, .f32⟩
  | .hbm, ⟨13, _⟩ => ⟨S1x12288, .f32⟩
  | .hbm, ⟨14, _⟩ => ⟨S8x12288, .f32⟩
  | .hbm, ⟨15, _⟩ => ⟨S8x12288, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Proof.Softmax.lean ====
module

public import Idealize.ShloMosaic.PureOps.Ideal
public import Idealize.ShloMosaic.Lib.Pointwise

@[expose] public section

noncomputable section

namespace Cert.Attn

open Idealize.ShloMosaic

/-! # The real analysis behind the attention: finiteness, the norm, the rotation, and the softmax -/

/-- An extended real that is a real number. -/
def IsR (x : EReal) : Prop := ∃ r : ℝ, x = (r : EReal)

theorem IsR.coe (r : ℝ) : IsR (r : EReal) := ⟨r, rfl⟩
theorem IsR.zero : IsR 0 := ⟨0, by simp⟩
theorem IsR.add {x y : EReal} (hx : IsR x) (hy : IsR y) : IsR (x + y) := by
  obtain ⟨a, rfl⟩ := hx; obtain ⟨b, rfl⟩ := hy; exact ⟨a + b, (EReal.coe_add a b).symm⟩
theorem IsR.mul {x y : EReal} (hx : IsR x) (hy : IsR y) : IsR (x * y) := by
  obtain ⟨a, rfl⟩ := hx; obtain ⟨b, rfl⟩ := hy; exact ⟨a * b, (EReal.coe_mul a b).symm⟩
theorem IsR.neg {x : EReal} (hx : IsR x) : IsR (-x) := by
  obtain ⟨a, rfl⟩ := hx; exact ⟨-a, (EReal.coe_neg a).symm⟩
theorem IsR.of_abs_lt {x : EReal} (h : max x (-x) < ⊤) : IsR x := by
  induction x using EReal.rec with
  | bot => simp at h
  | coe r => exact ⟨r, rfl⟩
  | top => simp at h
theorem IsR.of_nonneg_of_ne_top {x : EReal} (h0 : 0 ≤ x) (h : x ≠ ⊤) : IsR x := by
  induction x using EReal.rec with
  | bot => simp at h0
  | coe r => exact ⟨r, rfl⟩
  | top => exact absurd rfl h

/-- The product of an extended real with itself is not negative. -/
theorem mul_self_nonneg_e (x : EReal) : 0 ≤ x * x := by
  induction x using EReal.rec with
  | bot => simp
  | coe r => rw [← EReal.coe_mul]; exact_mod_cast mul_self_nonneg r
  | top => simp

/-- An extended real whose square is not `⊤` is a real number. -/
theorem IsR.of_mul_self {x : EReal} (h : x * x ≠ ⊤) : IsR x := by
  induction x using EReal.rec with
  | bot => simp at h
  | coe r => exact ⟨r, rfl⟩
  | top => simp at h

/-! ## The root-mean-square norm -/

/-- The root-mean-square norm of the row `x`, scaled by `w`, at position `d`: `x d · rsqrt (Σ x² / 128 + ε) · w d`. -/
def rmsE (x w : Fin 128 → EReal) (d : Fin 128) : EReal :=
  x d * Ideal.rsqrt (Ideal.div (∑ k, x k * x k) (Ideal.ofBits .f32 0x43000000#32) + Ideal.ofBits .f32 0x358637BD#32) * w d

theorem ofBits_128 : Ideal.ofBits .f32 0x43000000#32 = ((128 : ℝ) : EReal) := by
  simp [Ideal.ofBits, Ideal.ieee, -EReal.coe_mul]; norm_num

theorem ofBits_eps : ∃ e : ℝ, 0 < e ∧ Ideal.ofBits .f32 0x358637BD#32 = (e : EReal) := by
  refine ⟨_, ?_, by simp [Ideal.ofBits, Ideal.ieee, -EReal.coe_mul]; rfl⟩
  positivity

/-- The normed row is real wherever the weight is: an infinite entry makes the mean `⊤`, whose inverse root is `0`. -/
theorem rmsE_isR (x w : Fin 128 → EReal) (d : Fin 128) (hw : IsR (w d)) : IsR (rmsE x w d) := by
  unfold rmsE
  refine IsR.mul ?_ hw
  obtain ⟨e, he, hE⟩ := ofBits_eps
  rw [hE, ofBits_128]
  have hdiv : ∀ y : EReal, Ideal.div y ((128 : ℝ) : EReal) = y * (((128 : ℝ)⁻¹ : ℝ) : EReal) := by
    intro y; unfold Ideal.div
    rw [if_neg (by exact_mod_cast (by norm_num : (128 : ℝ) ≠ 0)), ← EReal.coe_inv]
  rw [hdiv]
  have hS0 : 0 ≤ ∑ k, x k * x k := Finset.sum_nonneg fun k _ => mul_self_nonneg_e (x k)
  by_cases hS : (∑ k, x k * x k) = ⊤
  · rw [hS, EReal.top_mul_coe_of_pos (by norm_num), EReal.top_add_coe]
    show IsR (x d * 0)
    rw [mul_zero]; exact IsR.zero
  · have hx : IsR (x d) := by
      refine IsR.of_mul_self fun h => hS ?_
      have : x d * x d ≤ ∑ k, x k * x k :=
        Finset.single_le_sum (f := fun k => x k * x k) (fun k _ => mul_self_nonneg_e (x k)) (Finset.mem_univ d)
      rw [h] at this; exact top_le_iff.mp this
    obtain ⟨s, hs⟩ := IsR.of_nonneg_of_ne_top hS0 hS
    rw [hs] at hS0 ⊢
    have hs0 : 0 ≤ s := by exact_mod_cast hS0
    rw [← EReal.coe_mul, ← EReal.coe_add]
    refine hx.mul ?_
    have hp : 0 < s * (128 : ℝ)⁻¹ + e := by positivity
    show IsR (if s * (128 : ℝ)⁻¹ + e < 0 then ⊥ else if s * (128 : ℝ)⁻¹ + e = 0 then ⊤ else (((Real.sqrt (s * (128 : ℝ)⁻¹ + e))⁻¹ : ℝ) : EReal))
    rw [if_neg hp.le.not_gt, if_neg hp.ne']
    exact IsR.coe _

/-! ## Sums of reals, scaled sums -/

theorem coe_sum {ι : Type*} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

theorem IsR.sum {ι : Type*} (s : Finset ι) (f : ι → EReal) (h : ∀ i, IsR (f i)) : IsR (∑ i ∈ s, f i) := by
  choose g hg using h
  simp only [hg]; rw [coe_sum]; exact IsR.coe _

/-- A real factor that is not negative distributes over a sum of extended reals. -/
theorem sum_mul_coe {ι : Type*} (s : Finset ι) (f : ι → EReal) (c : ℝ) (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih]
    exact EReal.right_distrib_of_nonneg_of_ne_top (by exact_mod_cast hc) (EReal.coe_ne_top c) _ _

/-! ## The softmax, in two spellings -/

theorem exp2_scaled (x : ℝ) : Ideal.exp2 (((Real.log 2)⁻¹ * x : ℝ) : EReal) = (Real.exp x : EReal) := by
  show ((Real.rpow 2 ((Real.log 2)⁻¹ * x) : ℝ) : EReal) = _
  congr 1
  show (2 : ℝ) ^ ((Real.log 2)⁻¹ * x) = _
  rw [Real.rpow_def_of_pos (by norm_num), ← mul_assoc, mul_inv_cancel₀ (Real.log_pos (by norm_num)).ne', one_mul]

theorem ofBits_ninf : Ideal.ofBits .f32 0xFF800000#32 = (⊥ : EReal) := by
  simp [Ideal.ofBits, Ideal.ieee]

theorem fold_max_bot {n : Type} (S : Finset n) (f : n → EReal) : S.fold max ⊥ f = S.sup f := rfl

/-- The weighted mean with weights `2 ^ (c s - max c s)`, `c = 1 / log 2`, divided by its total at the end, is the weighted
    mean whose weights `exp (s - max s)` are divided first, whatever extended reals are averaged. -/
theorem softmax_two_ways {n : Type} [Fintype n] [Nonempty n] (s : n → ℝ) (V : n → EReal) (u : n → EReal) (u' : n → EReal)
    (hu : ∀ j, u j = (((Real.log 2)⁻¹ * s j : ℝ) : EReal)) (hu' : ∀ j, u' j = (s j : EReal)) :
    (∑ j, Ideal.exp2 (u j - Finset.univ.fold max (Ideal.ofBits .f32 0xFF800000#32) u) * V j)
        * Ideal.div 1 (∑ j, Ideal.exp2 (u j - Finset.univ.fold max (Ideal.ofBits .f32 0xFF800000#32) u) * 1)
      = ∑ j, V j * Ideal.div (Ideal.exp (u' j - Finset.univ.fold max (Ideal.ofBits .f32 0xFF800000#32) u'))
          (∑ j, Ideal.exp (u' j - Finset.univ.fold max (Ideal.ofBits .f32 0xFF800000#32) u')) := by
  have hc : 0 < (Real.log 2)⁻¹ := inv_pos.mpr (Real.log_pos (by norm_num))
  obtain ⟨i, -, hi⟩ := Finset.exists_max_image Finset.univ s Finset.univ_nonempty
  have e' : Finset.univ.fold max (Ideal.ofBits .f32 0xFF800000#32) u' = (s i : EReal) := by
    rw [ofBits_ninf, fold_max_bot]
    refine le_antisymm (Finset.sup_le fun j _ => ?_) ?_
    · rw [hu']; exact_mod_cast hi j (Finset.mem_univ j)
    · rw [← hu' i]; exact Finset.le_sup (f := u') (Finset.mem_univ i)
  have e : Finset.univ.fold max (Ideal.ofBits .f32 0xFF800000#32) u = (((Real.log 2)⁻¹ * s i : ℝ) : EReal) := by
    rw [ofBits_ninf, fold_max_bot]
    refine le_antisymm (Finset.sup_le fun j _ => ?_) ?_
    · rw [hu]; exact_mod_cast mul_le_mul_of_nonneg_left (hi j (Finset.mem_univ j)) hc.le
    · rw [← hu i]; exact Finset.le_sup (f := u) (Finset.mem_univ i)
  have p : ∀ j, Ideal.exp2 (u j - Finset.univ.fold max (Ideal.ofBits .f32 0xFF800000#32) u) = (Real.exp (s j - s i) : EReal) := by
    intro j
    rw [e, hu, ← EReal.coe_sub, ← mul_sub, exp2_scaled]
  have p' : ∀ j, Ideal.exp (u' j - Finset.univ.fold max (Ideal.ofBits .f32 0xFF800000#32) u') = (Real.exp (s j - s i) : EReal) := by
    intro j
    rw [e', hu', ← EReal.coe_sub]; rfl
  simp only [p, p', mul_one, coe_sum]
  have hL : 0 < ∑ j, Real.exp (s j - s i) := Finset.sum_pos (fun j _ => Real.exp_pos _) Finset.univ_nonempty
  have hL0 : ((∑ j, Real.exp (s j - s i) : ℝ) : EReal) ≠ 0 := by exact_mod_cast hL.ne'
  unfold Ideal.div
  simp only [if_neg hL0, ← EReal.coe_inv, one_mul]
  rw [sum_mul_coe _ _ _ (inv_nonneg.mpr hL.le)]
  refine Finset.sum_congr rfl fun j _ => ?_
  rw [mul_comm (V j), mul_right_comm]

/-! ## The scores -/

/-- The kernel's scores from real rotated queries: the scale `κ` sits in the rotation's tables. -/
theorem score_scaled (κ : ℝ) (q a b c d K : Fin 128 → EReal) (hab : ∀ i, q i = a i * (b i * (κ : EReal)) + c i * (d i * (κ : EReal)))
    (ha : ∀ i, IsR (a i)) (hb : ∀ i, IsR (b i)) (hc : ∀ i, IsR (c i)) (hd : ∀ i, IsR (d i)) (hK : ∀ i, IsR (K i)) :
    ∃ s : ℝ, (∑ i, (a i * b i + c i * d i) * K i) = (s : EReal) ∧ (∑ i, q i * K i) = ((κ * s : ℝ) : EReal) := by
  choose a' ha using ha; choose b' hb using hb; choose c' hc using hc; choose d' hd using hd; choose K' hK using hK
  refine ⟨∑ i, (a' i * b' i + c' i * d' i) * K' i, ?_, ?_⟩
  · rw [← coe_sum]
    refine Finset.sum_congr rfl fun i _ => ?_
    rw [ha, hb, hc, hd, hK]; push_cast; rfl
  · rw [Finset.mul_sum, ← coe_sum]
    refine Finset.sum_congr rfl fun i _ => ?_
    rw [hab, ha, hb, hc, hd, hK]
    simp only [← EReal.coe_mul, ← EReal.coe_add]
    congr 1; ring

end Cert.Attn

end
-- ==== Proof.Unit.lean ====
module

public import proofs.«01_k».proof.Proof.Softmax
public import proofs.«01_k».proof.Proof.Gen.KernelIdeal.Skeleton
public import Idealize.ShloMosaic.Lib.Pointwise

/-! One unit of the kernel (256 query rows of one head) as one function of what it loads, and its value at an
index: a softmax attention row, in the vocabulary of `Softmax.lean`. -/

@[expose] public section

set_option maxRecDepth 16384

noncomputable section

namespace Cert.Attn

open Idealize.ShloMosaic Cert.KernelIdeal Cert.KernelIdeal.Gen

/-- The factor of the query tables, as the idealized program names it. -/
abbrev scaleNamed : Ideal .f32 := Named.named (F := Ideal) κ "scale_log2e" 0x3E0293EE#32

/-- The other half of a head's coordinate. -/
def swp (d : Fin 128) : Fin 128 := ⟨(d.val + 64) % 128, Nat.mod_lt _ (by decide)⟩

/-- A head's vector, normed, then turned by the tables `c` and `s`. -/
def ropeE (x w c s : Fin 128 → EReal) (d : Fin 128) : EReal := rmsE x w d * c d + rmsE x w (swp d) * s d

/-- One entry of one row of attention: the scores of the vector `q` against the keys `K`, the powers of two of the
    scores less their maximum, summed against `V`, times one over the same sum against `O`. -/
def attE {n : Type} [Fintype n] (q : Fin 128 → EReal) (K : n → Fin 128 → EReal) (V O : n → EReal) : EReal :=
  (∑ j, Ideal.exp2 ((∑ d, q d * K j d)
      - Finset.univ.fold max (Ideal.ofBits .f32 0xFF800000#32) fun j => ∑ d, q d * K j d) * V j)
    * Ideal.div 1 (∑ j, Ideal.exp2 ((∑ d, q d * K j d)
      - Finset.univ.fold max (Ideal.ofBits .f32 0xFF800000#32) fun j => ∑ d, q d * K j d) * O j)

/-- 256 rows of a head, each normed over its 128 coordinates and multiplied by the weights. -/
def normQ (w : FVec Ideal S1x128 .f32) (x : FVec Ideal S1x256x128 .bf16) : FVec Ideal S256x128 .f32 :=
  let y : FVec Ideal S256x128 .f32 := extf .f32 (shapeCast S256x128 x shapeCasts_S1x256x128_S256x128) bitsLt_bf16_f32
  mulf
    (mulf y (broadcastTo S256x128
      (rsqrt (addf
        (divf (shapeCast S256x1 (multiReduction .add [1] S256 (mulf y y) 0x00000000#32 reduces_S256x128_S256 (.inl rfl) rfl)
            shapeCasts_S256_S256x1)
          (broadcast S256x1 (Scalar.ofBits (F := Ideal) .f32 0x43000000#32)))
        (broadcast S256x1 (Scalar.ofBits (F := Ideal) .f32 0x358637BD#32))))
      broadcasts_S256x1_S256x128))
    (broadcastTo S256x128 (shapeCast S1x128 w shapeCasts_S1x128_S1x128) broadcasts_S1x128_S256x128)

theorem normQ_apply (w : FVec Ideal S1x128 .f32) (x : FVec Ideal S1x256x128 .bf16) (r : Fin 256) (d : Fin 128) :
    normQ w x (ix2 r d) = rmsE (fun d => x (ix3 0 r d)) (fun d => w (ix2 0 d)) d := by
  unfold normQ rmsE
  pointwise

/-- The queries of a unit: normed, turned, times the scale. -/
def turnQ (w : FVec Ideal S1x128 .f32) (x : FVec Ideal S1x256x128 .bf16) (c s : FVec Ideal S256x128 .f32) :
    FVec Ideal S256x128 .bf16 :=
  truncf .bf16
    (addf
      (mulf (normQ w x) (mulf (shapeCast S256x128 c shapeCasts_S256x128_S256x128) (broadcast S256x128 scaleNamed)))
      (mulf (dynamicRotate 1 64#32 none (normQ w x) rotates_S256x128_d1)
        (mulf (shapeCast S256x128 s shapeCasts_S256x128_S256x128) (broadcast S256x128 scaleNamed))))
    bitsLt_bf16_f32

theorem turnQ_apply (w : FVec Ideal S1x128 .f32) (x : FVec Ideal S1x256x128 .bf16) (c s : FVec Ideal S256x128 .f32)
    (r : Fin 256) (d : Fin 128) :
    turnQ w x c s (ix2 r d)
      = ropeE (fun d => x (ix3 0 r d)) (fun d => w (ix2 0 d)) (fun d => c (ix2 r d) * scaleNamed)
          (fun d => s (ix2 r d) * scaleNamed) d := by
  unfold turnQ ropeE
  pointwise
  rw [← normQ_apply, ← normQ_apply]
  rfl

/-- A unit's scores. -/
def scoreQ (w : FVec Ideal S1x128 .f32) (x : FVec Ideal S1x256x128 .bf16) (c s : FVec Ideal S256x128 .f32)
    (k : FVec Ideal S1x4352x128 .bf16) : FVec Ideal S256x4352 .f32 :=
  matmul dot_S256x128_S4352x128_S256x4352_1_1_0_0_n_n none (turnQ w x c s)
    (shapeCast S4352x128 k shapeCasts_S1x4352x128_S4352x128) (constant S256x4352 .f32 0x00000000#32)

theorem scoreQ_apply (w : FVec Ideal S1x128 .f32) (x : FVec Ideal S1x256x128 .bf16) (c s : FVec Ideal S256x128 .f32)
    (k : FVec Ideal S1x4352x128 .bf16) (r : Fin 256) (j : Fin 4352) :
    scoreQ w x c s k (ix2 r j) = ∑ d : Fin 128, turnQ w x c s (ix2 r d) * k (ix3 0 j d) := by
  unfold scoreQ
  pointwise

/-- The exponentials of a unit's scores. -/
def expQ (t : FVec Ideal S256x4352 .f32) : FVec Ideal S256x4352 .bf16 :=
  exp2 (truncf .bf16
    (subf t (broadcastTo S256x4352
      (shapeCast S256x1 (multiReduction .maximumf [1] S256 t 0xFF800000#32 reduces_S256x4352_S256 (.inl rfl) rfl)
        shapeCasts_S256_S256x1) broadcasts_S256x1_S256x4352)) bitsLt_bf16_f32)

theorem expQ_apply (t : FVec Ideal S256x4352 .f32) (r : Fin 256) (j : Fin 4352) :
    expQ t (ix2 r j) = Ideal.exp2 (t (ix2 r j)
      - Finset.univ.fold max (Ideal.ofBits .f32 0xFF800000#32) fun j : Fin 4352 => t (ix2 r j)) := by
  unfold expQ
  pointwise
  rfl

/-- A unit's sums against the values and the columns of ones beside them, and their quotient. -/
def quotQ (e : FVec Ideal S256x4352 .bf16) (v : FVec Ideal S1x4352x256 .bf16) : FVec Ideal S1x256x128 .bf16 :=
  let o : FVec Ideal S256x256 .f32 := matmul dot_S256x4352_S4352x256_S256x256_1_0_0_1_n_n none e
    (shapeCast S4352x256 v shapeCasts_S1x4352x256_S4352x256) (constant S256x256 .f32 0x00000000#32)
  shapeCast S1x256x128
    (truncf .bf16
      (mulf (extractStridedSlice S256x128 ![0, 0] o slices_S256x256_o0_0_S256x128)
        (broadcastTo S256x128
          (divf (broadcast S256x1 (Scalar.ofBits (F := Ideal) .f32 0x3F800000#32))
            (extractStridedSlice S256x1 ![0, 128] o slices_S256x256_o0_128_S256x1)) broadcasts_S256x1_S256x128))
      bitsLt_bf16_f32)
    shapeCasts_S256x128_S1x256x128

theorem quotQ_apply (e : FVec Ideal S256x4352 .bf16) (v : FVec Ideal S1x4352x256 .bf16) (r : Fin 256) (d : Fin 128) :
    quotQ e v (ix3 0 r d)
      = (∑ j : Fin 4352, e (ix2 r j) * v (ix3 0 j ⟨d, by omega⟩))
        * Ideal.div 1 (∑ j : Fin 4352, e (ix2 r j) * v (ix3 0 j 128)) := by
  unfold quotQ
  pointwise

/-- One unit of the kernel: 256 rows of one head. -/
def unitQ (w : FVec Ideal S1x128 .f32) (x : FVec Ideal S1x256x128 .bf16) (c s : FVec Ideal S256x128 .f32)
    (k : FVec Ideal S1x4352x128 .bf16) (v : FVec Ideal S1x4352x256 .bf16) : FVec Ideal S1x256x128 .bf16 :=
  quotQ (expQ (scoreQ w x c s k)) v

/-- A unit's entry is a row of attention. -/
theorem unitQ_apply (w : FVec Ideal S1x128 .f32) (x : FVec Ideal S1x256x128 .bf16) (c s : FVec Ideal S256x128 .f32)
    (k : FVec Ideal S1x4352x128 .bf16) (v : FVec Ideal S1x4352x256 .bf16) (r : Fin 256) (d : Fin 128) :
    unitQ w x c s k v (ix3 0 r d)
      = attE (n := Fin 4352)
          (ropeE (fun d => x (ix3 0 r d)) (fun d => w (ix2 0 d)) (fun d => c (ix2 r d) * scaleNamed)
            (fun d => s (ix2 r d) * scaleNamed))
          (fun j d => k (ix3 0 j d)) (fun j => v (ix3 0 j ⟨d, by omega⟩)) (fun j => v (ix3 0 j 128)) := by
  unfold unitQ attE
  simp only [quotQ_apply, expQ_apply, scoreQ_apply, turnQ_apply]

end Cert.Attn

end
-- ==== Proof.Block.lean ====
module

public import proofs.«01_k».proof.Proof.Unit
public import proofs.«01_k».proof.Proof.Gen.KernelIdeal.Launch
public import Idealize.ShloMosaic.Lib.WholeRead
public import Idealize.ShloMosaic.Lib.Pipeline.Value

/-! What a grid point stores in its output block. -/

@[expose] public section

set_option maxRecDepth 16384

noncomputable section

namespace Cert.Attn

open Idealize.ShloMosaic Cert.KernelIdeal Cert.KernelIdeal.Gen

/-- The output block of a grid point, from its block of queries `x0`, its rows of the tables `x5`, `x6`, the weights
    `x9`, and the two scratch buffers: keys `k`, values beside ones `v`. Head `g` reads the keys of head `g / 4`. -/
def blockOut (x0 : FVec Ideal S1x512x1024 .bf16) (x5 x6 : FVec Ideal S512x128 .f32) (x9 : FVec Ideal S1x128 .f32)
    (k : FVec Ideal S2x4352x128 .bf16) (v : FVec Ideal S2x4352x256 .bf16) (r : Fin 512) (g : Fin 8) (d : Fin 128) : EReal :=
  attE (n := Fin 4352)
    (ropeE (fun d => x0 (ix3 0 r ⟨128 * g.val + d.val, by omega⟩)) (fun d => x9 (ix2 0 d))
      (fun d => x5 (ix2 r d) * scaleNamed) (fun d => x6 (ix2 r d) * scaleNamed))
    (fun j d => k (ix3 ⟨g.val / 4, by omega⟩ j d)) (fun j => v (ix3 ⟨g.val / 4, by omega⟩ j ⟨d, by omega⟩))
    (fun j => v (ix3 ⟨g.val / 4, by omega⟩ j 128))

/-- The same, of the block's index. -/
def blockFn (x0 : FVec Ideal S1x512x1024 .bf16) (x5 x6 : FVec Ideal S512x128 .f32) (x9 : FVec Ideal S1x128 .f32)
    (k : FVec Ideal S2x4352x128 .bf16) (v : FVec Ideal S2x4352x256 .bf16) (y : S1x512x1024.Idx) : EReal :=
  blockOut x0 x5 x6 x9 k v ⟨(y 1).val, (y 1).isLt⟩ ⟨(y 2).val / 128, by have : (y 2).val < 1024 := (y 2).isLt; omega⟩
    ⟨(y 2).val % 128, by omega⟩

theorem blockFn_ix3 (x0 : FVec Ideal S1x512x1024 .bf16) (x5 x6 : FVec Ideal S512x128 .f32) (x9 : FVec Ideal S1x128 .f32)
    (k : FVec Ideal S2x4352x128 .bf16) (v : FVec Ideal S2x4352x256 .bf16) (y : S1x512x1024.Idx) (r : Fin 512) (g : Fin 8)
    (d : Fin 128) (h1 : (y 1).val = r.val) (h2 : (y 2).val = 128 * g.val + d.val) :
    blockFn x0 x5 x6 x9 k v y = blockOut x0 x5 x6 x9 k v r g d := by
  unfold blockFn
  congr 1 <;> apply Fin.ext <;> simp only [h1, h2] <;> omega

/-- A unit that loads the queries of head `g` from row `r0` on, with the tables' rows and head `g / 4` of the scratch,
    holds the block's entries there. -/
theorem unit_at (x0 : FVec Ideal S1x512x1024 .bf16) (x5 x6 : FVec Ideal S512x128 .f32) (x9 : FVec Ideal S1x128 .f32)
    (k : FVec Ideal S2x4352x128 .bf16) (v : FVec Ideal S2x4352x256 .bf16)
    (r0 : ℕ) (g : Fin 8) (o0 o3 : Fin 3 → ℕ) (o1 : Fin 2 → ℕ)
    (ho0 : o0 = ![0, r0, 128 * g.val]) (ho1 : o1 = ![r0, 0]) (ho3 : o3 = ![g.val / 4, 0, 0])
    {h0 : ∀ a, o0 a + S1x256x128.size a ≤ S1x512x1024.size a} {h1 : ∀ a, o1 a + S256x128.size a ≤ S512x128.size a}
    {h2 : ∀ a, (![0, 0] : Fin 2 → ℕ) a + S1x128.size a ≤ S1x128.size a}
    {h3 : ∀ a, o3 a + S1x4352x128.size a ≤ S2x4352x128.size a}
    {h4 : ∀ a, o3 a + S1x4352x256.size a ≤ S2x4352x256.size a}
    {W : FVec Ideal S1x128 .f32} {X : FVec Ideal S1x256x128 .bf16} {C S : FVec Ideal S256x128 .f32}
    {K : FVec Ideal S1x4352x128 .bf16} {V : FVec Ideal S1x4352x256 .bf16}
    (hW : ∀ i, W i = x9 ((Rect.unit (s := S1x128) ![0, 0] S1x128.size h2).toLoadRect.idx i))
    (hX : ∀ i, X i = x0 ((Rect.unit (s := S1x512x1024) o0 S1x256x128.size h0).toLoadRect.idx i))
    (hC : ∀ i, C i = x5 ((Rect.unit (s := S512x128) o1 S256x128.size h1).toLoadRect.idx i))
    (hS : ∀ i, S i = x6 ((Rect.unit (s := S512x128) o1 S256x128.size h1).toLoadRect.idx i))
    (hK : ∀ i, K i = k ((Rect.unit (s := S2x4352x128) o3 S1x4352x128.size h3).toLoadRect.idx i))
    (hV : ∀ i, V i = v ((Rect.unit (s := S2x4352x256) o3 S1x4352x256.size h4).toLoadRect.idx i))
    (i : S1x256x128.Idx) :
    unitQ W X C S K V i = blockFn x0 x5 x6 x9 k v ((Rect.unit (s := S1x512x1024) o0 S1x256x128.size h0).emb i) := by
  subst ho0 ho1 ho3
  obtain ⟨r, d, rfl⟩ : ∃ (r : Fin 256) (d : Fin 128), i = ix3 0 r d :=
    ⟨i 1, i 2, by funext a; fin_cases a <;> first | rfl | exact Subsingleton.elim (α := Fin 1) _ _⟩
  have hr0 : r0 + 256 ≤ 512 := h0 1
  have hg : 128 * g.val + 128 ≤ 1024 := h0 2
  rw [unitQ_apply, blockFn_ix3 (r := ⟨r0 + r.val, by omega⟩) (g := g) (d := d)]
  rotate_left
  · show r0 + 1 * r.val = r0 + r.val
    omega
  · show 128 * g.val + 1 * d.val = 128 * g.val + d.val
    omega
  unfold blockOut
  simp only [hW, hX, hC, hS, hK, hV]
  have e2 : ∀ d : Fin 128, (Rect.unit (s := S1x128) ![0, 0] S1x128.size h2).toLoadRect.idx (ix2 0 d) = ix2 0 d := by
    intro d; funext a; apply Fin.ext
    fin_cases a
    · rfl
    · show 0 + 1 * d.val = d.val
      omega
  have e0 : ∀ d : Fin 128, (Rect.unit (s := S1x512x1024) ![0, r0, 128 * g.val] S1x256x128.size h0).toLoadRect.idx (ix3 0 r d)
      = ix3 0 ⟨r0 + r.val, by omega⟩ ⟨128 * g.val + d.val, by omega⟩ := by
    intro d; funext a; apply Fin.ext
    fin_cases a
    · rfl
    · show r0 + 1 * r.val = r0 + r.val
      omega
    · show 128 * g.val + 1 * d.val = 128 * g.val + d.val
      omega
  have e1 : ∀ d : Fin 128, (Rect.unit (s := S512x128) ![r0, 0] S256x128.size h1).toLoadRect.idx (ix2 r d)
      = ix2 ⟨r0 + r.val, by omega⟩ d := by
    intro d; funext a; apply Fin.ext
    fin_cases a
    · show r0 + 1 * r.val = r0 + r.val
      omega
    · show 0 + 1 * d.val = d.val
      omega
  have e3 : ∀ (j : Fin 4352) (d : Fin 128),
      (Rect.unit (s := S2x4352x128) ![g.val / 4, 0, 0] S1x4352x128.size h3).toLoadRect.idx (ix3 0 j d)
        = ix3 ⟨g.val / 4, by omega⟩ j d := by
    intro j d; funext a; apply Fin.ext
    fin_cases a
    · rfl
    · show 0 + 1 * j.val = j.val
      omega
    · show 0 + 1 * d.val = d.val
      omega
  have e4 : ∀ (j : Fin 4352) (d : Fin 256),
      (Rect.unit (s := S2x4352x256) ![g.val / 4, 0, 0] S1x4352x256.size h4).toLoadRect.idx (ix3 0 j d)
        = ix3 ⟨g.val / 4, by omega⟩ j d := by
    intro j d; funext a; apply Fin.ext
    fin_cases a
    · rfl
    · show 0 + 1 * j.val = j.val
      omega
    · show 0 + 1 * d.val = d.val
      omega
  simp only [e0, e1, e2, e3, e4]

/-- A load of a whole buffer at contents `X`, through a rectangle. -/
def loadAt {s : Shape} {e : EltTy} (a : Memref sig .tc .vmem s e) (h : a.IsWhole) (X : Vec Ideal s e) (r : Rect s) :
    r.shape.Idx → Elt Ideal e :=
  View.readAt (Elt Ideal) a.view r.toLoadRect (h.unread X)

theorem loadAt_apply {s : Shape} {e : EltTy} (a : Memref sig .tc .vmem s e) (h : a.IsWhole) (X : Vec Ideal s e) (r : Rect s)
    (i : r.shape.Idx) : loadAt a h X r i = X (r.toLoadRect.idx i) :=
  h.readAt_unread X _ i

end Cert.Attn

end
-- ==== Proof.Fill.lean ====
module

public import proofs.«01_k».proof.Proof.Block
public import proofs.«01_k».proof.Proof.Gen.KernelIdeal.Frame

/-! What the first grid point of a batch leaves in the two scratch buffers: the normed and turned keys of the context
and of the sequence, and their values beside columns of ones. -/

@[expose] public section

set_option maxRecDepth 16384

noncomputable section

namespace Cert.Attn

open Idealize.ShloMosaic Cert.KernelIdeal Cert.KernelIdeal.Gen

/-- The keys: of head `q`, row `j`, coordinate `d`. The first 256 rows are the context's, normed only; the others are
    the sequence's, normed and turned. -/
def keyE (x1 : FVec Ideal S1x256x256 .bf16) (x2 : FVec Ideal S1x4096x256 .bf16) (x7 x8 : FVec Ideal S4096x128 .f32)
    (x10 : FVec Ideal S1x128 .f32) (q : Fin 2) (j : Fin 4352) (d : Fin 128) : EReal :=
  if h : j.val < 256 then
    rmsE (fun d => x1 (ix3 0 ⟨j.val, h⟩ ⟨128 * q.val + d.val, by omega⟩)) (fun d => x10 (ix2 0 d)) d
  else
    ropeE (fun d => x2 (ix3 0 ⟨j.val - 256, by omega⟩ ⟨128 * q.val + d.val, by omega⟩)) (fun d => x10 (ix2 0 d))
      (fun d => x7 (ix2 ⟨j.val - 256, by omega⟩ d)) (fun d => x8 (ix2 ⟨j.val - 256, by omega⟩ d)) d

/-- The values: of head `q`, row `j`, column `d`; from column 128 on, one. -/
def valE (x3 : FVec Ideal S1x256x256 .bf16) (x4 : FVec Ideal S1x4096x256 .bf16) (q : Fin 2) (j : Fin 4352)
    (d : Fin 256) : EReal :=
  if hd : d.val < 128 then
    if h : j.val < 256 then x3 (ix3 0 ⟨j.val, h⟩ ⟨128 * q.val + d.val, by omega⟩)
    else x4 (ix3 0 ⟨j.val - 256, by omega⟩ ⟨128 * q.val + d.val, by omega⟩)
  else Ideal.ofBits .bf16 0x3F80#16

/-- The keys, as the scratch buffer's contents. -/
def keyFn (x1 : FVec Ideal S1x256x256 .bf16) (x2 : FVec Ideal S1x4096x256 .bf16) (x7 x8 : FVec Ideal S4096x128 .f32)
    (x10 : FVec Ideal S1x128 .f32) (y : S2x4352x128.Idx) : EReal := keyE x1 x2 x7 x8 x10 (y 0) (y 1) (y 2)

/-- The values, as the scratch buffer's contents. -/
def valFn (x3 : FVec Ideal S1x256x256 .bf16) (x4 : FVec Ideal S1x4096x256 .bf16) (y : S2x4352x256.Idx) : EReal :=
  valE x3 x4 (y 0) (y 1) (y 2)

/-- The context's keys, as one fill of the scratch computes them. -/
def fillC (w : FVec Ideal S1x128 .f32) (x : FVec Ideal S1x256x128 .bf16) : FVec Ideal S1x256x128 .bf16 :=
  shapeCast S1x256x128 (truncf .bf16 (normQ w x) bitsLt_bf16_f32) shapeCasts_S256x128_S1x256x128

theorem fillC_apply (w : FVec Ideal S1x128 .f32) (x : FVec Ideal S1x256x128 .bf16) (r : Fin 256) (d : Fin 128) :
    fillC w x (ix3 0 r d) = rmsE (fun d => x (ix3 0 r d)) (fun d => w (ix2 0 d)) d := by
  rw [← normQ_apply]
  unfold fillC
  pointwise

/-- 4096 rows of a head, normed. -/
def normK (w : FVec Ideal S1x128 .f32) (x : FVec Ideal S1x4096x128 .bf16) : FVec Ideal S4096x128 .f32 :=
  let y : FVec Ideal S4096x128 .f32 := extf .f32 (shapeCast S4096x128 x shapeCasts_S1x4096x128_S4096x128) bitsLt_bf16_f32
  mulf
    (mulf y (broadcastTo S4096x128
      (rsqrt (addf
        (divf (shapeCast S4096x1 (multiReduction .add [1] S4096 (mulf y y) 0x00000000#32 reduces_S4096x128_S4096 (.inl rfl) rfl)
            shapeCasts_S4096_S4096x1)
          (broadcast S4096x1 (Scalar.ofBits (F := Ideal) .f32 0x43000000#32)))
        (broadcast S4096x1 (Scalar.ofBits (F := Ideal) .f32 0x358637BD#32))))
      broadcasts_S4096x1_S4096x128))
    (broadcastTo S4096x128 (shapeCast S1x128 w shapeCasts_S1x128_S1x128) broadcasts_S1x128_S4096x128)

theorem normK_apply (w : FVec Ideal S1x128 .f32) (x : FVec Ideal S1x4096x128 .bf16) (r : Fin 4096) (d : Fin 128) :
    normK w x (ix2 r d) = rmsE (fun d => x (ix3 0 r d)) (fun d => w (ix2 0 d)) d := by
  unfold normK rmsE
  pointwise

/-- The sequence's keys, as one fill of the scratch computes them. -/
def fillK (w : FVec Ideal S1x128 .f32) (x : FVec Ideal S1x4096x128 .bf16) (c s : FVec Ideal S4096x128 .f32) :
    FVec Ideal S1x4096x128 .bf16 :=
  shapeCast S1x4096x128
    (truncf .bf16
      (addf (mulf (normK w x) (shapeCast S4096x128 c shapeCasts_S4096x128_S4096x128))
        (mulf (dynamicRotate 1 64#32 none (normK w x) rotates_S4096x128_d1)
          (shapeCast S4096x128 s shapeCasts_S4096x128_S4096x128))) bitsLt_bf16_f32)
    shapeCasts_S4096x128_S1x4096x128

theorem fillK_apply (w : FVec Ideal S1x128 .f32) (x : FVec Ideal S1x4096x128 .bf16) (c s : FVec Ideal S4096x128 .f32)
    (r : Fin 4096) (d : Fin 128) :
    fillK w x c s (ix3 0 r d)
      = ropeE (fun d => x (ix3 0 r d)) (fun d => w (ix2 0 d)) (fun d => c (ix2 r d)) (fun d => s (ix2 r d)) d := by
  unfold ropeE
  rw [← normK_apply, ← normK_apply]
  unfold fillK
  pointwise
  rfl

/-- The context's values are copied, -/
def copyC (x : FVec Ideal S1x256x128 .bf16) : FVec Ideal S1x256x128 .bf16 :=
  shapeCast S1x256x128 (shapeCast S256x128 x shapeCasts_S1x256x128_S256x128) shapeCasts_S256x128_S1x256x128

theorem copyC_apply (x : FVec Ideal S1x256x128 .bf16) (r : Fin 256) (d : Fin 128) :
    copyC x (ix3 0 r d) = x (ix3 0 r d) := by
  unfold copyC
  pointwise

/-- the sequence's values too. -/
def copyK (x : FVec Ideal S1x4096x128 .bf16) : FVec Ideal S1x4096x128 .bf16 :=
  shapeCast S1x4096x128 (shapeCast S4096x128 x shapeCasts_S1x4096x128_S4096x128) shapeCasts_S4096x128_S1x4096x128

theorem copyK_apply (x : FVec Ideal S1x4096x128 .bf16) (r : Fin 4096) (d : Fin 128) :
    copyK x (ix3 0 r d) = x (ix3 0 r d) := by
  unfold copyK
  pointwise

/-- The columns of ones. -/
def onesV : FVec Ideal S1x4352x128 .bf16 :=
  shapeCast S1x4352x128 (broadcast S4352x128 (Scalar.ofBits (F := Ideal) .bf16 0x3F80#16)) shapeCasts_S4352x128_S1x4352x128

theorem onesV_apply (i : S1x4352x128.Idx) : onesV i = Ideal.ofBits .bf16 0x3F80#16 := by
  unfold onesV
  pointwise

/-- The context's keys land in the scratch at the rows below 256. -/
theorem fillC_at (x1 : FVec Ideal S1x256x256 .bf16) (x2 : FVec Ideal S1x4096x256 .bf16) (x7 x8 : FVec Ideal S4096x128 .f32)
    (x10 : FVec Ideal S1x128 .f32) (q : Fin 2) (o ox : Fin 3 → ℕ) (ho : o = ![q.val, 0, 0]) (hox : ox = ![0, 0, 128 * q.val])
    {h : ∀ a, o a + S1x256x128.size a ≤ S2x4352x128.size a} {hx : ∀ a, ox a + S1x256x128.size a ≤ S1x256x256.size a}
    {hw : ∀ a, (![0, 0] : Fin 2 → ℕ) a + S1x128.size a ≤ S1x128.size a}
    {W : FVec Ideal S1x128 .f32} {X : FVec Ideal S1x256x128 .bf16}
    (hW : ∀ i, W i = x10 ((Rect.unit (s := S1x128) ![0, 0] S1x128.size hw).toLoadRect.idx i))
    (hX : ∀ i, X i = x1 ((Rect.unit (s := S1x256x256) ox S1x256x128.size hx).toLoadRect.idx i)) (i : S1x256x128.Idx) :
    fillC W X i = keyFn x1 x2 x7 x8 x10 ((Rect.unit (s := S2x4352x128) o S1x256x128.size h).emb i) := by
  subst ho hox
  obtain ⟨r, d, rfl⟩ : ∃ (r : Fin 256) (d : Fin 128), i = ix3 0 r d :=
    ⟨i 1, i 2, by funext a; fin_cases a <;> first | rfl | exact Subsingleton.elim (α := Fin 1) _ _⟩
  have e : (Rect.unit (s := S2x4352x128) ![q.val, 0, 0] S1x256x128.size h).emb (ix3 0 r d)
      = ix3 q ⟨r.val, by omega⟩ d := by
    funext a; apply Fin.ext
    fin_cases a
    · rfl
    · show 0 + 1 * r.val = r.val
      omega
    · show 0 + 1 * d.val = d.val
      omega
  have e2 : ∀ d : Fin 128, (Rect.unit (s := S1x128) ![0, 0] S1x128.size hw).toLoadRect.idx (ix2 0 d) = ix2 0 d := by
    intro d; funext a; apply Fin.ext
    fin_cases a
    · rfl
    · show 0 + 1 * d.val = d.val
      omega
  have e0 : ∀ d : Fin 128, (Rect.unit (s := S1x256x256) ![0, 0, 128 * q.val] S1x256x128.size hx).toLoadRect.idx (ix3 0 r d)
      = ix3 0 r ⟨128 * q.val + d.val, by omega⟩ := by
    intro d; funext a; apply Fin.ext
    fin_cases a
    · rfl
    · show 0 + 1 * r.val = r.val
      omega
    · show 128 * q.val + 1 * d.val = 128 * q.val + d.val
      omega
  rw [e, fillC_apply]
  show _ = keyE x1 x2 x7 x8 x10 q ⟨r.val, _⟩ d
  unfold keyE
  rw [dif_pos r.isLt]
  simp only [hW, hX, e0, e2]

/-- The sequence's keys land in the scratch from row 256 on. -/
theorem fillK_at (x1 : FVec Ideal S1x256x256 .bf16) (x2 : FVec Ideal S1x4096x256 .bf16) (x7 x8 : FVec Ideal S4096x128 .f32)
    (x10 : FVec Ideal S1x128 .f32) (q : Fin 2) (o ox : Fin 3 → ℕ) (ho : o = ![q.val, 256, 0]) (hox : ox = ![0, 0, 128 * q.val])
    {h : ∀ a, o a + S1x4096x128.size a ≤ S2x4352x128.size a} {hx : ∀ a, ox a + S1x4096x128.size a ≤ S1x4096x256.size a}
    {hw : ∀ a, (![0, 0] : Fin 2 → ℕ) a + S1x128.size a ≤ S1x128.size a}
    {hc : ∀ a, (![0, 0] : Fin 2 → ℕ) a + S4096x128.size a ≤ S4096x128.size a}
    {W : FVec Ideal S1x128 .f32} {X : FVec Ideal S1x4096x128 .bf16} {C S : FVec Ideal S4096x128 .f32}
    (hW : ∀ i, W i = x10 ((Rect.unit (s := S1x128) ![0, 0] S1x128.size hw).toLoadRect.idx i))
    (hX : ∀ i, X i = x2 ((Rect.unit (s := S1x4096x256) ox S1x4096x128.size hx).toLoadRect.idx i))
    (hC : ∀ i, C i = x7 ((Rect.unit (s := S4096x128) ![0, 0] S4096x128.size hc).toLoadRect.idx i))
    (hS : ∀ i, S i = x8 ((Rect.unit (s := S4096x128) ![0, 0] S4096x128.size hc).toLoadRect.idx i)) (i : S1x4096x128.Idx) :
    fillK W X C S i = keyFn x1 x2 x7 x8 x10 ((Rect.unit (s := S2x4352x128) o S1x4096x128.size h).emb i) := by
  subst ho hox
  obtain ⟨r, d, rfl⟩ : ∃ (r : Fin 4096) (d : Fin 128), i = ix3 0 r d :=
    ⟨i 1, i 2, by funext a; fin_cases a <;> first | rfl | exact Subsingleton.elim (α := Fin 1) _ _⟩
  have e : (Rect.unit (s := S2x4352x128) ![q.val, 256, 0] S1x4096x128.size h).emb (ix3 0 r d)
      = ix3 q ⟨r.val + 256, by omega⟩ d := by
    funext a; apply Fin.ext
    fin_cases a
    · rfl
    · show 256 + 1 * r.val = r.val + 256
      omega
    · show 0 + 1 * d.val = d.val
      omega
  have e2 : ∀ d : Fin 128, (Rect.unit (s := S1x128) ![0, 0] S1x128.size hw).toLoadRect.idx (ix2 0 d) = ix2 0 d := by
    intro d; funext a; apply Fin.ext
    fin_cases a
    · rfl
    · show 0 + 1 * d.val = d.val
      omega
  have e1 : ∀ d : Fin 128, (Rect.unit (s := S4096x128) ![0, 0] S4096x128.size hc).toLoadRect.idx (ix2 r d) = ix2 r d := by
    intro d; funext a; apply Fin.ext
    fin_cases a
    · show 0 + 1 * r.val = r.val
      omega
    · show 0 + 1 * d.val = d.val
      omega
  have e0 : ∀ d : Fin 128, (Rect.unit (s := S1x4096x256) ![0, 0, 128 * q.val] S1x4096x128.size hx).toLoadRect.idx (ix3 0 r d)
      = ix3 0 r ⟨128 * q.val + d.val, by omega⟩ := by
    intro d; funext a; apply Fin.ext
    fin_cases a
    · rfl
    · show 0 + 1 * r.val = r.val
      omega
    · show 128 * q.val + 1 * d.val = 128 * q.val + d.val
      omega
  rw [e, fillK_apply]
  show _ = keyE x1 x2 x7 x8 x10 q ⟨r.val + 256, _⟩ d
  unfold keyE
  rw [dif_neg (by simp)]
  simp only [hW, hX, hC, hS, e0, e1, e2, Nat.add_sub_cancel, Fin.eta]

/-- The context's values land at the rows below 256 and the columns below 128. -/
theorem copyC_at (x3 : FVec Ideal S1x256x256 .bf16) (x4 : FVec Ideal S1x4096x256 .bf16) (q : Fin 2) (o ox : Fin 3 → ℕ)
    (ho : o = ![q.val, 0, 0]) (hox : ox = ![0, 0, 128 * q.val])
    {h : ∀ a, o a + S1x256x128.size a ≤ S2x4352x256.size a} {hx : ∀ a, ox a + S1x256x128.size a ≤ S1x256x256.size a}
    {X : FVec Ideal S1x256x128 .bf16}
    (hX : ∀ i, X i = x3 ((Rect.unit (s := S1x256x256) ox S1x256x128.size hx).toLoadRect.idx i)) (i : S1x256x128.Idx) :
    copyC X i = valFn x3 x4 ((Rect.unit (s := S2x4352x256) o S1x256x128.size h).emb i) := by
  subst ho hox
  obtain ⟨r, d, rfl⟩ : ∃ (r : Fin 256) (d : Fin 128), i = ix3 0 r d :=
    ⟨i 1, i 2, by funext a; fin_cases a <;> first | rfl | exact Subsingleton.elim (α := Fin 1) _ _⟩
  have e : (Rect.unit (s := S2x4352x256) ![q.val, 0, 0] S1x256x128.size h).emb (ix3 0 r d)
      = ix3 q ⟨r.val, by omega⟩ ⟨d.val, by omega⟩ := by
    funext a; apply Fin.ext
    fin_cases a
    · rfl
    · show 0 + 1 * r.val = r.val
      omega
    · show 0 + 1 * d.val = d.val
      omega
  have e0 : (Rect.unit (s := S1x256x256) ![0, 0, 128 * q.val] S1x256x128.size hx).toLoadRect.idx (ix3 0 r d)
      = ix3 0 r ⟨128 * q.val + d.val, by omega⟩ := by
    funext a; apply Fin.ext
    fin_cases a
    · rfl
    · show 0 + 1 * r.val = r.val
      omega
    · show 128 * q.val + 1 * d.val = 128 * q.val + d.val
      omega
  rw [e, copyC_apply, hX, e0]
  show _ = valE x3 x4 q ⟨r.val, _⟩ ⟨d.val, _⟩
  unfold valE
  rw [dif_pos d.isLt, dif_pos r.isLt]

/-- The sequence's values land at the rows from 256 on and the columns below 128. -/
theorem copyK_at (x3 : FVec Ideal S1x256x256 .bf16) (x4 : FVec Ideal S1x4096x256 .bf16) (q : Fin 2) (o ox : Fin 3 → ℕ)
    (ho : o = ![q.val, 256, 0]) (hox : ox = ![0, 0, 128 * q.val])
    {h : ∀ a, o a + S1x4096x128.size a ≤ S2x4352x256.size a} {hx : ∀ a, ox a + S1x4096x128.size a ≤ S1x4096x256.size a}
    {X : FVec Ideal S1x4096x128 .bf16}
    (hX : ∀ i, X i = x4 ((Rect.unit (s := S1x4096x256) ox S1x4096x128.size hx).toLoadRect.idx i)) (i : S1x4096x128.Idx) :
    copyK X i = valFn x3 x4 ((Rect.unit (s := S2x4352x256) o S1x4096x128.size h).emb i) := by
  subst ho hox
  obtain ⟨r, d, rfl⟩ : ∃ (r : Fin 4096) (d : Fin 128), i = ix3 0 r d :=
    ⟨i 1, i 2, by funext a; fin_cases a <;> first | rfl | exact Subsingleton.elim (α := Fin 1) _ _⟩
  have e : (Rect.unit (s := S2x4352x256) ![q.val, 256, 0] S1x4096x128.size h).emb (ix3 0 r d)
      = ix3 q ⟨r.val + 256, by omega⟩ ⟨d.val, by omega⟩ := by
    funext a; apply Fin.ext
    fin_cases a
    · rfl
    · show 256 + 1 * r.val = r.val + 256
      omega
    · show 0 + 1 * d.val = d.val
      omega
  have e0 : (Rect.unit (s := S1x4096x256) ![0, 0, 128 * q.val] S1x4096x128.size hx).toLoadRect.idx (ix3 0 r d)
      = ix3 0 r ⟨128 * q.val + d.val, by omega⟩ := by
    funext a; apply Fin.ext
    fin_cases a
    · rfl
    · show 0 + 1 * r.val = r.val
      omega
    · show 128 * q.val + 1 * d.val = 128 * q.val + d.val
      omega
  rw [e, copyK_apply, hX, e0]
  show _ = valE x3 x4 q ⟨r.val + 256, _⟩ ⟨d.val, _⟩
  unfold valE
  rw [dif_pos d.isLt, dif_neg (by simp)]
  simp only [Nat.add_sub_cancel, Fin.eta]

/-- The ones land at the columns from 128 on. -/
theorem onesV_at (x3 : FVec Ideal S1x256x256 .bf16) (x4 : FVec Ideal S1x4096x256 .bf16) (q : Fin 2) (o : Fin 3 → ℕ)
    (ho : o = ![q.val, 0, 128])
    {h : ∀ a, o a + S1x4352x128.size a ≤ S2x4352x256.size a} (i : S1x4352x128.Idx) :
    onesV i = valFn x3 x4 ((Rect.unit (s := S2x4352x256) o S1x4352x128.size h).emb i) := by
  subst ho
  have e : ((Rect.unit (s := S2x4352x256) ![q.val, 0, 128] S1x4352x128.size h).emb i 2).val = 128 + 1 * (i 2).val := rfl
  rw [onesV_apply]
  unfold valFn valE
  rw [dif_neg (by rw [e]; omega)]

end Cert.Attn

end
-- ==== Proof.CaseA.lean ====
module

public import proofs.«01_k».proof.Proof.Fill
public import proofs.«01_k».proof.Proof.Gen.KernelIdeal.Frame

/-! What the first grid point of a batch leaves in the scratch buffers and in its output block. -/

@[expose] public section

set_option maxRecDepth 16384

noncomputable section

namespace Cert.Attn

open Idealize.ShloMosaic Cert.KernelIdeal Cert.KernelIdeal.Gen

/-- The four stores of keys leave `keyFn`; -/
theorem keys_canon (c : Dev nD) (i : grid0.Coords) (arg2 : Memref sig .tc .vmem S1x512x1024 .bf16) (harg2 : arg2.IsWhole) (arg3 : Memref sig .tc .vmem S1x256x256 .bf16) (harg3 : arg3.IsWhole) (arg4 : Memref sig .tc .vmem S1x4096x256 .bf16) (harg4 : arg4.IsWhole) (arg5 : Memref sig .tc .vmem S1x256x256 .bf16) (harg5 : arg5.IsWhole) (arg6 : Memref sig .tc .vmem S1x4096x256 .bf16) (harg6 : arg6.IsWhole) (arg7 : Memref sig .tc .vmem S512x128 .f32) (harg7 : arg7.IsWhole) (arg8 : Memref sig .tc .vmem S512x128 .f32) (harg8 : arg8.IsWhole) (arg9 : Memref sig .tc .vmem S4096x128 .f32) (harg9 : arg9.IsWhole) (arg10 : Memref sig .tc .vmem S4096x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x512x1024 .bf16) (harg13 : arg13.IsWhole) (arg14 : Memref sig .tc .vmem S2x4352x128 .bf16) (harg14 : arg14.IsWhole) (arg15 : Memref sig .tc .vmem S2x4352x256 .bf16) (harg15 : arg15.IsWhole) (hc0 : cond0_0 i)
    (x0 : Vec Ideal S1x512x1024 .bf16) (x1 : Vec Ideal S1x256x256 .bf16) (x2 : Vec Ideal S1x4096x256 .bf16) (x3 : Vec Ideal S1x256x256 .bf16) (x4 : Vec Ideal S1x4096x256 .bf16) (x5 : Vec Ideal S512x128 .f32) (x6 : Vec Ideal S512x128 .f32) (x7 : Vec Ideal S4096x128 .f32) (x8 : Vec Ideal S4096x128 .f32) (x9 : Vec Ideal S1x128 .f32) (x10 : Vec Ideal S1x128 .f32) :
    View.canon (kernelRun0_A.sl.HS0_4 (F := Ideal) c arg3 harg3 arg4 harg4 arg9 harg9 arg10 harg10 arg12 harg12 x1 x2 x7 x8 x10) = keyFn x1 x2 x7 x8 x10 := by
  have hp : ∀ p ∈ kernelRun0_A.sl.HS0_4 (F := Ideal) c arg3 harg3 arg4 harg4 arg9 harg9 arg10 harg10 arg12 harg12 x1 x2 x7 x8 x10, ∀ y, p.2 y = keyFn x1 x2 x7 x8 x10 (p.1.emb y) := by
    dsimp only [kernelRun0_A.sl.HS0_4]
    refine List.forall_mem_cons.2 ⟨fun y => (congrFun (g := fillK
      (loadAt arg12 harg12 x10 (Rect.unit ![0, 0] S1x128.size inb_S1x128_S1x128_0_0))
      (loadAt arg4 harg4 x2 (Rect.unit ![0, 0, 128] S1x4096x128.size inb_S1x4096x256_S1x4096x128_0_0_128))
      (loadAt arg9 harg9 x7 (Rect.unit ![0, 0] S4096x128.size inb_S4096x128_S4096x128_0_0))
      (loadAt arg10 harg10 x8 (Rect.unit ![0, 0] S4096x128.size inb_S4096x128_S4096x128_0_0))) (by sl_kernel_rfl) y).trans
    (fillK_at (h := inb_S2x4352x128_S1x4096x128_1_256_0) x1 x2 x7 x8 x10 1 _ ![0, 0, 128] rfl rfl (by intro i; apply loadAt_apply) (by intro i; apply loadAt_apply) (by intro i; apply loadAt_apply) (by intro i; apply loadAt_apply) y), ?_⟩
    refine List.forall_mem_cons.2 ⟨fun y => (congrFun (g := fillC
      (loadAt arg12 harg12 x10 (Rect.unit ![0, 0] S1x128.size inb_S1x128_S1x128_0_0))
      (loadAt arg3 harg3 x1 (Rect.unit ![0, 0, 128] S1x256x128.size inb_S1x256x256_S1x256x128_0_0_128))) (by sl_kernel_rfl) y).trans
    (fillC_at (h := inb_S2x4352x128_S1x256x128_1_0_0) x1 x2 x7 x8 x10 1 _ ![0, 0, 128] rfl rfl (by intro i; apply loadAt_apply) (by intro i; apply loadAt_apply) y), ?_⟩
    refine List.forall_mem_cons.2 ⟨fun y => (congrFun (g := fillK
      (loadAt arg12 harg12 x10 (Rect.unit ![0, 0] S1x128.size inb_S1x128_S1x128_0_0))
      (loadAt arg4 harg4 x2 (Rect.unit ![0, 0, 0] S1x4096x128.size inb_S1x4096x256_S1x4096x128_0_0_0))
      (loadAt arg9 harg9 x7 (Rect.unit ![0, 0] S4096x128.size inb_S4096x128_S4096x128_0_0))
      (loadAt arg10 harg10 x8 (Rect.unit ![0, 0] S4096x128.size inb_S4096x128_S4096x128_0_0))) (by sl_kernel_rfl) y).trans
    (fillK_at (h := inb_S2x4352x128_S1x4096x128_0_256_0) x1 x2 x7 x8 x10 0 _ ![0, 0, 0] rfl rfl (by intro i; apply loadAt_apply) (by intro i; apply loadAt_apply) (by intro i; apply loadAt_apply) (by intro i; apply loadAt_apply) y), ?_⟩
    refine List.forall_mem_cons.2 ⟨fun y => (congrFun (g := fillC
      (loadAt arg12 harg12 x10 (Rect.unit ![0, 0] S1x128.size inb_S1x128_S1x128_0_0))
      (loadAt arg3 harg3 x1 (Rect.unit ![0, 0, 0] S1x256x128.size inb_S1x256x256_S1x256x128_0_0_0))) (by sl_kernel_rfl) y).trans
    (fillC_at (h := inb_S2x4352x128_S1x256x128_0_0_0) x1 x2 x7 x8 x10 0 _ ![0, 0, 0] rfl rfl (by intro i; apply loadAt_apply) (by intro i; apply loadAt_apply) y), ?_⟩
    exact fun p hp => absurd hp List.not_mem_nil
  funext y
  exact View.canon_apply_of_pieces (Val := Elt Ideal) _ _ hp y (scover0_A_0 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 y)

/-- the six of values and ones leave `valFn`. -/
theorem vals_canon (c : Dev nD) (i : grid0.Coords) (arg2 : Memref sig .tc .vmem S1x512x1024 .bf16) (harg2 : arg2.IsWhole) (arg3 : Memref sig .tc .vmem S1x256x256 .bf16) (harg3 : arg3.IsWhole) (arg4 : Memref sig .tc .vmem S1x4096x256 .bf16) (harg4 : arg4.IsWhole) (arg5 : Memref sig .tc .vmem S1x256x256 .bf16) (harg5 : arg5.IsWhole) (arg6 : Memref sig .tc .vmem S1x4096x256 .bf16) (harg6 : arg6.IsWhole) (arg7 : Memref sig .tc .vmem S512x128 .f32) (harg7 : arg7.IsWhole) (arg8 : Memref sig .tc .vmem S512x128 .f32) (harg8 : arg8.IsWhole) (arg9 : Memref sig .tc .vmem S4096x128 .f32) (harg9 : arg9.IsWhole) (arg10 : Memref sig .tc .vmem S4096x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x512x1024 .bf16) (harg13 : arg13.IsWhole) (arg14 : Memref sig .tc .vmem S2x4352x128 .bf16) (harg14 : arg14.IsWhole) (arg15 : Memref sig .tc .vmem S2x4352x256 .bf16) (harg15 : arg15.IsWhole) (hc0 : cond0_0 i)
    (x0 : Vec Ideal S1x512x1024 .bf16) (x1 : Vec Ideal S1x256x256 .bf16) (x2 : Vec Ideal S1x4096x256 .bf16) (x3 : Vec Ideal S1x256x256 .bf16) (x4 : Vec Ideal S1x4096x256 .bf16) (x5 : Vec Ideal S512x128 .f32) (x6 : Vec Ideal S512x128 .f32) (x7 : Vec Ideal S4096x128 .f32) (x8 : Vec Ideal S4096x128 .f32) (x9 : Vec Ideal S1x128 .f32) (x10 : Vec Ideal S1x128 .f32) :
    View.canon (kernelRun0_A.sl.HS1_6 (F := Ideal) c arg5 harg5 arg6 harg6 x3 x4) = valFn x3 x4 := by
  have hp : ∀ p ∈ kernelRun0_A.sl.HS1_6 (F := Ideal) c arg5 harg5 arg6 harg6 x3 x4, ∀ y, p.2 y = valFn x3 x4 (p.1.emb y) := by
    dsimp only [kernelRun0_A.sl.HS1_6]
    refine List.forall_mem_cons.2 ⟨fun y => (congrFun (g := onesV) (by sl_kernel_rfl) y).trans
    (onesV_at (h := inb_S2x4352x256_S1x4352x128_1_0_128) x3 x4 1 _ rfl  y), ?_⟩
    refine List.forall_mem_cons.2 ⟨fun y => (congrFun (g := copyK
      (loadAt arg6 harg6 x4 (Rect.unit ![0, 0, 128] S1x4096x128.size inb_S1x4096x256_S1x4096x128_0_0_128))) (by sl_kernel_rfl) y).trans
    (copyK_at (h := inb_S2x4352x256_S1x4096x128_1_256_0) x3 x4 1 _ ![0, 0, 128] rfl rfl (by intro i; apply loadAt_apply) y), ?_⟩
    refine List.forall_mem_cons.2 ⟨fun y => (congrFun (g := copyC
      (loadAt arg5 harg5 x3 (Rect.unit ![0, 0, 128] S1x256x128.size inb_S1x256x256_S1x256x128_0_0_128))) (by sl_kernel_rfl) y).trans
    (copyC_at (h := inb_S2x4352x256_S1x256x128_1_0_0) x3 x4 1 _ ![0, 0, 128] rfl rfl (by intro i; apply loadAt_apply) y), ?_⟩
    refine List.forall_mem_cons.2 ⟨fun y => (congrFun (g := onesV) (by sl_kernel_rfl) y).trans
    (onesV_at (h := inb_S2x4352x256_S1x4352x128_0_0_128) x3 x4 0 _ rfl  y), ?_⟩
    refine List.forall_mem_cons.2 ⟨fun y => (congrFun (g := copyK
      (loadAt arg6 harg6 x4 (Rect.unit ![0, 0, 0] S1x4096x128.size inb_S1x4096x256_S1x4096x128_0_0_0))) (by sl_kernel_rfl) y).trans
    (copyK_at (h := inb_S2x4352x256_S1x4096x128_0_256_0) x3 x4 0 _ ![0, 0, 0] rfl rfl (by intro i; apply loadAt_apply) y), ?_⟩
    refine List.forall_mem_cons.2 ⟨fun y => (congrFun (g := copyC
      (loadAt arg5 harg5 x3 (Rect.unit ![0, 0, 0] S1x256x128.size inb_S1x256x256_S1x256x128_0_0_0))) (by sl_kernel_rfl) y).trans
    (copyC_at (h := inb_S2x4352x256_S1x256x128_0_0_0) x3 x4 0 _ ![0, 0, 0] rfl rfl (by intro i; apply loadAt_apply) y), ?_⟩
    exact fun p hp => absurd hp List.not_mem_nil
  funext y
  exact View.canon_apply_of_pieces (Val := Elt Ideal) _ _ hp y (scover0_A_1 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 y)

/-- The scratch buffers hold the keys -/
theorem keys_A (c : Dev nD) (i : grid0.Coords) (arg2 : Memref sig .tc .vmem S1x512x1024 .bf16) (harg2 : arg2.IsWhole) (arg3 : Memref sig .tc .vmem S1x256x256 .bf16) (harg3 : arg3.IsWhole) (arg4 : Memref sig .tc .vmem S1x4096x256 .bf16) (harg4 : arg4.IsWhole) (arg5 : Memref sig .tc .vmem S1x256x256 .bf16) (harg5 : arg5.IsWhole) (arg6 : Memref sig .tc .vmem S1x4096x256 .bf16) (harg6 : arg6.IsWhole) (arg7 : Memref sig .tc .vmem S512x128 .f32) (harg7 : arg7.IsWhole) (arg8 : Memref sig .tc .vmem S512x128 .f32) (harg8 : arg8.IsWhole) (arg9 : Memref sig .tc .vmem S4096x128 .f32) (harg9 : arg9.IsWhole) (arg10 : Memref sig .tc .vmem S4096x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x512x1024 .bf16) (harg13 : arg13.IsWhole) (arg14 : Memref sig .tc .vmem S2x4352x128 .bf16) (harg14 : arg14.IsWhole) (arg15 : Memref sig .tc .vmem S2x4352x256 .bf16) (harg15 : arg15.IsWhole) (hc0 : cond0_0 i)
    (x0 : Vec Ideal S1x512x1024 .bf16) (x1 : Vec Ideal S1x256x256 .bf16) (x2 : Vec Ideal S1x4096x256 .bf16) (x3 : Vec Ideal S1x256x256 .bf16) (x4 : Vec Ideal S1x4096x256 .bf16) (x5 : Vec Ideal S512x128 .f32) (x6 : Vec Ideal S512x128 .f32) (x7 : Vec Ideal S4096x128 .f32) (x8 : Vec Ideal S4096x128 .f32) (x9 : Vec Ideal S1x128 .f32) (x10 : Vec Ideal S1x128 .f32) : sout0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 = keyFn x1 x2 x7 x8 x10 := by
  unfold sout0_A_0
  rw [View.read_writes_junk_eq_canon]
  exact keys_canon c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10

/-- and the values. -/
theorem vals_A (c : Dev nD) (i : grid0.Coords) (arg2 : Memref sig .tc .vmem S1x512x1024 .bf16) (harg2 : arg2.IsWhole) (arg3 : Memref sig .tc .vmem S1x256x256 .bf16) (harg3 : arg3.IsWhole) (arg4 : Memref sig .tc .vmem S1x4096x256 .bf16) (harg4 : arg4.IsWhole) (arg5 : Memref sig .tc .vmem S1x256x256 .bf16) (harg5 : arg5.IsWhole) (arg6 : Memref sig .tc .vmem S1x4096x256 .bf16) (harg6 : arg6.IsWhole) (arg7 : Memref sig .tc .vmem S512x128 .f32) (harg7 : arg7.IsWhole) (arg8 : Memref sig .tc .vmem S512x128 .f32) (harg8 : arg8.IsWhole) (arg9 : Memref sig .tc .vmem S4096x128 .f32) (harg9 : arg9.IsWhole) (arg10 : Memref sig .tc .vmem S4096x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x512x1024 .bf16) (harg13 : arg13.IsWhole) (arg14 : Memref sig .tc .vmem S2x4352x128 .bf16) (harg14 : arg14.IsWhole) (arg15 : Memref sig .tc .vmem S2x4352x256 .bf16) (harg15 : arg15.IsWhole) (hc0 : cond0_0 i)
    (x0 : Vec Ideal S1x512x1024 .bf16) (x1 : Vec Ideal S1x256x256 .bf16) (x2 : Vec Ideal S1x4096x256 .bf16) (x3 : Vec Ideal S1x256x256 .bf16) (x4 : Vec Ideal S1x4096x256 .bf16) (x5 : Vec Ideal S512x128 .f32) (x6 : Vec Ideal S512x128 .f32) (x7 : Vec Ideal S4096x128 .f32) (x8 : Vec Ideal S4096x128 .f32) (x9 : Vec Ideal S1x128 .f32) (x10 : Vec Ideal S1x128 .f32) : sout0_A_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 = valFn x3 x4 := by
  unfold sout0_A_1
  rw [View.read_writes_junk_eq_canon]
  exact vals_canon c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10

/-- Each of the sixteen stores holds the block's entries at its place. -/
theorem pieces_A (c : Dev nD) (i : grid0.Coords) (arg2 : Memref sig .tc .vmem S1x512x1024 .bf16) (harg2 : arg2.IsWhole) (arg3 : Memref sig .tc .vmem S1x256x256 .bf16) (harg3 : arg3.IsWhole) (arg4 : Memref sig .tc .vmem S1x4096x256 .bf16) (harg4 : arg4.IsWhole) (arg5 : Memref sig .tc .vmem S1x256x256 .bf16) (harg5 : arg5.IsWhole) (arg6 : Memref sig .tc .vmem S1x4096x256 .bf16) (harg6 : arg6.IsWhole) (arg7 : Memref sig .tc .vmem S512x128 .f32) (harg7 : arg7.IsWhole) (arg8 : Memref sig .tc .vmem S512x128 .f32) (harg8 : arg8.IsWhole) (arg9 : Memref sig .tc .vmem S4096x128 .f32) (harg9 : arg9.IsWhole) (arg10 : Memref sig .tc .vmem S4096x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x512x1024 .bf16) (harg13 : arg13.IsWhole) (arg14 : Memref sig .tc .vmem S2x4352x128 .bf16) (harg14 : arg14.IsWhole) (arg15 : Memref sig .tc .vmem S2x4352x256 .bf16) (harg15 : arg15.IsWhole) (hc0 : cond0_0 i)
    (x0 : Vec Ideal S1x512x1024 .bf16) (x1 : Vec Ideal S1x256x256 .bf16) (x2 : Vec Ideal S1x4096x256 .bf16) (x3 : Vec Ideal S1x256x256 .bf16) (x4 : Vec Ideal S1x4096x256 .bf16) (x5 : Vec Ideal S512x128 .f32) (x6 : Vec Ideal S512x128 .f32) (x7 : Vec Ideal S4096x128 .f32) (x8 : Vec Ideal S4096x128 .f32) (x9 : Vec Ideal S1x128 .f32) (x10 : Vec Ideal S1x128 .f32) :
    ∀ p ∈ (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10).1, ∀ y,
      p.2 y = blockFn x0 x5 x6 x9 (keyFn x1 x2 x7 x8 x10) (valFn x3 x4) (p.1.emb y) := by
  have keys_filled := keys_canon c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10
  have vals_filled := vals_canon c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10
  dsimp only [kernelRun0_A]
  refine List.forall_mem_cons.2 ⟨fun y => (congrFun (g := unitQ
      (loadAt arg11 harg11 x9 (Rect.unit ![0, 0] S1x128.size inb_S1x128_S1x128_0_0))
      (loadAt arg2 harg2 x0 (Rect.unit ![0, 256, 896] S1x256x128.size inb_S1x512x1024_S1x256x128_0_256_896))
      (loadAt arg7 harg7 x5 (Rect.unit ![256, 0] S256x128.size inb_S512x128_S256x128_256_0))
      (loadAt arg8 harg8 x6 (Rect.unit ![256, 0] S256x128.size inb_S512x128_S256x128_256_0))
      (arg14.view.readCov (kernelRun0_A.sl.HS0_4 (F := Ideal) c arg3 harg3 arg4 harg4 arg9 harg9 arg10 harg10 arg12 harg12 x1 x2 x7 x8 x10)
        (Rect.unit (s := S2x4352x128) ![1, 0, 0] S1x4352x128.size inb_S2x4352x128_S1x4352x128_1_0_0).toLoadRect)
      (arg15.view.readCov (kernelRun0_A.sl.HS1_6 (F := Ideal) c arg5 harg5 arg6 harg6 x3 x4)
        (Rect.unit (s := S2x4352x256) ![1, 0, 0] S1x4352x256.size inb_S2x4352x256_S1x4352x256_1_0_0).toLoadRect))
      (by sl_kernel_rfl) y).trans (unit_at (h3 := inb_S2x4352x128_S1x4352x128_1_0_0) (h4 := inb_S2x4352x256_S1x4352x256_1_0_0)
        x0 x5 x6 x9 _ _ 256 7 _ ![1, 0, 0] ![256, 0] rfl rfl rfl
        (by intro i; apply loadAt_apply) (by intro i; apply loadAt_apply) (by intro i; apply loadAt_apply) (by intro i; apply loadAt_apply)
        (by intro i; rw [View.readCov_eq_canon', keys_filled])
        (by intro i; rw [View.readCov_eq_canon', vals_filled]) y), ?_⟩
  refine List.forall_mem_cons.2 ⟨fun y => (congrFun (g := unitQ
      (loadAt arg11 harg11 x9 (Rect.unit ![0, 0] S1x128.size inb_S1x128_S1x128_0_0))
      (loadAt arg2 harg2 x0 (Rect.unit ![0, 256, 768] S1x256x128.size inb_S1x512x1024_S1x256x128_0_256_768))
      (loadAt arg7 harg7 x5 (Rect.unit ![256, 0] S256x128.size inb_S512x128_S256x128_256_0))
      (loadAt arg8 harg8 x6 (Rect.unit ![256, 0] S256x128.size inb_S512x128_S256x128_256_0))
      (arg14.view.readCov (kernelRun0_A.sl.HS0_4 (F := Ideal) c arg3 harg3 arg4 harg4 arg9 harg9 arg10 harg10 arg12 harg12 x1 x2 x7 x8 x10)
        (Rect.unit (s := S2x4352x128) ![1, 0, 0] S1x4352x128.size inb_S2x4352x128_S1x4352x128_1_0_0).toLoadRect)
      (arg15.view.readCov (kernelRun0_A.sl.HS1_6 (F := Ideal) c arg5 harg5 arg6 harg6 x3 x4)
        (Rect.unit (s := S2x4352x256) ![1, 0, 0] S1x4352x256.size inb_S2x4352x256_S1x4352x256_1_0_0).toLoadRect))
      (by sl_kernel_rfl) y).trans (unit_at (h3 := inb_S2x4352x128_S1x4352x128_1_0_0) (h4 := inb_S2x4352x256_S1x4352x256_1_0_0)
        x0 x5 x6 x9 _ _ 256 6 _ ![1, 0, 0] ![256, 0] rfl rfl rfl
        (by intro i; apply loadAt_apply) (by intro i; apply loadAt_apply) (by intro i; apply loadAt_apply) (by intro i; apply loadAt_apply)
        (by intro i; rw [View.readCov_eq_canon', keys_filled])
        (by intro i; rw [View.readCov_eq_canon', vals_filled]) y), ?_⟩
  refine List.forall_mem_cons.2 ⟨fun y => (congrFun (g := unitQ
      (loadAt arg11 harg11 x9 (Rect.unit ![0, 0] S1x128.size inb_S1x128_S1x128_0_0))
      (loadAt arg2 harg2 x0 (Rect.unit ![0, 256, 640] S1x256x128.size inb_S1x512x1024_S1x256x128_0_256_640))
      (loadAt arg7 harg7 x5 (Rect.unit ![256, 0] S256x128.size inb_S512x128_S256x128_256_0))
      (loadAt arg8 harg8 x6 (Rect.unit ![256, 0] S256x128.size inb_S512x128_S256x128_256_0))
      (arg14.view.readCov (kernelRun0_A.sl.HS0_4 (F := Ideal) c arg3 harg3 arg4 harg4 arg9 harg9 arg10 harg10 arg12 harg12 x1 x2 x7 x8 x10)
        (Rect.unit (s := S2x4352x128) ![1, 0, 0] S1x4352x128.size inb_S2x4352x128_S1x4352x128_1_0_0).toLoadRect)
      (arg15.view.readCov (kernelRun0_A.sl.HS1_6 (F := Ideal) c arg5 harg5 arg6 harg6 x3 x4)
        (Rect.unit (s := S2x4352x256) ![1, 0, 0] S1x4352x256.size inb_S2x4352x256_S1x4352x256_1_0_0).toLoadRect))
      (by sl_kernel_rfl) y).trans (unit_at (h3 := inb_S2x4352x128_S1x4352x128_1_0_0) (h4 := inb_S2x4352x256_S1x4352x256_1_0_0)
        x0 x5 x6 x9 _ _ 256 5 _ ![1, 0, 0] ![256, 0] rfl rfl rfl
        (by intro i; apply loadAt_apply) (by intro i; apply loadAt_apply) (by intro i; apply loadAt_apply) (by intro i; apply loadAt_apply)
        (by intro i; rw [View.readCov_eq_canon', keys_filled])
        (by intro i; rw [View.readCov_eq_canon', vals_filled]) y), ?_⟩
  refine List.forall_mem_cons.2 ⟨fun y => (congrFun (g := unitQ
      (loadAt arg11 harg11 x9 (Rect.unit ![0, 0] S1x128.size inb_S1x128_S1x128_0_0))
      (loadAt arg2 harg2 x0 (Rect.unit ![0, 256, 512] S1x256x128.size inb_S1x512x1024_S1x256x128_0_256_512))
      (loadAt arg7 harg7 x5 (Rect.unit ![256, 0] S256x128.size inb_S512x128_S256x128_256_0))
      (loadAt arg8 harg8 x6 (Rect.unit ![256, 0] S256x128.size inb_S512x128_S256x128_256_0))
      (arg14.view.readCov (kernelRun0_A.sl.HS0_4 (F := Ideal) c arg3 harg3 arg4 harg4 arg9 harg9 arg10 harg10 arg12 harg12 x1 x2 x7 x8 x10)
        (Rect.unit (s := S2x4352x128) ![1, 0, 0] S1x4352x128.size inb_S2x4352x128_S1x4352x128_1_0_0).toLoadRect)
      (arg15.view.readCov (kernelRun0_A.sl.HS1_6 (F := Ideal) c arg5 harg5 arg6 harg6 x3 x4)
        (Rect.unit (s := S2x4352x256) ![1, 0, 0] S1x4352x256.size inb_S2x4352x256_S1x4352x256_1_0_0).toLoadRect))
      (by sl_kernel_rfl) y).trans (unit_at (h3 := inb_S2x4352x128_S1x4352x128_1_0_0) (h4 := inb_S2x4352x256_S1x4352x256_1_0_0)
        x0 x5 x6 x9 _ _ 256 4 _ ![1, 0, 0] ![256, 0] rfl rfl rfl
        (by intro i; apply loadAt_apply) (by intro i; apply loadAt_apply) (by intro i; apply loadAt_apply) (by intro i; apply loadAt_apply)
        (by intro i; rw [View.readCov_eq_canon', keys_filled])
        (by intro i; rw [View.readCov_eq_canon', vals_filled]) y), ?_⟩
  refine List.forall_mem_cons.2 ⟨fun y => (congrFun (g := unitQ
      (loadAt arg11 harg11 x9 (Rect.unit ![0, 0] S1x128.size inb_S1x128_S1x128_0_0))
      (loadAt arg2 harg2 x0 (Rect.unit ![0, 256, 384] S1x256x128.size inb_S1x512x1024_S1x256x128_0_256_384))
      (loadAt arg7 harg7 x5 (Rect.unit ![256, 0] S256x128.size inb_S512x128_S256x128_256_0))
      (loadAt arg8 harg8 x6 (Rect.unit ![256, 0] S256x128.size inb_S512x128_S256x128_256_0))
      (arg14.view.readCov (kernelRun0_A.sl.HS0_4 (F := Ideal) c arg3 harg3 arg4 harg4 arg9 harg9 arg10 harg10 arg12 harg12 x1 x2 x7 x8 x10)
        (Rect.unit (s := S2x4352x128) ![0, 0, 0] S1x4352x128.size inb_S2x4352x128_S1x4352x128_0_0_0).toLoadRect)
      (arg15.view.readCov (kernelRun0_A.sl.HS1_6 (F := Ideal) c arg5 harg5 arg6 harg6 x3 x4)
        (Rect.unit (s := S2x4352x256) ![0, 0, 0] S1x4352x256.size inb_S2x4352x256_S1x4352x256_0_0_0).toLoadRect))
      (by sl_kernel_rfl) y).trans (unit_at (h3 := inb_S2x4352x128_S1x4352x128_0_0_0) (h4 := inb_S2x4352x256_S1x4352x256_0_0_0)
        x0 x5 x6 x9 _ _ 256 3 _ ![0, 0, 0] ![256, 0] rfl rfl rfl
        (by intro i; apply loadAt_apply) (by intro i; apply loadAt_apply) (by intro i; apply loadAt_apply) (by intro i; apply loadAt_apply)
        (by intro i; rw [View.readCov_eq_canon', keys_filled])
        (by intro i; rw [View.readCov_eq_canon', vals_filled]) y), ?_⟩
  refine List.forall_mem_cons.2 ⟨fun y => (congrFun (g := unitQ
      (loadAt arg11 harg11 x9 (Rect.unit ![0, 0] S1x128.size inb_S1x128_S1x128_0_0))
      (loadAt arg2 harg2 x0 (Rect.unit ![0, 256, 256] S1x256x128.size inb_S1x512x1024_S1x256x128_0_256_256))
      (loadAt arg7 harg7 x5 (Rect.unit ![256, 0] S256x128.size inb_S512x128_S256x128_256_0))
      (loadAt arg8 harg8 x6 (Rect.unit ![256, 0] S256x128.size inb_S512x128_S256x128_256_0))
      (arg14.view.readCov (kernelRun0_A.sl.HS0_4 (F := Ideal) c arg3 harg3 arg4 harg4 arg9 harg9 arg10 harg10 arg12 harg12 x1 x2 x7 x8 x10)
        (Rect.unit (s := S2x4352x128) ![0, 0, 0] S1x4352x128.size inb_S2x4352x128_S1x4352x128_0_0_0).toLoadRect)
      (arg15.view.readCov (kernelRun0_A.sl.HS1_6 (F := Ideal) c arg5 harg5 arg6 harg6 x3 x4)
        (Rect.unit (s := S2x4352x256) ![0, 0, 0] S1x4352x256.size inb_S2x4352x256_S1x4352x256_0_0_0).toLoadRect))
      (by sl_kernel_rfl) y).trans (unit_at (h3 := inb_S2x4352x128_S1x4352x128_0_0_0) (h4 := inb_S2x4352x256_S1x4352x256_0_0_0)
        x0 x5 x6 x9 _ _ 256 2 _ ![0, 0, 0] ![256, 0] rfl rfl rfl
        (by intro i; apply loadAt_apply) (by intro i; apply loadAt_apply) (by intro i; apply loadAt_apply) (by intro i; apply loadAt_apply)
        (by intro i; rw [View.readCov_eq_canon', keys_filled])
        (by intro i; rw [View.readCov_eq_canon', vals_filled]) y), ?_⟩
  refine List.forall_mem_cons.2 ⟨fun y => (congrFun (g := unitQ
      (loadAt arg11 harg11 x9 (Rect.unit ![0, 0] S1x128.size inb_S1x128_S1x128_0_0))
      (loadAt arg2 harg2 x0 (Rect.unit ![0, 256, 128] S1x256x128.size inb_S1x512x1024_S1x256x128_0_256_128))
      (loadAt arg7 harg7 x5 (Rect.unit ![256, 0] S256x128.size inb_S512x128_S256x128_256_0))
      (loadAt arg8 harg8 x6 (Rect.unit ![256, 0] S256x128.size inb_S512x128_S256x128_256_0))
      (arg14.view.readCov (kernelRun0_A.sl.HS0_4 (F := Ideal) c arg3 harg3 arg4 harg4 arg9 harg9 arg10 harg10 arg12 harg12 x1 x2 x7 x8 x10)
        (Rect.unit (s := S2x4352x128) ![0, 0, 0] S1x4352x128.size inb_S2x4352x128_S1x4352x128_0_0_0).toLoadRect)
      (arg15.view.readCov (kernelRun0_A.sl.HS1_6 (F := Ideal) c arg5 harg5 arg6 harg6 x3 x4)
        (Rect.unit (s := S2x4352x256) ![0, 0, 0] S1x4352x256.size inb_S2x4352x256_S1x4352x256_0_0_0).toLoadRect))
      (by sl_kernel_rfl) y).trans (unit_at (h3 := inb_S2x4352x128_S1x4352x128_0_0_0) (h4 := inb_S2x4352x256_S1x4352x256_0_0_0)
        x0 x5 x6 x9 _ _ 256 1 _ ![0, 0, 0] ![256, 0] rfl rfl rfl
        (by intro i; apply loadAt_apply) (by intro i; apply loadAt_apply) (by intro i; apply loadAt_apply) (by intro i; apply loadAt_apply)
        (by intro i; rw [View.readCov_eq_canon', keys_filled])
        (by intro i; rw [View.readCov_eq_canon', vals_filled]) y), ?_⟩
  refine List.forall_mem_cons.2 ⟨fun y => (congrFun (g := unitQ
      (loadAt arg11 harg11 x9 (Rect.unit ![0, 0] S1x128.size inb_S1x128_S1x128_0_0))
      (loadAt arg2 harg2 x0 (Rect.unit ![0, 256, 0] S1x256x128.size inb_S1x512x1024_S1x256x128_0_256_0))
      (loadAt arg7 harg7 x5 (Rect.unit ![256, 0] S256x128.size inb_S512x128_S256x128_256_0))
      (loadAt arg8 harg8 x6 (Rect.unit ![256, 0] S256x128.size inb_S512x128_S256x128_256_0))
      (arg14.view.readCov (kernelRun0_A.sl.HS0_4 (F := Ideal) c arg3 harg3 arg4 harg4 arg9 harg9 arg10 harg10 arg12 harg12 x1 x2 x7 x8 x10)
        (Rect.unit (s := S2x4352x128) ![0, 0, 0] S1x4352x128.size inb_S2x4352x128_S1x4352x128_0_0_0).toLoadRect)
      (arg15.view.readCov (kernelRun0_A.sl.HS1_6 (F := Ideal) c arg5 harg5 arg6 harg6 x3 x4)
        (Rect.unit (s := S2x4352x256) ![0, 0, 0] S1x4352x256.size inb_S2x4352x256_S1x4352x256_0_0_0).toLoadRect))
      (by sl_kernel_rfl) y).trans (unit_at (h3 := inb_S2x4352x128_S1x4352x128_0_0_0) (h4 := inb_S2x4352x256_S1x4352x256_0_0_0)
        x0 x5 x6 x9 _ _ 256 0 _ ![0, 0, 0] ![256, 0] rfl rfl rfl
        (by intro i; apply loadAt_apply) (by intro i; apply loadAt_apply) (by intro i; apply loadAt_apply) (by intro i; apply loadAt_apply)
        (by intro i; rw [View.readCov_eq_canon', keys_filled])
        (by intro i; rw [View.readCov_eq_canon', vals_filled]) y), ?_⟩
  refine List.forall_mem_cons.2 ⟨fun y => (congrFun (g := unitQ
      (loadAt arg11 harg11 x9 (Rect.unit ![0, 0] S1x128.size inb_S1x128_S1x128_0_0))
      (loadAt arg2 harg2 x0 (Rect.unit ![0, 0, 896] S1x256x128.size inb_S1x512x1024_S1x256x128_0_0_896))
      (loadAt arg7 harg7 x5 (Rect.unit ![0, 0] S256x128.size inb_S512x128_S256x128_0_0))
      (loadAt arg8 harg8 x6 (Rect.unit ![0, 0] S256x128.size inb_S512x128_S256x128_0_0))
      (arg14.view.readCov (kernelRun0_A.sl.HS0_4 (F := Ideal) c arg3 harg3 arg4 harg4 arg9 harg9 arg10 harg10 arg12 harg12 x1 x2 x7 x8 x10)
        (Rect.unit (s := S2x4352x128) ![1, 0, 0] S1x4352x128.size inb_S2x4352x128_S1x4352x128_1_0_0).toLoadRect)
      (arg15.view.readCov (kernelRun0_A.sl.HS1_6 (F := Ideal) c arg5 harg5 arg6 harg6 x3 x4)
        (Rect.unit (s := S2x4352x256) ![1, 0, 0] S1x4352x256.size inb_S2x4352x256_S1x4352x256_1_0_0).toLoadRect))
      (by sl_kernel_rfl) y).trans (unit_at (h3 := inb_S2x4352x128_S1x4352x128_1_0_0) (h4 := inb_S2x4352x256_S1x4352x256_1_0_0)
        x0 x5 x6 x9 _ _ 0 7 _ ![1, 0, 0] ![0, 0] rfl rfl rfl
        (by intro i; apply loadAt_apply) (by intro i; apply loadAt_apply) (by intro i; apply loadAt_apply) (by intro i; apply loadAt_apply)
        (by intro i; rw [View.readCov_eq_canon', keys_filled])
        (by intro i; rw [View.readCov_eq_canon', vals_filled]) y), ?_⟩
  refine List.forall_mem_cons.2 ⟨fun y => (congrFun (g := unitQ
      (loadAt arg11 harg11 x9 (Rect.unit ![0, 0] S1x128.size inb_S1x128_S1x128_0_0))
      (loadAt arg2 harg2 x0 (Rect.unit ![0, 0, 768] S1x256x128.size inb_S1x512x1024_S1x256x128_0_0_768))
      (loadAt arg7 harg7 x5 (Rect.unit ![0, 0] S256x128.size inb_S512x128_S256x128_0_0))
      (loadAt arg8 harg8 x6 (Rect.unit ![0, 0] S256x128.size inb_S512x128_S256x128_0_0))
      (arg14.view.readCov (kernelRun0_A.sl.HS0_4 (F := Ideal) c arg3 harg3 arg4 harg4 arg9 harg9 arg10 harg10 arg12 harg12 x1 x2 x7 x8 x10)
        (Rect.unit (s := S2x4352x128) ![1, 0, 0] S1x4352x128.size inb_S2x4352x128_S1x4352x128_1_0_0).toLoadRect)
      (arg15.view.readCov (kernelRun0_A.sl.HS1_6 (F := Ideal) c arg5 harg5 arg6 harg6 x3 x4)
        (Rect.unit (s := S2x4352x256) ![1, 0, 0] S1x4352x256.size inb_S2x4352x256_S1x4352x256_1_0_0).toLoadRect))
      (by sl_kernel_rfl) y).trans (unit_at (h3 := inb_S2x4352x128_S1x4352x128_1_0_0) (h4 := inb_S2x4352x256_S1x4352x256_1_0_0)
        x0 x5 x6 x9 _ _ 0 6 _ ![1, 0, 0] ![0, 0] rfl rfl rfl
        (by intro i; apply loadAt_apply) (by intro i; apply loadAt_apply) (by intro i; apply loadAt_apply) (by intro i; apply loadAt_apply)
        (by intro i; rw [View.readCov_eq_canon', keys_filled])
        (by intro i; rw [View.readCov_eq_canon', vals_filled]) y), ?_⟩
  refine List.forall_mem_cons.2 ⟨fun y => (congrFun (g := unitQ
      (loadAt arg11 harg11 x9 (Rect.unit ![0, 0] S1x128.size inb_S1x128_S1x128_0_0))
      (loadAt arg2 harg2 x0 (Rect.unit ![0, 0, 640] S1x256x128.size inb_S1x512x1024_S1x256x128_0_0_640))
      (loadAt arg7 harg7 x5 (Rect.unit ![0, 0] S256x128.size inb_S512x128_S256x128_0_0))
      (loadAt arg8 harg8 x6 (Rect.unit ![0, 0] S256x128.size inb_S512x128_S256x128_0_0))
      (arg14.view.readCov (kernelRun0_A.sl.HS0_4 (F := Ideal) c arg3 harg3 arg4 harg4 arg9 harg9 arg10 harg10 arg12 harg12 x1 x2 x7 x8 x10)
        (Rect.unit (s := S2x4352x128) ![1, 0, 0] S1x4352x128.size inb_S2x4352x128_S1x4352x128_1_0_0).toLoadRect)
      (arg15.view.readCov (kernelRun0_A.sl.HS1_6 (F := Ideal) c arg5 harg5 arg6 harg6 x3 x4)
        (Rect.unit (s := S2x4352x256) ![1, 0, 0] S1x4352x256.size inb_S2x4352x256_S1x4352x256_1_0_0).toLoadRect))
      (by sl_kernel_rfl) y).trans (unit_at (h3 := inb_S2x4352x128_S1x4352x128_1_0_0) (h4 := inb_S2x4352x256_S1x4352x256_1_0_0)
        x0 x5 x6 x9 _ _ 0 5 _ ![1, 0, 0] ![0, 0] rfl rfl rfl
        (by intro i; apply loadAt_apply) (by intro i; apply loadAt_apply) (by intro i; apply loadAt_apply) (by intro i; apply loadAt_apply)
        (by intro i; rw [View.readCov_eq_canon', keys_filled])
        (by intro i; rw [View.readCov_eq_canon', vals_filled]) y), ?_⟩
  refine List.forall_mem_cons.2 ⟨fun y => (congrFun (g := unitQ
      (loadAt arg11 harg11 x9 (Rect.unit ![0, 0] S1x128.size inb_S1x128_S1x128_0_0))
      (loadAt arg2 harg2 x0 (Rect.unit ![0, 0, 512] S1x256x128.size inb_S1x512x1024_S1x256x128_0_0_512))
      (loadAt arg7 harg7 x5 (Rect.unit ![0, 0] S256x128.size inb_S512x128_S256x128_0_0))
      (loadAt arg8 harg8 x6 (Rect.unit ![0, 0] S256x128.size inb_S512x128_S256x128_0_0))
      (arg14.view.readCov (kernelRun0_A.sl.HS0_4 (F := Ideal) c arg3 harg3 arg4 harg4 arg9 harg9 arg10 harg10 arg12 harg12 x1 x2 x7 x8 x10)
        (Rect.unit (s := S2x4352x128) ![1, 0, 0] S1x4352x128.size inb_S2x4352x128_S1x4352x128_1_0_0).toLoadRect)
      (arg15.view.readCov (kernelRun0_A.sl.HS1_6 (F := Ideal) c arg5 harg5 arg6 harg6 x3 x4)
        (Rect.unit (s := S2x4352x256) ![1, 0, 0] S1x4352x256.size inb_S2x4352x256_S1x4352x256_1_0_0).toLoadRect))
      (by sl_kernel_rfl) y).trans (unit_at (h3 := inb_S2x4352x128_S1x4352x128_1_0_0) (h4 := inb_S2x4352x256_S1x4352x256_1_0_0)
        x0 x5 x6 x9 _ _ 0 4 _ ![1, 0, 0] ![0, 0] rfl rfl rfl
        (by intro i; apply loadAt_apply) (by intro i; apply loadAt_apply) (by intro i; apply loadAt_apply) (by intro i; apply loadAt_apply)
        (by intro i; rw [View.readCov_eq_canon', keys_filled])
        (by intro i; rw [View.readCov_eq_canon', vals_filled]) y), ?_⟩
  refine List.forall_mem_cons.2 ⟨fun y => (congrFun (g := unitQ
      (loadAt arg11 harg11 x9 (Rect.unit ![0, 0] S1x128.size inb_S1x128_S1x128_0_0))
      (loadAt arg2 harg2 x0 (Rect.unit ![0, 0, 384] S1x256x128.size inb_S1x512x1024_S1x256x128_0_0_384))
      (loadAt arg7 harg7 x5 (Rect.unit ![0, 0] S256x128.size inb_S512x128_S256x128_0_0))
      (loadAt arg8 harg8 x6 (Rect.unit ![0, 0] S256x128.size inb_S512x128_S256x128_0_0))
      (arg14.view.readCov (kernelRun0_A.sl.HS0_4 (F := Ideal) c arg3 harg3 arg4 harg4 arg9 harg9 arg10 harg10 arg12 harg12 x1 x2 x7 x8 x10)
        (Rect.unit (s := S2x4352x128) ![0, 0, 0] S1x4352x128.size inb_S2x4352x128_S1x4352x128_0_0_0).toLoadRect)
      (arg15.view.readCov (kernelRun0_A.sl.HS1_6 (F := Ideal) c arg5 harg5 arg6 harg6 x3 x4)
        (Rect.unit (s := S2x4352x256) ![0, 0, 0] S1x4352x256.size inb_S2x4352x256_S1x4352x256_0_0_0).toLoadRect))
      (by sl_kernel_rfl) y).trans (unit_at (h3 := inb_S2x4352x128_S1x4352x128_0_0_0) (h4 := inb_S2x4352x256_S1x4352x256_0_0_0)
        x0 x5 x6 x9 _ _ 0 3 _ ![0, 0, 0] ![0, 0] rfl rfl rfl
        (by intro i; apply loadAt_apply) (by intro i; apply loadAt_apply) (by intro i; apply loadAt_apply) (by intro i; apply loadAt_apply)
        (by intro i; rw [View.readCov_eq_canon', keys_filled])
        (by intro i; rw [View.readCov_eq_canon', vals_filled]) y), ?_⟩
  refine List.forall_mem_cons.2 ⟨fun y => (congrFun (g := unitQ
      (loadAt arg11 harg11 x9 (Rect.unit ![0, 0] S1x128.size inb_S1x128_S1x128_0_0))
      (loadAt arg2 harg2 x0 (Rect.unit ![0, 0, 256] S1x256x128.size inb_S1x512x1024_S1x256x128_0_0_256))
      (loadAt arg7 harg7 x5 (Rect.unit ![0, 0] S256x128.size inb_S512x128_S256x128_0_0))
      (loadAt arg8 harg8 x6 (Rect.unit ![0, 0] S256x128.size inb_S512x128_S256x128_0_0))
      (arg14.view.readCov (kernelRun0_A.sl.HS0_4 (F := Ideal) c arg3 harg3 arg4 harg4 arg9 harg9 arg10 harg10 arg12 harg12 x1 x2 x7 x8 x10)
        (Rect.unit (s := S2x4352x128) ![0, 0, 0] S1x4352x128.size inb_S2x4352x128_S1x4352x128_0_0_0).toLoadRect)
      (arg15.view.readCov (kernelRun0_A.sl.HS1_6 (F := Ideal) c arg5 harg5 arg6 harg6 x3 x4)
        (Rect.unit (s := S2x4352x256) ![0, 0, 0] S1x4352x256.size inb_S2x4352x256_S1x4352x256_0_0_0).toLoadRect))
      (by sl_kernel_rfl) y).trans (unit_at (h3 := inb_S2x4352x128_S1x4352x128_0_0_0) (h4 := inb_S2x4352x256_S1x4352x256_0_0_0)
        x0 x5 x6 x9 _ _ 0 2 _ ![0, 0, 0] ![0, 0] rfl rfl rfl
        (by intro i; apply loadAt_apply) (by intro i; apply loadAt_apply) (by intro i; apply loadAt_apply) (by intro i; apply loadAt_apply)
        (by intro i; rw [View.readCov_eq_canon', keys_filled])
        (by intro i; rw [View.readCov_eq_canon', vals_filled]) y), ?_⟩
  refine List.forall_mem_cons.2 ⟨fun y => (congrFun (g := unitQ
      (loadAt arg11 harg11 x9 (Rect.unit ![0, 0] S1x128.size inb_S1x128_S1x128_0_0))
      (loadAt arg2 harg2 x0 (Rect.unit ![0, 0, 128] S1x256x128.size inb_S1x512x1024_S1x256x128_0_0_128))
      (loadAt arg7 harg7 x5 (Rect.unit ![0, 0] S256x128.size inb_S512x128_S256x128_0_0))
      (loadAt arg8 harg8 x6 (Rect.unit ![0, 0] S256x128.size inb_S512x128_S256x128_0_0))
      (arg14.view.readCov (kernelRun0_A.sl.HS0_4 (F := Ideal) c arg3 harg3 arg4 harg4 arg9 harg9 arg10 harg10 arg12 harg12 x1 x2 x7 x8 x10)
        (Rect.unit (s := S2x4352x128) ![0, 0, 0] S1x4352x128.size inb_S2x4352x128_S1x4352x128_0_0_0).toLoadRect)
      (arg15.view.readCov (kernelRun0_A.sl.HS1_6 (F := Ideal) c arg5 harg5 arg6 harg6 x3 x4)
        (Rect.unit (s := S2x4352x256) ![0, 0, 0] S1x4352x256.size inb_S2x4352x256_S1x4352x256_0_0_0).toLoadRect))
      (by sl_kernel_rfl) y).trans (unit_at (h3 := inb_S2x4352x128_S1x4352x128_0_0_0) (h4 := inb_S2x4352x256_S1x4352x256_0_0_0)
        x0 x5 x6 x9 _ _ 0 1 _ ![0, 0, 0] ![0, 0] rfl rfl rfl
        (by intro i; apply loadAt_apply) (by intro i; apply loadAt_apply) (by intro i; apply loadAt_apply) (by intro i; apply loadAt_apply)
        (by intro i; rw [View.readCov_eq_canon', keys_filled])
        (by intro i; rw [View.readCov_eq_canon', vals_filled]) y), ?_⟩
  refine List.forall_mem_cons.2 ⟨fun y => (congrFun (g := unitQ
      (loadAt arg11 harg11 x9 (Rect.unit ![0, 0] S1x128.size inb_S1x128_S1x128_0_0))
      (loadAt arg2 harg2 x0 (Rect.unit ![0, 0, 0] S1x256x128.size inb_S1x512x1024_S1x256x128_0_0_0))
      (loadAt arg7 harg7 x5 (Rect.unit ![0, 0] S256x128.size inb_S512x128_S256x128_0_0))
      (loadAt arg8 harg8 x6 (Rect.unit ![0, 0] S256x128.size inb_S512x128_S256x128_0_0))
      (arg14.view.readCov (kernelRun0_A.sl.HS0_4 (F := Ideal) c arg3 harg3 arg4 harg4 arg9 harg9 arg10 harg10 arg12 harg12 x1 x2 x7 x8 x10)
        (Rect.unit (s := S2x4352x128) ![0, 0, 0] S1x4352x128.size inb_S2x4352x128_S1x4352x128_0_0_0).toLoadRect)
      (arg15.view.readCov (kernelRun0_A.sl.HS1_6 (F := Ideal) c arg5 harg5 arg6 harg6 x3 x4)
        (Rect.unit (s := S2x4352x256) ![0, 0, 0] S1x4352x256.size inb_S2x4352x256_S1x4352x256_0_0_0).toLoadRect))
      (by sl_kernel_rfl) y).trans (unit_at (h3 := inb_S2x4352x128_S1x4352x128_0_0_0) (h4 := inb_S2x4352x256_S1x4352x256_0_0_0)
        x0 x5 x6 x9 _ _ 0 0 _ ![0, 0, 0] ![0, 0] rfl rfl rfl
        (by intro i; apply loadAt_apply) (by intro i; apply loadAt_apply) (by intro i; apply loadAt_apply) (by intro i; apply loadAt_apply)
        (by intro i; rw [View.readCov_eq_canon', keys_filled])
        (by intro i; rw [View.readCov_eq_canon', vals_filled]) y), ?_⟩
  exact fun p hp => absurd hp List.not_mem_nil

/-- So what the point leaves in the block is `blockFn`. -/
theorem out_A (c : Dev nD) (i : grid0.Coords) (arg2 : Memref sig .tc .vmem S1x512x1024 .bf16) (harg2 : arg2.IsWhole) (arg3 : Memref sig .tc .vmem S1x256x256 .bf16) (harg3 : arg3.IsWhole) (arg4 : Memref sig .tc .vmem S1x4096x256 .bf16) (harg4 : arg4.IsWhole) (arg5 : Memref sig .tc .vmem S1x256x256 .bf16) (harg5 : arg5.IsWhole) (arg6 : Memref sig .tc .vmem S1x4096x256 .bf16) (harg6 : arg6.IsWhole) (arg7 : Memref sig .tc .vmem S512x128 .f32) (harg7 : arg7.IsWhole) (arg8 : Memref sig .tc .vmem S512x128 .f32) (harg8 : arg8.IsWhole) (arg9 : Memref sig .tc .vmem S4096x128 .f32) (harg9 : arg9.IsWhole) (arg10 : Memref sig .tc .vmem S4096x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x512x1024 .bf16) (harg13 : arg13.IsWhole) (arg14 : Memref sig .tc .vmem S2x4352x128 .bf16) (harg14 : arg14.IsWhole) (arg15 : Memref sig .tc .vmem S2x4352x256 .bf16) (harg15 : arg15.IsWhole) (hc0 : cond0_0 i)
    (x0 : Vec Ideal S1x512x1024 .bf16) (x1 : Vec Ideal S1x256x256 .bf16) (x2 : Vec Ideal S1x4096x256 .bf16) (x3 : Vec Ideal S1x256x256 .bf16) (x4 : Vec Ideal S1x4096x256 .bf16) (x5 : Vec Ideal S512x128 .f32) (x6 : Vec Ideal S512x128 .f32) (x7 : Vec Ideal S4096x128 .f32) (x8 : Vec Ideal S4096x128 .f32) (x9 : Vec Ideal S1x128 .f32) (x10 : Vec Ideal S1x128 .f32) :
    out0_A_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 = blockFn x0 x5 x6 x9 (keyFn x1 x2 x7 x8 x10) (valFn x3 x4) := by
  unfold out0_A_11
  rw [View.read_writes_junk_eq_canon]
  funext y
  exact View.canon_apply_of_pieces (Val := Elt Ideal) _ _ (pieces_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10) y (cover0_A_11 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 y)

end Cert.Attn

end
-- ==== Proof.CaseB.lean ====
module

public import proofs.«01_k».proof.Proof.Block
public import proofs.«01_k».proof.Proof.Gen.KernelIdeal.Frame

/-! What a grid point stores in its output block where it finds the scratch filled. -/

@[expose] public section

set_option maxRecDepth 16384

noncomputable section

namespace Cert.Attn

open Idealize.ShloMosaic Cert.KernelIdeal Cert.KernelIdeal.Gen

/-- Each of the sixteen stores holds the block's entries at its place. -/
theorem pieces_B (c : Dev nD) (i : grid0.Coords) (arg2 : Memref sig .tc .vmem S1x512x1024 .bf16) (harg2 : arg2.IsWhole) (arg3 : Memref sig .tc .vmem S1x256x256 .bf16) (harg3 : arg3.IsWhole) (arg4 : Memref sig .tc .vmem S1x4096x256 .bf16) (harg4 : arg4.IsWhole) (arg5 : Memref sig .tc .vmem S1x256x256 .bf16) (harg5 : arg5.IsWhole) (arg6 : Memref sig .tc .vmem S1x4096x256 .bf16) (harg6 : arg6.IsWhole) (arg7 : Memref sig .tc .vmem S512x128 .f32) (harg7 : arg7.IsWhole) (arg8 : Memref sig .tc .vmem S512x128 .f32) (harg8 : arg8.IsWhole) (arg9 : Memref sig .tc .vmem S4096x128 .f32) (harg9 : arg9.IsWhole) (arg10 : Memref sig .tc .vmem S4096x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x512x1024 .bf16) (harg13 : arg13.IsWhole) (arg14 : Memref sig .tc .vmem S2x4352x128 .bf16) (harg14 : arg14.IsWhole) (arg15 : Memref sig .tc .vmem S2x4352x256 .bf16) (harg15 : arg15.IsWhole) (hc0 : ¬cond0_0 i)
    (x0 : Vec Ideal S1x512x1024 .bf16) (x1 : Vec Ideal S1x256x256 .bf16) (x2 : Vec Ideal S1x4096x256 .bf16) (x3 : Vec Ideal S1x256x256 .bf16) (x4 : Vec Ideal S1x4096x256 .bf16) (x5 : Vec Ideal S512x128 .f32) (x6 : Vec Ideal S512x128 .f32) (x7 : Vec Ideal S4096x128 .f32) (x8 : Vec Ideal S4096x128 .f32) (x9 : Vec Ideal S1x128 .f32) (x10 : Vec Ideal S1x128 .f32) (xs0 : Vec Ideal S2x4352x128 .bf16) (xs1 : Vec Ideal S2x4352x256 .bf16) :
    ∀ p ∈ (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xs0 xs1).1, ∀ y, p.2 y = blockFn x0 x5 x6 x9 xs0 xs1 (p.1.emb y) := by
  dsimp only [kernelRun0_B]
  refine List.forall_mem_cons.2 ⟨fun y => (congrFun (g := unitQ
      (loadAt arg11 harg11 x9 (Rect.unit ![0, 0] S1x128.size inb_S1x128_S1x128_0_0))
      (loadAt arg2 harg2 x0 (Rect.unit ![0, 256, 896] S1x256x128.size inb_S1x512x1024_S1x256x128_0_256_896))
      (loadAt arg7 harg7 x5 (Rect.unit ![256, 0] S256x128.size inb_S512x128_S256x128_256_0))
      (loadAt arg8 harg8 x6 (Rect.unit ![256, 0] S256x128.size inb_S512x128_S256x128_256_0))
      (loadAt arg14 harg14 xs0 (Rect.unit ![1, 0, 0] S1x4352x128.size inb_S2x4352x128_S1x4352x128_1_0_0))
      (loadAt arg15 harg15 xs1 (Rect.unit ![1, 0, 0] S1x4352x256.size inb_S2x4352x256_S1x4352x256_1_0_0)))
      (by sl_kernel_rfl) y).trans (unit_at x0 x5 x6 x9 xs0 xs1 256 7 _ ![1, 0, 0] ![256, 0] rfl rfl rfl
        (by intro i; apply loadAt_apply) (by intro i; apply loadAt_apply) (by intro i; apply loadAt_apply) (by intro i; apply loadAt_apply)
        (by intro i; apply loadAt_apply) (by intro i; apply loadAt_apply) y), ?_⟩
  refine List.forall_mem_cons.2 ⟨fun y => (congrFun (g := unitQ
      (loadAt arg11 harg11 x9 (Rect.unit ![0, 0] S1x128.size inb_S1x128_S1x128_0_0))
      (loadAt arg2 harg2 x0 (Rect.unit ![0, 256, 768] S1x256x128.size inb_S1x512x1024_S1x256x128_0_256_768))
      (loadAt arg7 harg7 x5 (Rect.unit ![256, 0] S256x128.size inb_S512x128_S256x128_256_0))
      (loadAt arg8 harg8 x6 (Rect.unit ![256, 0] S256x128.size inb_S512x128_S256x128_256_0))
      (loadAt arg14 harg14 xs0 (Rect.unit ![1, 0, 0] S1x4352x128.size inb_S2x4352x128_S1x4352x128_1_0_0))
      (loadAt arg15 harg15 xs1 (Rect.unit ![1, 0, 0] S1x4352x256.size inb_S2x4352x256_S1x4352x256_1_0_0)))
      (by sl_kernel_rfl) y).trans (unit_at x0 x5 x6 x9 xs0 xs1 256 6 _ ![1, 0, 0] ![256, 0] rfl rfl rfl
        (by intro i; apply loadAt_apply) (by intro i; apply loadAt_apply) (by intro i; apply loadAt_apply) (by intro i; apply loadAt_apply)
        (by intro i; apply loadAt_apply) (by intro i; apply loadAt_apply) y), ?_⟩
  refine List.forall_mem_cons.2 ⟨fun y => (congrFun (g := unitQ
      (loadAt arg11 harg11 x9 (Rect.unit ![0, 0] S1x128.size inb_S1x128_S1x128_0_0))
      (loadAt arg2 harg2 x0 (Rect.unit ![0, 256, 640] S1x256x128.size inb_S1x512x1024_S1x256x128_0_256_640))
      (loadAt arg7 harg7 x5 (Rect.unit ![256, 0] S256x128.size inb_S512x128_S256x128_256_0))
      (loadAt arg8 harg8 x6 (Rect.unit ![256, 0] S256x128.size inb_S512x128_S256x128_256_0))
      (loadAt arg14 harg14 xs0 (Rect.unit ![1, 0, 0] S1x4352x128.size inb_S2x4352x128_S1x4352x128_1_0_0))
      (loadAt arg15 harg15 xs1 (Rect.unit ![1, 0, 0] S1x4352x256.size inb_S2x4352x256_S1x4352x256_1_0_0)))
      (by sl_kernel_rfl) y).trans (unit_at x0 x5 x6 x9 xs0 xs1 256 5 _ ![1, 0, 0] ![256, 0] rfl rfl rfl
        (by intro i; apply loadAt_apply) (by intro i; apply loadAt_apply) (by intro i; apply loadAt_apply) (by intro i; apply loadAt_apply)
        (by intro i; apply loadAt_apply) (by intro i; apply loadAt_apply) y), ?_⟩
  refine List.forall_mem_cons.2 ⟨fun y => (congrFun (g := unitQ
      (loadAt arg11 harg11 x9 (Rect.unit ![0, 0] S1x128.size inb_S1x128_S1x128_0_0))
      (loadAt arg2 harg2 x0 (Rect.unit ![0, 256, 512] S1x256x128.size inb_S1x512x1024_S1x256x128_0_256_512))
      (loadAt arg7 harg7 x5 (Rect.unit ![256, 0] S256x128.size inb_S512x128_S256x128_256_0))
      (loadAt arg8 harg8 x6 (Rect.unit ![256, 0] S256x128.size inb_S512x128_S256x128_256_0))
      (loadAt arg14 harg14 xs0 (Rect.unit ![1, 0, 0] S1x4352x128.size inb_S2x4352x128_S1x4352x128_1_0_0))
      (loadAt arg15 harg15 xs1 (Rect.unit ![1, 0, 0] S1x4352x256.size inb_S2x4352x256_S1x4352x256_1_0_0)))
      (by sl_kernel_rfl) y).trans (unit_at x0 x5 x6 x9 xs0 xs1 256 4 _ ![1, 0, 0] ![256, 0] rfl rfl rfl
        (by intro i; apply loadAt_apply) (by intro i; apply loadAt_apply) (by intro i; apply loadAt_apply) (by intro i; apply loadAt_apply)
        (by intro i; apply loadAt_apply) (by intro i; apply loadAt_apply) y), ?_⟩
  refine List.forall_mem_cons.2 ⟨fun y => (congrFun (g := unitQ
      (loadAt arg11 harg11 x9 (Rect.unit ![0, 0] S1x128.size inb_S1x128_S1x128_0_0))
      (loadAt arg2 harg2 x0 (Rect.unit ![0, 256, 384] S1x256x128.size inb_S1x512x1024_S1x256x128_0_256_384))
      (loadAt arg7 harg7 x5 (Rect.unit ![256, 0] S256x128.size inb_S512x128_S256x128_256_0))
      (loadAt arg8 harg8 x6 (Rect.unit ![256, 0] S256x128.size inb_S512x128_S256x128_256_0))
      (loadAt arg14 harg14 xs0 (Rect.unit ![0, 0, 0] S1x4352x128.size inb_S2x4352x128_S1x4352x128_0_0_0))
      (loadAt arg15 harg15 xs1 (Rect.unit ![0, 0, 0] S1x4352x256.size inb_S2x4352x256_S1x4352x256_0_0_0)))
      (by sl_kernel_rfl) y).trans (unit_at x0 x5 x6 x9 xs0 xs1 256 3 _ ![0, 0, 0] ![256, 0] rfl rfl rfl
        (by intro i; apply loadAt_apply) (by intro i; apply loadAt_apply) (by intro i; apply loadAt_apply) (by intro i; apply loadAt_apply)
        (by intro i; apply loadAt_apply) (by intro i; apply loadAt_apply) y), ?_⟩
  refine List.forall_mem_cons.2 ⟨fun y => (congrFun (g := unitQ
      (loadAt arg11 harg11 x9 (Rect.unit ![0, 0] S1x128.size inb_S1x128_S1x128_0_0))
      (loadAt arg2 harg2 x0 (Rect.unit ![0, 256, 256] S1x256x128.size inb_S1x512x1024_S1x256x128_0_256_256))
      (loadAt arg7 harg7 x5 (Rect.unit ![256, 0] S256x128.size inb_S512x128_S256x128_256_0))
      (loadAt arg8 harg8 x6 (Rect.unit ![256, 0] S256x128.size inb_S512x128_S256x128_256_0))
      (loadAt arg14 harg14 xs0 (Rect.unit ![0, 0, 0] S1x4352x128.size inb_S2x4352x128_S1x4352x128_0_0_0))
      (loadAt arg15 harg15 xs1 (Rect.unit ![0, 0, 0] S1x4352x256.size inb_S2x4352x256_S1x4352x256_0_0_0)))
      (by sl_kernel_rfl) y).trans (unit_at x0 x5 x6 x9 xs0 xs1 256 2 _ ![0, 0, 0] ![256, 0] rfl rfl rfl
        (by intro i; apply loadAt_apply) (by intro i; apply loadAt_apply) (by intro i; apply loadAt_apply) (by intro i; apply loadAt_apply)
        (by intro i; apply loadAt_apply) (by intro i; apply loadAt_apply) y), ?_⟩
  refine List.forall_mem_cons.2 ⟨fun y => (congrFun (g := unitQ
      (loadAt arg11 harg11 x9 (Rect.unit ![0, 0] S1x128.size inb_S1x128_S1x128_0_0))
      (loadAt arg2 harg2 x0 (Rect.unit ![0, 256, 128] S1x256x128.size inb_S1x512x1024_S1x256x128_0_256_128))
      (loadAt arg7 harg7 x5 (Rect.unit ![256, 0] S256x128.size inb_S512x128_S256x128_256_0))
      (loadAt arg8 harg8 x6 (Rect.unit ![256, 0] S256x128.size inb_S512x128_S256x128_256_0))
      (loadAt arg14 harg14 xs0 (Rect.unit ![0, 0, 0] S1x4352x128.size inb_S2x4352x128_S1x4352x128_0_0_0))
      (loadAt arg15 harg15 xs1 (Rect.unit ![0, 0, 0] S1x4352x256.size inb_S2x4352x256_S1x4352x256_0_0_0)))
      (by sl_kernel_rfl) y).trans (unit_at x0 x5 x6 x9 xs0 xs1 256 1 _ ![0, 0, 0] ![256, 0] rfl rfl rfl
        (by intro i; apply loadAt_apply) (by intro i; apply loadAt_apply) (by intro i; apply loadAt_apply) (by intro i; apply loadAt_apply)
        (by intro i; apply loadAt_apply) (by intro i; apply loadAt_apply) y), ?_⟩
  refine List.forall_mem_cons.2 ⟨fun y => (congrFun (g := unitQ
      (loadAt arg11 harg11 x9 (Rect.unit ![0, 0] S1x128.size inb_S1x128_S1x128_0_0))
      (loadAt arg2 harg2 x0 (Rect.unit ![0, 256, 0] S1x256x128.size inb_S1x512x1024_S1x256x128_0_256_0))
      (loadAt arg7 harg7 x5 (Rect.unit ![256, 0] S256x128.size inb_S512x128_S256x128_256_0))
      (loadAt arg8 harg8 x6 (Rect.unit ![256, 0] S256x128.size inb_S512x128_S256x128_256_0))
      (loadAt arg14 harg14 xs0 (Rect.unit ![0, 0, 0] S1x4352x128.size inb_S2x4352x128_S1x4352x128_0_0_0))
      (loadAt arg15 harg15 xs1 (Rect.unit ![0, 0, 0] S1x4352x256.size inb_S2x4352x256_S1x4352x256_0_0_0)))
      (by sl_kernel_rfl) y).trans (unit_at x0 x5 x6 x9 xs0 xs1 256 0 _ ![0, 0, 0] ![256, 0] rfl rfl rfl
        (by intro i; apply loadAt_apply) (by intro i; apply loadAt_apply) (by intro i; apply loadAt_apply) (by intro i; apply loadAt_apply)
        (by intro i; apply loadAt_apply) (by intro i; apply loadAt_apply) y), ?_⟩
  refine List.forall_mem_cons.2 ⟨fun y => (congrFun (g := unitQ
      (loadAt arg11 harg11 x9 (Rect.unit ![0, 0] S1x128.size inb_S1x128_S1x128_0_0))
      (loadAt arg2 harg2 x0 (Rect.unit ![0, 0, 896] S1x256x128.size inb_S1x512x1024_S1x256x128_0_0_896))
      (loadAt arg7 harg7 x5 (Rect.unit ![0, 0] S256x128.size inb_S512x128_S256x128_0_0))
      (loadAt arg8 harg8 x6 (Rect.unit ![0, 0] S256x128.size inb_S512x128_S256x128_0_0))
      (loadAt arg14 harg14 xs0 (Rect.unit ![1, 0, 0] S1x4352x128.size inb_S2x4352x128_S1x4352x128_1_0_0))
      (loadAt arg15 harg15 xs1 (Rect.unit ![1, 0, 0] S1x4352x256.size inb_S2x4352x256_S1x4352x256_1_0_0)))
      (by sl_kernel_rfl) y).trans (unit_at x0 x5 x6 x9 xs0 xs1 0 7 _ ![1, 0, 0] ![0, 0] rfl rfl rfl
        (by intro i; apply loadAt_apply) (by intro i; apply loadAt_apply) (by intro i; apply loadAt_apply) (by intro i; apply loadAt_apply)
        (by intro i; apply loadAt_apply) (by intro i; apply loadAt_apply) y), ?_⟩
  refine List.forall_mem_cons.2 ⟨fun y => (congrFun (g := unitQ
      (loadAt arg11 harg11 x9 (Rect.unit ![0, 0] S1x128.size inb_S1x128_S1x128_0_0))
      (loadAt arg2 harg2 x0 (Rect.unit ![0, 0, 768] S1x256x128.size inb_S1x512x1024_S1x256x128_0_0_768))
      (loadAt arg7 harg7 x5 (Rect.unit ![0, 0] S256x128.size inb_S512x128_S256x128_0_0))
      (loadAt arg8 harg8 x6 (Rect.unit ![0, 0] S256x128.size inb_S512x128_S256x128_0_0))
      (loadAt arg14 harg14 xs0 (Rect.unit ![1, 0, 0] S1x4352x128.size inb_S2x4352x128_S1x4352x128_1_0_0))
      (loadAt arg15 harg15 xs1 (Rect.unit ![1, 0, 0] S1x4352x256.size inb_S2x4352x256_S1x4352x256_1_0_0)))
      (by sl_kernel_rfl) y).trans (unit_at x0 x5 x6 x9 xs0 xs1 0 6 _ ![1, 0, 0] ![0, 0] rfl rfl rfl
        (by intro i; apply loadAt_apply) (by intro i; apply loadAt_apply) (by intro i; apply loadAt_apply) (by intro i; apply loadAt_apply)
        (by intro i; apply loadAt_apply) (by intro i; apply loadAt_apply) y), ?_⟩
  refine List.forall_mem_cons.2 ⟨fun y => (congrFun (g := unitQ
      (loadAt arg11 harg11 x9 (Rect.unit ![0, 0] S1x128.size inb_S1x128_S1x128_0_0))
      (loadAt arg2 harg2 x0 (Rect.unit ![0, 0, 640] S1x256x128.size inb_S1x512x1024_S1x256x128_0_0_640))
      (loadAt arg7 harg7 x5 (Rect.unit ![0, 0] S256x128.size inb_S512x128_S256x128_0_0))
      (loadAt arg8 harg8 x6 (Rect.unit ![0, 0] S256x128.size inb_S512x128_S256x128_0_0))
      (loadAt arg14 harg14 xs0 (Rect.unit ![1, 0, 0] S1x4352x128.size inb_S2x4352x128_S1x4352x128_1_0_0))
      (loadAt arg15 harg15 xs1 (Rect.unit ![1, 0, 0] S1x4352x256.size inb_S2x4352x256_S1x4352x256_1_0_0)))
      (by sl_kernel_rfl) y).trans (unit_at x0 x5 x6 x9 xs0 xs1 0 5 _ ![1, 0, 0] ![0, 0] rfl rfl rfl
        (by intro i; apply loadAt_apply) (by intro i; apply loadAt_apply) (by intro i; apply loadAt_apply) (by intro i; apply loadAt_apply)
        (by intro i; apply loadAt_apply) (by intro i; apply loadAt_apply) y), ?_⟩
  refine List.forall_mem_cons.2 ⟨fun y => (congrFun (g := unitQ
      (loadAt arg11 harg11 x9 (Rect.unit ![0, 0] S1x128.size inb_S1x128_S1x128_0_0))
      (loadAt arg2 harg2 x0 (Rect.unit ![0, 0, 512] S1x256x128.size inb_S1x512x1024_S1x256x128_0_0_512))
      (loadAt arg7 harg7 x5 (Rect.unit ![0, 0] S256x128.size inb_S512x128_S256x128_0_0))
      (loadAt arg8 harg8 x6 (Rect.unit ![0, 0] S256x128.size inb_S512x128_S256x128_0_0))
      (loadAt arg14 harg14 xs0 (Rect.unit ![1, 0, 0] S1x4352x128.size inb_S2x4352x128_S1x4352x128_1_0_0))
      (loadAt arg15 harg15 xs1 (Rect.unit ![1, 0, 0] S1x4352x256.size inb_S2x4352x256_S1x4352x256_1_0_0)))
      (by sl_kernel_rfl) y).trans (unit_at x0 x5 x6 x9 xs0 xs1 0 4 _ ![1, 0, 0] ![0, 0] rfl rfl rfl
        (by intro i; apply loadAt_apply) (by intro i; apply loadAt_apply) (by intro i; apply loadAt_apply) (by intro i; apply loadAt_apply)
        (by intro i; apply loadAt_apply) (by intro i; apply loadAt_apply) y), ?_⟩
  refine List.forall_mem_cons.2 ⟨fun y => (congrFun (g := unitQ
      (loadAt arg11 harg11 x9 (Rect.unit ![0, 0] S1x128.size inb_S1x128_S1x128_0_0))
      (loadAt arg2 harg2 x0 (Rect.unit ![0, 0, 384] S1x256x128.size inb_S1x512x1024_S1x256x128_0_0_384))
      (loadAt arg7 harg7 x5 (Rect.unit ![0, 0] S256x128.size inb_S512x128_S256x128_0_0))
      (loadAt arg8 harg8 x6 (Rect.unit ![0, 0] S256x128.size inb_S512x128_S256x128_0_0))
      (loadAt arg14 harg14 xs0 (Rect.unit ![0, 0, 0] S1x4352x128.size inb_S2x4352x128_S1x4352x128_0_0_0))
      (loadAt arg15 harg15 xs1 (Rect.unit ![0, 0, 0] S1x4352x256.size inb_S2x4352x256_S1x4352x256_0_0_0)))
      (by sl_kernel_rfl) y).trans (unit_at x0 x5 x6 x9 xs0 xs1 0 3 _ ![0, 0, 0] ![0, 0] rfl rfl rfl
        (by intro i; apply loadAt_apply) (by intro i; apply loadAt_apply) (by intro i; apply loadAt_apply) (by intro i; apply loadAt_apply)
        (by intro i; apply loadAt_apply) (by intro i; apply loadAt_apply) y), ?_⟩
  refine List.forall_mem_cons.2 ⟨fun y => (congrFun (g := unitQ
      (loadAt arg11 harg11 x9 (Rect.unit ![0, 0] S1x128.size inb_S1x128_S1x128_0_0))
      (loadAt arg2 harg2 x0 (Rect.unit ![0, 0, 256] S1x256x128.size inb_S1x512x1024_S1x256x128_0_0_256))
      (loadAt arg7 harg7 x5 (Rect.unit ![0, 0] S256x128.size inb_S512x128_S256x128_0_0))
      (loadAt arg8 harg8 x6 (Rect.unit ![0, 0] S256x128.size inb_S512x128_S256x128_0_0))
      (loadAt arg14 harg14 xs0 (Rect.unit ![0, 0, 0] S1x4352x128.size inb_S2x4352x128_S1x4352x128_0_0_0))
      (loadAt arg15 harg15 xs1 (Rect.unit ![0, 0, 0] S1x4352x256.size inb_S2x4352x256_S1x4352x256_0_0_0)))
      (by sl_kernel_rfl) y).trans (unit_at x0 x5 x6 x9 xs0 xs1 0 2 _ ![0, 0, 0] ![0, 0] rfl rfl rfl
        (by intro i; apply loadAt_apply) (by intro i; apply loadAt_apply) (by intro i; apply loadAt_apply) (by intro i; apply loadAt_apply)
        (by intro i; apply loadAt_apply) (by intro i; apply loadAt_apply) y), ?_⟩
  refine List.forall_mem_cons.2 ⟨fun y => (congrFun (g := unitQ
      (loadAt arg11 harg11 x9 (Rect.unit ![0, 0] S1x128.size inb_S1x128_S1x128_0_0))
      (loadAt arg2 harg2 x0 (Rect.unit ![0, 0, 128] S1x256x128.size inb_S1x512x1024_S1x256x128_0_0_128))
      (loadAt arg7 harg7 x5 (Rect.unit ![0, 0] S256x128.size inb_S512x128_S256x128_0_0))
      (loadAt arg8 harg8 x6 (Rect.unit ![0, 0] S256x128.size inb_S512x128_S256x128_0_0))
      (loadAt arg14 harg14 xs0 (Rect.unit ![0, 0, 0] S1x4352x128.size inb_S2x4352x128_S1x4352x128_0_0_0))
      (loadAt arg15 harg15 xs1 (Rect.unit ![0, 0, 0] S1x4352x256.size inb_S2x4352x256_S1x4352x256_0_0_0)))
      (by sl_kernel_rfl) y).trans (unit_at x0 x5 x6 x9 xs0 xs1 0 1 _ ![0, 0, 0] ![0, 0] rfl rfl rfl
        (by intro i; apply loadAt_apply) (by intro i; apply loadAt_apply) (by intro i; apply loadAt_apply) (by intro i; apply loadAt_apply)
        (by intro i; apply loadAt_apply) (by intro i; apply loadAt_apply) y), ?_⟩
  refine List.forall_mem_cons.2 ⟨fun y => (congrFun (g := unitQ
      (loadAt arg11 harg11 x9 (Rect.unit ![0, 0] S1x128.size inb_S1x128_S1x128_0_0))
      (loadAt arg2 harg2 x0 (Rect.unit ![0, 0, 0] S1x256x128.size inb_S1x512x1024_S1x256x128_0_0_0))
      (loadAt arg7 harg7 x5 (Rect.unit ![0, 0] S256x128.size inb_S512x128_S256x128_0_0))
      (loadAt arg8 harg8 x6 (Rect.unit ![0, 0] S256x128.size inb_S512x128_S256x128_0_0))
      (loadAt arg14 harg14 xs0 (Rect.unit ![0, 0, 0] S1x4352x128.size inb_S2x4352x128_S1x4352x128_0_0_0))
      (loadAt arg15 harg15 xs1 (Rect.unit ![0, 0, 0] S1x4352x256.size inb_S2x4352x256_S1x4352x256_0_0_0)))
      (by sl_kernel_rfl) y).trans (unit_at x0 x5 x6 x9 xs0 xs1 0 0 _ ![0, 0, 0] ![0, 0] rfl rfl rfl
        (by intro i; apply loadAt_apply) (by intro i; apply loadAt_apply) (by intro i; apply loadAt_apply) (by intro i; apply loadAt_apply)
        (by intro i; apply loadAt_apply) (by intro i; apply loadAt_apply) y), ?_⟩
  exact fun p hp => absurd hp List.not_mem_nil

/-- So what the point leaves in the block is `blockFn`. -/
theorem out_B (c : Dev nD) (i : grid0.Coords) (arg2 : Memref sig .tc .vmem S1x512x1024 .bf16) (harg2 : arg2.IsWhole) (arg3 : Memref sig .tc .vmem S1x256x256 .bf16) (harg3 : arg3.IsWhole) (arg4 : Memref sig .tc .vmem S1x4096x256 .bf16) (harg4 : arg4.IsWhole) (arg5 : Memref sig .tc .vmem S1x256x256 .bf16) (harg5 : arg5.IsWhole) (arg6 : Memref sig .tc .vmem S1x4096x256 .bf16) (harg6 : arg6.IsWhole) (arg7 : Memref sig .tc .vmem S512x128 .f32) (harg7 : arg7.IsWhole) (arg8 : Memref sig .tc .vmem S512x128 .f32) (harg8 : arg8.IsWhole) (arg9 : Memref sig .tc .vmem S4096x128 .f32) (harg9 : arg9.IsWhole) (arg10 : Memref sig .tc .vmem S4096x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x512x1024 .bf16) (harg13 : arg13.IsWhole) (arg14 : Memref sig .tc .vmem S2x4352x128 .bf16) (harg14 : arg14.IsWhole) (arg15 : Memref sig .tc .vmem S2x4352x256 .bf16) (harg15 : arg15.IsWhole) (hc0 : ¬cond0_0 i)
    (x0 : Vec Ideal S1x512x1024 .bf16) (x1 : Vec Ideal S1x256x256 .bf16) (x2 : Vec Ideal S1x4096x256 .bf16) (x3 : Vec Ideal S1x256x256 .bf16) (x4 : Vec Ideal S1x4096x256 .bf16) (x5 : Vec Ideal S512x128 .f32) (x6 : Vec Ideal S512x128 .f32) (x7 : Vec Ideal S4096x128 .f32) (x8 : Vec Ideal S4096x128 .f32) (x9 : Vec Ideal S1x128 .f32) (x10 : Vec Ideal S1x128 .f32) (xs0 : Vec Ideal S2x4352x128 .bf16) (xs1 : Vec Ideal S2x4352x256 .bf16) :
    out0_B_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xs0 xs1 = blockFn x0 x5 x6 x9 xs0 xs1 := by
  unfold out0_B_11
  rw [View.read_writes_junk_eq_canon]
  funext y
  exact View.canon_apply_of_pieces (Val := Elt Ideal) _ _ (pieces_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xs0 xs1) y (cover0_B_11 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 x9 x10 xs0 xs1 y)

end Cert.Attn

end
-- ==== Proof.Points.lean ====
module

public import proofs.«01_k».proof.Proof.CaseA
public import proofs.«01_k».proof.Proof.CaseB
public import proofs.«01_k».proof.Proof.Gen.KernelIdeal.Value
public import Idealize.ShloMosaic.Lib.Pipeline.ValueKit

/-! What every grid point leaves, and the blocks it works on as places of the whole arrays. -/

@[expose] public section

set_option maxRecDepth 16384

noncomputable section

namespace Cert.Attn

open Idealize.ShloMosaic Idealize.SL.Sem Cert.KernelIdeal Cert.KernelIdeal.Gen

variable (m : (ℓ : Loc nD τ sig) → Buf (Elt Ideal) ℓ) (c : Dev nD)

/-- A grid point belongs to one of the four batches. -/
theorem batch_lt (t : Fin cfg0.N) : t.val / 8 < 4 := by
  have := lt_of_lt_of_eq t.isLt (show cfg0.N = 32 from N_0); omega

/-- The batch of a grid point. -/
def bat (t : Fin cfg0.N) : Fin 4 := ⟨t.val / 8, batch_lt t⟩

/-- The block of rows of a grid point within its batch. -/
def rowb (t : Fin cfg0.N) : Fin 8 := ⟨t.val % 8, Nat.mod_lt _ (by decide)⟩

/-- Where each window's block lies, over the grid. -/
theorem idx_at : ∀ t : Fin cfg0.N,
    win0_0.index t = ![t.val / 8, t.val % 8, 0] ∧ win0_1.index t = ![t.val / 8, 0, 4]
    ∧ win0_2.index t = ![t.val / 8, 0, 4] ∧ win0_3.index t = ![t.val / 8, 0, 5]
    ∧ win0_4.index t = ![t.val / 8, 0, 5] ∧ win0_5.index t = ![t.val % 8, 0]
    ∧ win0_6.index t = ![t.val % 8, 0] ∧ win0_7.index t = ![0, 0]
    ∧ win0_8.index t = ![0, 0] ∧ win0_9.index t = ![0, 0] ∧ win0_10.index t = ![0, 0] :=
  (by decide +kernel : ∀ t : Fin grid0.N, _)

/-- The context keys of a point. -/
theorem blk_1 (t : Fin cfg0.N) (q : Fin 1) (j d : Fin 256) :
    (iblk m c 1 t : Vec Ideal S1x256x256 .bf16) (ix3 q j d)
      = (V m c main_arg1 : Vec Ideal S4x256x11776 .bf16) (ix3 (bat t) j ⟨1024 + d.val, by omega⟩) := by
  have h := (idx_at t).2.1
  unfold bat
  blk_ext [iblk, h]

/-- The sequence keys of a point. -/
theorem blk_2 (t : Fin cfg0.N) (q : Fin 1) (j : Fin 4096) (d : Fin 256) :
    (iblk m c 2 t : Vec Ideal S1x4096x256 .bf16) (ix3 q j d)
      = (V m c main_arg0 : Vec Ideal S4x4096x11776 .bf16) (ix3 (bat t) j ⟨1024 + d.val, by omega⟩) := by
  have h := (idx_at t).2.2.1
  unfold bat
  blk_ext [iblk, h]

/-- The context values of a point. -/
theorem blk_3 (t : Fin cfg0.N) (q : Fin 1) (j d : Fin 256) :
    (iblk m c 3 t : Vec Ideal S1x256x256 .bf16) (ix3 q j d)
      = (V m c main_arg1 : Vec Ideal S4x256x11776 .bf16) (ix3 (bat t) j ⟨1280 + d.val, by omega⟩) := by
  have h := (idx_at t).2.2.2.1
  unfold bat
  blk_ext [iblk, h]

/-- The sequence values of a point. -/
theorem blk_4 (t : Fin cfg0.N) (q : Fin 1) (j : Fin 4096) (d : Fin 256) :
    (iblk m c 4 t : Vec Ideal S1x4096x256 .bf16) (ix3 q j d)
      = (V m c main_arg0 : Vec Ideal S4x4096x11776 .bf16) (ix3 (bat t) j ⟨1280 + d.val, by omega⟩) := by
  have h := (idx_at t).2.2.2.2.1
  unfold bat
  blk_ext [iblk, h]

/-- The rows of the first table that a point turns its queries by. -/
theorem blk_5 (t : Fin cfg0.N) (r : Fin 512) (d : Fin 128) :
    (iblk m c 5 t : Vec Ideal S512x128 .f32) (ix2 r d)
      = (V m c main_v24 : Vec Ideal S4096x128 .f32) (ix2 ⟨512 * (rowb t).val + r.val, by omega⟩ d) := by
  have h := (idx_at t).2.2.2.2.2.1
  unfold rowb
  blk_ext [iblk, h]

/-- The rows of the second table that a point turns its queries by. -/
theorem blk_6 (t : Fin cfg0.N) (r : Fin 512) (d : Fin 128) :
    (iblk m c 6 t : Vec Ideal S512x128 .f32) (ix2 r d)
      = (V m c main_v26 : Vec Ideal S4096x128 .f32) (ix2 ⟨512 * (rowb t).val + r.val, by omega⟩ d) := by
  have h := (idx_at t).2.2.2.2.2.2.1
  unfold rowb
  blk_ext [iblk, h]

/-- The first table, whole. -/
theorem blk_7 (t : Fin cfg0.N) (r : Fin 4096) (d : Fin 128) :
    (iblk m c 7 t : Vec Ideal S4096x128 .f32) (ix2 r d)
      = (V m c main_v24 : Vec Ideal S4096x128 .f32) (ix2 r d) := by
  have h := (idx_at t).2.2.2.2.2.2.2.1
  blk_ext [iblk, h]

/-- The second table, whole. -/
theorem blk_8 (t : Fin cfg0.N) (r : Fin 4096) (d : Fin 128) :
    (iblk m c 8 t : Vec Ideal S4096x128 .f32) (ix2 r d)
      = (V m c main_v26 : Vec Ideal S4096x128 .f32) (ix2 r d) := by
  have h := (idx_at t).2.2.2.2.2.2.2.2.1
  blk_ext [iblk, h]

/-- The weights of the query norm. -/
theorem blk_9 (t : Fin cfg0.N) (r : Fin 1) (d : Fin 128) :
    (iblk m c 9 t : Vec Ideal S1x128 .f32) (ix2 r d)
      = (V m c main_v27 : Vec Ideal S1x128 .f32) (ix2 r d) := by
  have h := (idx_at t).2.2.2.2.2.2.2.2.2.1
  blk_ext [iblk, h]

/-- The weights of the key norm. -/
theorem blk_10 (t : Fin cfg0.N) (r : Fin 1) (d : Fin 128) :
    (iblk m c 10 t : Vec Ideal S1x128 .f32) (ix2 r d)
      = (V m c main_v28 : Vec Ideal S1x128 .f32) (ix2 r d) := by
  have h := (idx_at t).2.2.2.2.2.2.2.2.2.2
  blk_ext [iblk, h]

/-- The queries of a point. -/
theorem blk_0 (t : Fin cfg0.N) (q : Fin 1) (r : Fin 512) (d : Fin 1024) :
    (X0_0 m c t : Vec Ideal S1x512x1024 .bf16) (ix3 q r d)
      = (V m c main_arg0 : Vec Ideal S4x4096x11776 .bf16)
          (ix3 (bat t) ⟨512 * (rowb t).val + r.val, by omega⟩ ⟨d.val, by omega⟩) := by
  have h := (idx_at t).1
  unfold X0_0 Pipeline.Window.fill bat rowb
  rw [dif_pos (moved0_0 t _)]
  blk_ext [iblk, h]

end Cert.Attn

end
-- ==== Proof.Sweep.lean ====
module

public import proofs.«01_k».proof.Proof.Points

/-! What the grid leaves: after every point the scratch buffers hold the keys and the values of the point's batch, and
the output block is `blockFn` of them. -/

@[expose] public section

set_option maxRecDepth 16384

noncomputable section

namespace Cert.Attn

open Idealize.ShloMosaic Idealize.SL.Sem Cert.KernelIdeal Cert.KernelIdeal.Gen

/-- 256 columns of one batch of the context, from column `o` on. -/
def colsC (A : FVec Ideal S4x256x11776 .bf16) (b : Fin 4) (o : ℕ) (ho : o + 256 ≤ 11776) : FVec Ideal S1x256x256 .bf16 :=
  fun y => A (ix3 b (y 1) ⟨o + (y 2).val, by have : (y 2).val < 256 := (y 2).isLt; omega⟩)

/-- 256 columns of one batch of the sequence, from column `o` on. -/
def colsS (A : FVec Ideal S4x4096x11776 .bf16) (b : Fin 4) (o : ℕ) (ho : o + 256 ≤ 11776) : FVec Ideal S1x4096x256 .bf16 :=
  fun y => A (ix3 b (y 1) ⟨o + (y 2).val, by have : (y 2).val < 256 := (y 2).isLt; omega⟩)

variable (m : (ℓ : Loc nD τ sig) → Buf (Elt Ideal) ℓ) (c : Dev nD)

/-- The keys of a batch. -/
def keysOf (b : Fin 4) : S2x4352x128.Idx → EReal :=
  keyFn (colsC (V m c main_arg1) b 1024 (by decide)) (colsS (V m c main_arg0) b 1024 (by decide))
    (V m c main_v24) (V m c main_v26) (V m c main_v28)

/-- The values of a batch. -/
def valsOf (b : Fin 4) : S2x4352x256.Idx → EReal :=
  valFn (colsC (V m c main_arg1) b 1280 (by decide)) (colsS (V m c main_arg0) b 1280 (by decide))

theorem arr_1 (t : Fin cfg0.N) : (iblk m c 1 t : FVec Ideal S1x256x256 .bf16) = colsC (V m c main_arg1) (bat t) 1024 (by decide) :=
  funext fun y => by rw [eq_ix3 y]; exact blk_1 m c t _ _ _
theorem arr_2 (t : Fin cfg0.N) : (iblk m c 2 t : FVec Ideal S1x4096x256 .bf16) = colsS (V m c main_arg0) (bat t) 1024 (by decide) :=
  funext fun y => by rw [eq_ix3 y]; exact blk_2 m c t _ _ _
theorem arr_3 (t : Fin cfg0.N) : (iblk m c 3 t : FVec Ideal S1x256x256 .bf16) = colsC (V m c main_arg1) (bat t) 1280 (by decide) :=
  funext fun y => by rw [eq_ix3 y]; exact blk_3 m c t _ _ _
theorem arr_4 (t : Fin cfg0.N) : (iblk m c 4 t : FVec Ideal S1x4096x256 .bf16) = colsS (V m c main_arg0) (bat t) 1280 (by decide) :=
  funext fun y => by rw [eq_ix3 y]; exact blk_4 m c t _ _ _
theorem arr_7 (t : Fin cfg0.N) : (iblk m c 7 t : FVec Ideal S4096x128 .f32) = V m c main_v24 :=
  funext fun y => by rw [eq_ix2 y]; exact blk_7 m c t _ _
theorem arr_8 (t : Fin cfg0.N) : (iblk m c 8 t : FVec Ideal S4096x128 .f32) = V m c main_v26 :=
  funext fun y => by rw [eq_ix2 y]; exact blk_8 m c t _ _
theorem arr_10 (t : Fin cfg0.N) : (iblk m c 10 t : FVec Ideal S1x128 .f32) = V m c main_v28 :=
  funext fun y => by rw [eq_ix2 y]; exact blk_10 m c t _ _

/-- The keys a batch's first point computes are the batch's. -/
theorem keys_at (t : Fin cfg0.N) :
    keyFn (iblk m c 1 t) (iblk m c 2 t) (iblk m c 7 t) (iblk m c 8 t) (iblk m c 10 t) = keysOf m c (bat t) := by
  unfold keysOf
  rw [← arr_1 m c t, ← arr_2 m c t, ← arr_7 m c t, ← arr_8 m c t, ← arr_10 m c t]

/-- The values a batch's first point copies are the batch's. -/
theorem vals_at (t : Fin cfg0.N) : valFn (iblk m c 3 t) (iblk m c 4 t) = valsOf m c (bat t) := by
  unfold valsOf
  rw [← arr_3 m c t, ← arr_4 m c t]

/-- What a point leaves: its output block and the two scratch buffers. -/
def leftAt (t : Fin cfg0.N) : Vec Ideal S1x512x1024 .bf16 × Vec Ideal S2x4352x128 .bf16 × Vec Ideal S2x4352x256 .bf16 :=
  (blockFn (X0_0 m c t) (iblk m c 5 t) (iblk m c 6 t) (iblk m c 9 t) (keysOf m c (bat t)) (valsOf m c (bat t)),
    keysOf m c (bat t), valsOf m c (bat t))

/-- After every point the buffers hold `leftAt`. -/
theorem left_eq (n : ℕ) : ∀ hn : n < cfg0.N, outsAt0 m c n hn = leftAt m c ⟨n, hn⟩ := by
  induction n with
  | zero =>
    intro hn
    rw [outsAt0_A m c ⟨0, hn⟩ rfl, out_A, keys_A, vals_A, keys_at, vals_at]
    rfl
  | succ k ih =>
    intro hn
    by_cases h : (k + 1) % 8 = 0
    · rw [outsAt0_A m c ⟨k + 1, hn⟩ h, out_A, keys_A, vals_A, keys_at, vals_at]
      rfl
    · have hb : bat ⟨k, by omega⟩ = bat ⟨k + 1, hn⟩ := Fin.ext (show k / 8 = (k + 1) / 8 by omega)
      rw [outsAt0_B m c ⟨k + 1, hn⟩ h, out_B]
      have e : outsAt0 m c (k + 1 - 1) (Nat.lt_of_le_of_lt (Nat.sub_le _ _) hn) = leftAt m c ⟨k, by omega⟩ := ih _
      have e1 : (outsAt0 m c (k + 1 - 1) (Nat.lt_of_le_of_lt (Nat.sub_le _ _) hn)).2.1 = keysOf m c (bat ⟨k + 1, hn⟩) := by
        rw [e, ← hb]; rfl
      have e2 : (outsAt0 m c (k + 1 - 1) (Nat.lt_of_le_of_lt (Nat.sub_le _ _) hn)).2.2 = valsOf m c (bat ⟨k + 1, hn⟩) := by
        rw [e, ← hb]; rfl
      unfold sout0_B_0 sout0_B_1 leftAt
      rw [← e1, ← e2]

/-- The grid point that computes row `l` of batch `b`. -/
def ptOf (b : Fin 4) (l : Fin 4096) : Fin cfg0.N :=
  ⟨8 * b.val + l.val / 512, lt_of_lt_of_eq (by omega) N_0.symm⟩

/-- What the array of results ends holding, at batch `b`, row `l`, head `g`, column `d`. -/
theorem G11_at (b : Fin 4) (l : Fin 4096) (g : Fin 8) (d : Fin 128) (i : S4x4096x1024.Idx) (h0 : (i 0).val = b.val)
    (h1 : (i 1).val = l.val) (h2 : (i 2).val = 128 * g.val + d.val) :
    (Value.G11 m c : FVec Ideal S4x4096x1024 .bf16) i
      = blockOut (X0_0 m c (ptOf b l)) (iblk m c 5 (ptOf b l)) (iblk m c 6 (ptOf b l)) (iblk m c 9 (ptOf b l))
          (keysOf m c b) (valsOf m c b) ⟨l.val % 512, Nat.mod_lt _ (by decide)⟩ g d := by
  have hp : Value.pt11Of i = (ptOf b l).val := by
    show 8 * ((i 0).val / 1 - 0) + 1 * ((i 1).val / 512 - 0) + 1 * ((i 2).val / 1024 - 0) = 8 * b.val + l.val / 512
    omega
  have hb : bat (ptOf b l) = b := Fin.ext (show (8 * b.val + l.val / 512) / 8 = b.val by omega)
  have hlt : Value.pt11Of i < cfg0.N := by rw [hp]; exact (ptOf b l).isLt
  show Value.G11 m c i = _
  unfold Value.G11
  rw [dif_pos hlt, ← Value.outsAt0_sweep m c _ hlt, left_eq]
  have ht : (⟨Value.pt11Of i, hlt⟩ : Fin cfg0.N) = ptOf b l := Fin.ext hp
  rw [ht]
  unfold leftAt
  rw [hb]
  refine blockFn_ix3 _ _ _ _ _ _ _ ⟨l.val % 512, Nat.mod_lt _ (by decide)⟩ g d ?_ ?_
  · show (i 1).val % 512 = l.val % 512
    rw [h1]
  · show (i 2).val % 1024 = 128 * g.val + d.val
    omega

end Cert.Attn

end
-- ==== Proof.Tables.lean ====
module

public import proofs.«01_k».proof.Proof.Sweep
public import proofs.«01_k».proof.Proof.Gen.ReferenceIdeal.Read
public import Idealize.ShloMosaic.Lib.StableHlo.RunRead
public import Idealize.ShloMosaic.Lib.Claim
public import Idealize.ShloMosaic.Lib.Tactic.ValueTie

/-! The tables of cosines and sines, which both programs compute from the positions, and the weights the kernel is
handed as rows. -/

@[expose] public section

set_option maxRecDepth 16384

noncomputable section

namespace Cert.Attn

open Idealize.ShloMosaic Idealize.SL.Sem Cert.KernelIdeal Cert.KernelIdeal.Gen

/-- The cosine of the angle of row `l`, column `k`. -/
def cosT (l : Fin 4096) (k : Fin 64) : EReal := (ReferenceIdeal.Read.val_main_v24 (F := Ideal) : FVec Ideal S4096x64 .f32) (ix2 l k)

/-- The sine of the angle of row `l`, column `k`. -/
def sinT (l : Fin 4096) (k : Fin 64) : EReal := (ReferenceIdeal.Read.val_main_v25 (F := Ideal) : FVec Ideal S4096x64 .f32) (ix2 l k)

/-- The column of a 64-column table that column `d` of a head stands at. -/
def half (d : Fin 128) : Fin 64 := ⟨d.val % 64, Nat.mod_lt _ (by decide)⟩

section
variable (m : (ℓ : Loc nD τ sig) → Buf (Elt Ideal) ℓ) (c : Dev nD)

/-- The kernel's first table is the cosines twice. -/
theorem tab_cos : (V m c main_v24 : FVec Ideal S4096x128 .f32)
    = concatenate S4096x128 1 [⟨S4096x64, ReferenceIdeal.Read.val_main_v24 (F := Ideal)⟩,
        ⟨S4096x64, ReferenceIdeal.Read.val_main_v24 (F := Ideal)⟩] concatenates_S4096x64_S4096x64_S4096x128_d1 := by
  show StableHlo.after (List.flatten [hostOps0, hostOps0_1, hostOps0_2, hostOps0_3, hostOps0_4]) (fun b => m (c, b)) _ = _
  unfold_abbrev_sides
  after_reads_simp
  sl_kernel_rfl

/-- The kernel's second table is the sines, negated in its left half. -/
theorem tab_sin : (V m c main_v26 : FVec Ideal S4096x128 .f32)
    = concatenate S4096x128 1 [⟨S4096x64, Host.negf (F := Ideal) (s := S4096x64) (φ := .f32) (ReferenceIdeal.Read.val_main_v25 (F := Ideal))⟩,
        ⟨S4096x64, ReferenceIdeal.Read.val_main_v25 (F := Ideal)⟩] concatenates_S4096x64_S4096x64_S4096x128_d1 := by
  show StableHlo.after (List.flatten [hostOps0, hostOps0_1, hostOps0_2, hostOps0_3, hostOps0_4]) (fun b => m (c, b)) _ = _
  unfold_abbrev_sides
  after_reads_simp
  sl_kernel_rfl

/-- The weights of the query norm, as a row. -/
theorem row_q : (V m c main_v27 : FVec Ideal S1x128 .f32)
    = shapeCast S1x128 (m ((c.tc : Thread nD τ).loc main_arg2) : FVec Ideal S128 .f32) (h := shapeCasts_S128_S1x128) := by
  show StableHlo.after (List.flatten [hostOps0, hostOps0_1, hostOps0_2, hostOps0_3, hostOps0_4]) (fun b => m (c, b)) _ = _
  unfold_abbrev_sides
  after_reads_simp
  rfl

/-- The weights of the key norm, as a row. -/
theorem row_k : (V m c main_v28 : FVec Ideal S1x128 .f32)
    = shapeCast S1x128 (m ((c.tc : Thread nD τ).loc main_arg3) : FVec Ideal S128 .f32) (h := shapeCasts_S128_S1x128) := by
  show StableHlo.after (List.flatten [hostOps0, hostOps0_1, hostOps0_2, hostOps0_3, hostOps0_4]) (fun b => m (c, b)) _ = _
  unfold_abbrev_sides
  after_reads_simp
  rfl

/-- The first table at a row and a column. -/
theorem tab_cos_at (l : Fin 4096) (d : Fin 128) : (V m c main_v24 : FVec Ideal S4096x128 .f32) (ix2 l d) = cosT l (half d) := by
  rw [tab_cos]
  unfold cosT half
  generalize (ReferenceIdeal.Read.val_main_v24 (F := Ideal)) = T
  pointwise
  split
  · next h => simp only [Nat.mod_eq_of_lt h]
  · next h =>
    have e : d.val % 64 = d.val - 64 := by omega
    simp only [e]

/-- The second table at a row and a column. -/
theorem tab_sin_at (l : Fin 4096) (d : Fin 128) : (V m c main_v26 : FVec Ideal S4096x128 .f32) (ix2 l d)
    = if d.val < 64 then -sinT l (half d) else sinT l (half d) := by
  rw [tab_sin]
  unfold sinT half
  generalize (ReferenceIdeal.Read.val_main_v25 (F := Ideal)) = T
  pointwise
  split
  · next h => simp only [Nat.mod_eq_of_lt h]
  · next h =>
    have e : d.val % 64 = d.val - 64 := by omega
    simp only [e]

theorem row_q_at (d : Fin 128) : (V m c main_v27 : FVec Ideal S1x128 .f32) (ix2 0 d)
    = (m ((c.tc : Thread nD τ).loc main_arg2) : FVec Ideal S128 .f32) (ix1 d) := by
  rw [row_q]
  pointwise
theorem row_k_at (d : Fin 128) : (V m c main_v28 : FVec Ideal S1x128 .f32) (ix2 0 d)
    = (m ((c.tc : Thread nD τ).loc main_arg3) : FVec Ideal S128 .f32) (ix1 d) := by
  rw [row_k]
  pointwise
end

section
open ReferenceIdeal.Read

theorem ofBits_32 : Ideal.ofBits .f32 0x42000000#32 = ((32 : ℝ) : EReal) := by
  simp [Ideal.ofBits, Ideal.ieee, -EReal.coe_mul]; norm_num

theorem ofBits_10000 : Ideal.ofBits .f32 0x461C4000#32 = ((10000 : ℝ) : EReal) := by
  simp [Ideal.ofBits, Ideal.ieee, -EReal.coe_mul]; norm_num

/-- Every angle is real. -/
theorem angle_isR (i : S4096x64.Idx) : IsR ((val_main_v23 (F := Ideal) : FVec Ideal S4096x64 .f32) i) := by
  have hf : ∀ i : S32.Idx, IsR ((val_main_v12 (F := Ideal) : FVec Ideal S32 .f32) i) := by
    intro i
    rw [val_main_v12_apply, val_main_v11_apply, val_main_cst_1_apply, val_main_v10_apply, val_main_v8_apply,
      val_main_v9_apply, val_main_cst_apply]
    show IsR (Ideal.pow (Ideal.ofBits .f32 0x461C4000#32)
      (Ideal.div (-(((((iotaInDim S32 32 0 i : BitVec 32).toInt : ℤ) : ℝ)) : EReal)) (Ideal.ofBits .f32 0x42000000#32)))
    rw [ofBits_32, ofBits_10000]
    unfold Ideal.div
    rw [if_neg (by exact_mod_cast (by norm_num : (32 : ℝ) ≠ 0)), ← EReal.coe_inv, ← EReal.coe_neg, ← EReal.coe_mul]
    exact IsR.coe _
  have h17 : ∀ i, IsR ((val_main_v17 (F := Ideal) : FVec Ideal S4096x32 .f32) i) := by
    intro i
    rw [val_main_v17_apply, val_main_v15_apply, val_main_v16_apply, val_main_v13_apply, val_main_v14_apply, val_main_v4_apply]
    exact IsR.mul (IsR.coe _) (hf _)
  have h22 : ∀ i, IsR ((val_main_v22 (F := Ideal) : FVec Ideal S4096x32 .f32) i) := by
    intro i
    rw [val_main_v22_apply, val_main_v20_apply, val_main_v21_apply, val_main_v18_apply, val_main_v19_apply, val_main_v6_apply]
    exact IsR.mul (IsR.coe _) (hf _)
  rw [eq_ix2 i]
  unfold val_main_v23
  revert h17 h22
  generalize (val_main_v17 (F := Ideal)) = A
  generalize (val_main_v22 (F := Ideal)) = B
  intro h17 h22
  pointwise
  split
  · exact h17 _
  · exact h22 _

/-- Every cosine is real. -/
theorem cosT_isR (l : Fin 4096) (k : Fin 64) : IsR (cosT l k) := by
  unfold cosT
  rw [val_main_v24_apply]
  obtain ⟨r, hr⟩ := angle_isR (ix2 l k)
  rw [hr]
  exact IsR.coe _

/-- Every sine is real. -/
theorem sinT_isR (l : Fin 4096) (k : Fin 64) : IsR (sinT l k) := by
  unfold sinT
  rw [val_main_v25_apply]
  obtain ⟨r, hr⟩ := angle_isR (ix2 l k)
  rw [hr]
  exact IsR.coe _
end

end Cert.Attn

end
-- ==== Proof.RefRead.lean ====
module

public import proofs.«01_k».proof.Proof.Tables

/-! The reference, read at an index. -/

@[expose] public section

set_option maxRecDepth 16384

noncomputable section

namespace Cert.Attn

open Idealize.ShloMosaic Cert.ReferenceIdeal Cert.ReferenceIdeal.Gen Cert.ReferenceIdeal.Read

/-- A rotated head: the left half is `x₁ cos - x₂ sin`, the right half `x₂ cos + x₁ sin`. -/
def rotE (a : Fin 128 → EReal) (l : Fin 4096) (d : Fin 128) : EReal :=
  if d.val < 64 then a d * cosT l (half d) - a (swp d) * sinT l (half d)
  else a d * cosT l (half d) + a (swp d) * sinT l (half d)

variable (x0 : FVec Ideal S4x4096x11776 .bf16) (x1 : FVec Ideal S4x256x11776 .bf16) (x2 x3 : FVec Ideal S128 .f32)

/-- The queries, by head. -/
theorem r31 (b : Fin 4) (l : Fin 4096) (g : Fin 8) (d : Fin 128) :
    (val_main_v31 (F := Ideal) x0 : FVec Ideal S4x4096x8x128 .f32) (ix4 b l g d) = x0 (ix3 b l ⟨128 * g.val + d.val, by omega⟩) := by
  unfold val_main_v31 val_main_v26 val_main_v0
  pointwise
  congr 2; apply Fin.ext; show _ = _; dsimp only; omega

/-- The keys of the sequence, by head. -/
theorem r60 (b : Fin 4) (l : Fin 4096) (g : Fin 2) (d : Fin 128) :
    (val_main_v60 (F := Ideal) x0 : FVec Ideal S4x4096x2x128 .f32) (ix4 b l g d) = x0 (ix3 b l ⟨1024 + 128 * g.val + d.val, by omega⟩) := by
  unfold val_main_v60 val_main_v27 val_main_v0
  pointwise
  congr 2; apply Fin.ext; show _ = _; dsimp only; omega

/-- The values of the sequence, by head. -/
theorem r89 (b : Fin 4) (l : Fin 4096) (g : Fin 2) (d : Fin 128) :
    (val_main_v89 (F := Ideal) x0 : FVec Ideal S4x4096x2x128 .f32) (ix4 b l g d) = x0 (ix3 b l ⟨1280 + 128 * g.val + d.val, by omega⟩) := by
  unfold val_main_v89 val_main_v28 val_main_v0
  pointwise
  congr 2; apply Fin.ext; show _ = _; dsimp only; omega

/-- The keys of the context, by head. -/
theorem r90 (b : Fin 4) (l : Fin 256) (g : Fin 2) (d : Fin 128) :
    (val_main_v90 (F := Ideal) x1 : FVec Ideal S4x256x2x128 .f32) (ix4 b l g d) = x1 (ix3 b l ⟨1024 + 128 * g.val + d.val, by omega⟩) := by
  unfold val_main_v90 val_main_v29 val_main_v1
  pointwise
  congr 2; apply Fin.ext; show _ = _; dsimp only; omega

/-- The values of the context, by head. -/
theorem r104 (b : Fin 4) (l : Fin 256) (g : Fin 2) (d : Fin 128) :
    (val_main_v104 (F := Ideal) x1 : FVec Ideal S4x256x2x128 .f32) (ix4 b l g d) = x1 (ix3 b l ⟨1280 + 128 * g.val + d.val, by omega⟩) := by
  unfold val_main_v104 val_main_v30 val_main_v1
  pointwise
  congr 2; apply Fin.ext; show _ = _; dsimp only; omega

/-- The queries, normed. -/
theorem r44 (b : Fin 4) (l : Fin 4096) (g : Fin 8) (d : Fin 128) :
    (val_main_v44 (F := Ideal) x0 x2 : FVec Ideal S4x4096x8x128 .f32) (ix4 b l g d)
      = rmsE (fun d => x0 (ix3 b l ⟨128 * g.val + d.val, by omega⟩)) (fun d => x2 (ix1 d)) d := by
  simp only [← r31]
  unfold val_main_v44 val_main_v43 val_main_v42 val_main_v41 val_main_v40 val_main_v39 val_main_v38 val_main_v37 val_main_v36 val_main_v35 val_main_v34 val_main_v33 val_main_v32 val_main_cst_2 val_main_cst_3 val_main_cst_4 rmsE
  generalize (val_main_v31 (F := Ideal) x0) = A
  pointwise

/-- The keys of the sequence, normed. -/
theorem r73 (b : Fin 4) (l : Fin 4096) (g : Fin 2) (d : Fin 128) :
    (val_main_v73 (F := Ideal) x0 x3 : FVec Ideal S4x4096x2x128 .f32) (ix4 b l g d)
      = rmsE (fun d => x0 (ix3 b l ⟨1024 + 128 * g.val + d.val, by omega⟩)) (fun d => x3 (ix1 d)) d := by
  simp only [← r60]
  unfold val_main_v73 val_main_v72 val_main_v71 val_main_v70 val_main_v69 val_main_v68 val_main_v67 val_main_v66 val_main_v65 val_main_v64 val_main_v63 val_main_v62 val_main_v61 val_main_cst_5 val_main_cst_6 val_main_cst_7 rmsE
  generalize (val_main_v60 (F := Ideal) x0) = A
  pointwise

/-- The keys of the context, normed. -/
theorem r103 (b : Fin 4) (l : Fin 256) (g : Fin 2) (d : Fin 128) :
    (val_main_v103 (F := Ideal) x1 x3 : FVec Ideal S4x256x2x128 .f32) (ix4 b l g d)
      = rmsE (fun d => x1 (ix3 b l ⟨1024 + 128 * g.val + d.val, by omega⟩)) (fun d => x3 (ix1 d)) d := by
  simp only [← r90]
  unfold val_main_v103 val_main_v102 val_main_v101 val_main_v100 val_main_v99 val_main_v98 val_main_v97 val_main_v96 val_main_v95 val_main_v94 val_main_v93 val_main_v92 val_main_v91 val_main_cst_8 val_main_cst_9 val_main_cst_10 rmsE
  generalize (val_main_v90 (F := Ideal) x1) = A
  pointwise

/-- The queries, turned. -/
theorem r59 (b : Fin 4) (l : Fin 4096) (g : Fin 8) (d : Fin 128) :
    (val_main_v59 (F := Ideal) x0 x2 : FVec Ideal S4x4096x8x128 .f32) (ix4 b l g d)
      = rotE (rmsE (fun d => x0 (ix3 b l ⟨128 * g.val + d.val, by omega⟩)) (fun d => x2 (ix1 d))) l d := by
  unfold rotE
  simp only [← r44]
  unfold val_main_v59 val_main_v58 val_main_v57 val_main_v56 val_main_v55 val_main_v54 val_main_v53 val_main_v52 val_main_v51 val_main_v50 val_main_v49 val_main_v48 val_main_v47 val_main_v46 val_main_v45 cosT sinT
  generalize (val_main_v44 (F := Ideal) x0 x2) = A
  generalize (val_main_v24 (F := Ideal)) = C
  generalize (val_main_v25 (F := Ideal)) = S
  pointwise
  by_cases h : d.val < 64
  · refine (dif_pos h).trans (Eq.trans ?_ (if_pos h).symm)
    rw [show half d = ⟨d.val, h⟩ from Fin.ext (Nat.mod_eq_of_lt h),
      show swp d = ⟨64 + d.val, by omega⟩ from Fin.ext (show (d.val + 64) % 128 = 64 + d.val by omega)]
  · refine (dif_neg h).trans (Eq.trans ?_ (if_neg h).symm)
    have e : (⟨64 + (d.val - 64), by omega⟩ : Fin 128) = d := Fin.ext (show 64 + (d.val - 64) = d.val by omega)
    rw [e, show half d = ⟨d.val - 64, by omega⟩ from Fin.ext (show d.val % 64 = d.val - 64 by omega),
      show swp d = ⟨d.val - 64, by omega⟩ from Fin.ext (show (d.val + 64) % 128 = d.val - 64 by omega)]

/-- The keys of the sequence, turned. -/
theorem r88 (b : Fin 4) (l : Fin 4096) (g : Fin 2) (d : Fin 128) :
    (val_main_v88 (F := Ideal) x0 x3 : FVec Ideal S4x4096x2x128 .f32) (ix4 b l g d)
      = rotE (rmsE (fun d => x0 (ix3 b l ⟨1024 + 128 * g.val + d.val, by omega⟩)) (fun d => x3 (ix1 d))) l d := by
  unfold rotE
  simp only [← r73]
  unfold val_main_v88 val_main_v87 val_main_v86 val_main_v85 val_main_v84 val_main_v83 val_main_v82 val_main_v81 val_main_v80 val_main_v79 val_main_v78 val_main_v77 val_main_v76 val_main_v75 val_main_v74 cosT sinT
  generalize (val_main_v73 (F := Ideal) x0 x3) = A
  generalize (val_main_v24 (F := Ideal)) = C
  generalize (val_main_v25 (F := Ideal)) = S
  pointwise
  by_cases h : d.val < 64
  · refine (dif_pos h).trans (Eq.trans ?_ (if_pos h).symm)
    rw [show half d = ⟨d.val, h⟩ from Fin.ext (Nat.mod_eq_of_lt h),
      show swp d = ⟨64 + d.val, by omega⟩ from Fin.ext (show (d.val + 64) % 128 = 64 + d.val by omega)]
  · refine (dif_neg h).trans (Eq.trans ?_ (if_neg h).symm)
    have e : (⟨64 + (d.val - 64), by omega⟩ : Fin 128) = d := Fin.ext (show 64 + (d.val - 64) = d.val by omega)
    rw [e, show half d = ⟨d.val - 64, by omega⟩ from Fin.ext (show d.val % 64 = d.val - 64 by omega),
      show swp d = ⟨d.val - 64, by omega⟩ from Fin.ext (show (d.val + 64) % 128 = d.val - 64 by omega)]

/-- The key of head `q`, place `j`, column `d`: the context's, then the sequence's. -/
def refK (b : Fin 4) (q : Fin 2) (j : Fin 4352) (d : Fin 128) : EReal :=
  if h : j.val < 256 then
    rmsE (fun d => x1 (ix3 b ⟨j.val, h⟩ ⟨1024 + 128 * q.val + d.val, by omega⟩)) (fun d => x3 (ix1 d)) d
  else
    rotE (rmsE (fun d => x0 (ix3 b ⟨j.val - 256, by omega⟩ ⟨1024 + 128 * q.val + d.val, by omega⟩)) (fun d => x3 (ix1 d)))
      ⟨j.val - 256, by omega⟩ d

/-- The value of head `q`, place `j`, column `d`. -/
def refV (b : Fin 4) (q : Fin 2) (j : Fin 4352) (d : Fin 128) : EReal :=
  if h : j.val < 256 then x1 (ix3 b ⟨j.val, h⟩ ⟨1280 + 128 * q.val + d.val, by omega⟩)
  else x0 (ix3 b ⟨j.val - 256, by omega⟩ ⟨1280 + 128 * q.val + d.val, by omega⟩)

/-- The query of head `g`, row `l`, column `d`. -/
def refQ (b : Fin 4) (l : Fin 4096) (g : Fin 8) (d : Fin 128) : EReal :=
  rotE (rmsE (fun d => x0 (ix3 b l ⟨128 * g.val + d.val, by omega⟩)) (fun d => x2 (ix1 d))) l d

theorem r105 (b : Fin 4) (j : Fin 4352) (q : Fin 2) (d : Fin 128) :
    (val_main_v105 (F := Ideal) x0 x1 x3 : FVec Ideal S4x4352x2x128 .f32) (ix4 b j q d) = refK x0 x1 x3 b q j d := by
  unfold refK
  simp only [← r103, ← r88]
  unfold val_main_v105
  generalize (val_main_v103 (F := Ideal) x1 x3) = A
  generalize (val_main_v88 (F := Ideal) x0 x3) = B
  pointwise

theorem r106 (b : Fin 4) (j : Fin 4352) (q : Fin 2) (d : Fin 128) :
    (val_main_v106 (F := Ideal) x0 x1 : FVec Ideal S4x4352x2x128 .f32) (ix4 b j q d) = refV x0 x1 b q j d := by
  unfold refV
  simp only [← r104, ← r89]
  unfold val_main_v106
  generalize (val_main_v104 (F := Ideal) x1) = A
  generalize (val_main_v89 (F := Ideal) x0) = B
  pointwise

theorem r107 (b : Fin 4) (l : Fin 4096) (q : Fin 2) (p : Fin 4) (d : Fin 128) :
    (val_main_v107 (F := Ideal) x0 x2 : FVec Ideal S4x4096x2x4x128 .f32) (ix5 b l q p d) = refQ x0 x2 b l ⟨4 * q.val + p.val, by omega⟩ d := by
  refine Eq.trans ?_ (r59 x0 x2 b l ⟨4 * q.val + p.val, by omega⟩ d)
  unfold val_main_v107
  generalize (val_main_v59 (F := Ideal) x0 x2) = A
  pointwise
  congr 2; apply Fin.ext; show _ = _; dsimp only; omega

/-- The scaled score of a query and a key. -/
def refS (b : Fin 4) (l : Fin 4096) (q : Fin 2) (p : Fin 4) (j : Fin 4352) : EReal :=
  (∑ d : Fin 128, refQ x0 x2 b l ⟨4 * q.val + p.val, by omega⟩ d * refK x0 x1 x3 b q j d)
    * Ideal.ofBits .f32 0x3DB504F3#32

theorem r111 (b : Fin 4) (l : Fin 4096) (q : Fin 2) (p : Fin 4) (j : Fin 4352) :
    (val_main_v111 (F := Ideal) x0 x1 x2 x3 : FVec Ideal S4x2x4x4096x4352 .f32) (ix5 b q p l j) = refS x0 x1 x2 x3 b l q p j := by
  unfold refS
  simp only [← r105, ← r107]
  unfold val_main_v111 val_main_v110 val_main_v109 val_main_v108 val_main_cst_11
  generalize (val_main_v105 (F := Ideal) x0 x1 x3) = A
  generalize (val_main_v107 (F := Ideal) x0 x2) = B
  pointwise
  simp only [mul_comm]

/-- The reference's result of a batch, a row, a head and a column. -/
def refO (b : Fin 4) (l : Fin 4096) (q : Fin 2) (p : Fin 4) (d : Fin 128) : EReal :=
  ∑ j : Fin 4352, refV x0 x1 b q j d * Ideal.div
    (Ideal.exp (refS x0 x1 x2 x3 b l q p j - Finset.univ.fold max (Ideal.ofBits .f32 0xFF800000#32) (refS x0 x1 x2 x3 b l q p)))
    (∑ j : Fin 4352, Ideal.exp (refS x0 x1 x2 x3 b l q p j - Finset.univ.fold max (Ideal.ofBits .f32 0xFF800000#32) (refS x0 x1 x2 x3 b l q p)))

/-- The largest score of a row, as a fold over the places. -/
theorem rowMax_at (A : FVec Ideal S4x2x4x4096x4352 .f32) (b : Fin 4) (q : Fin 2) (p : Fin 4) (l : Fin 4096) :
    Host.reduce (FloatOps.maximumf (F := Ideal) (φ := .f32)) A (constant (F := Ideal) S_ .f32 0xFF800000#32)
        reducesTo_S4x2x4x4096x4352_S4x2x4x4096_d4 h_S_ (ix4 b q p l)
      = Finset.univ.fold max (Ideal.ofBits .f32 0xFF800000#32) (fun j : Fin 4352 => A (ix5 b q p l j)) := by
  have hr : S4x2x4x4096x4352.Reduces [4] S4x2x4x4096 := by decide
  have hl : A ∘ hr.lift (ix4 b q p l) = fun j : Fin 4352 => A (ix5 b q p l j) := funext fun j => by
    refine congrArg A (funext fun a => Fin.ext ?_)
    rw [Shape.Reduces.lift_val]
    match a with
    | ⟨0, _⟩ => rfl
    | ⟨1, _⟩ => rfl
    | ⟨2, _⟩ => rfl
    | ⟨3, _⟩ => rfl
    | ⟨4, _⟩ => rfl
  have e := Host.reduce_eq_fold_single (FloatOps.maximumf (F := Ideal) (φ := .f32)) A (constant (F := Ideal) S_ .f32 0xFF800000#32)
    reducesTo_S4x2x4x4096x4352_S4x2x4x4096_d4 hr h_S_ (ix4 b q p l)
  rw [hl] at e
  exact e
/-- A fold of `max` is not less than where it starts. -/
theorem max_fold {n : ℕ} (z : EReal) (f : Fin n → EReal) :
    max z (Finset.univ.fold max z f) = Finset.univ.fold max z f :=
  max_eq_right (Finset.le_fold_max _ |>.2 (.inl le_rfl))

/-- The largest score of a row. -/
theorem r114 (b : Fin 4) (l : Fin 4096) (q : Fin 2) (p : Fin 4) :
    (val_main_v114 (F := Ideal) x0 x1 x2 x3 : FVec Ideal S4x2x4x4096 .f32) (ix4 b q p l)
      = Finset.univ.fold max (Ideal.ofBits .f32 0xFF800000#32) (refS x0 x1 x2 x3 b l q p) := by
  have e : refS x0 x1 x2 x3 b l q p = fun j => val_main_v111 (F := Ideal) x0 x1 x2 x3 (ix5 b q p l j) := funext fun j => (r111 x0 x1 x2 x3 b l q p j).symm
  rw [e, val_main_v114_apply, val_main_v113_apply, val_main_cst_13_apply, ← max_fold]
  refine congrArg (max _) ?_
  exact rowMax_at (val_main_v111 (F := Ideal) x0 x1 x2 x3) b q p l

/-- The reference's result at an index is `refO`. -/
theorem r125 (b : Fin 4) (l : Fin 4096) (q : Fin 2) (p : Fin 4) (d : Fin 128) (i : S4x4096x1024.Idx) (h0 : (i 0).val = b.val)
    (h1 : (i 1).val = l.val) (h2 : (i 2).val = 512 * q.val + 128 * p.val + d.val) :
    (val_main_v126 (F := Ideal) x0 x1 x2 x3 : FVec Ideal S4x4096x1024 .bf16) i = refO x0 x1 x2 x3 b l q p d := by
  have hi : i = ix3 b l ⟨512 * q.val + 128 * p.val + d.val, by omega⟩ := by
    rw [eq_ix3 i]; congr 1 <;> exact Fin.ext (by assumption)
  rw [hi]
  unfold refO
  simp only [← r114]
  simp only [← r111, ← r106]
  unfold val_main_v126 val_main_v125 val_main_v124 val_main_v123 val_main_v122 val_main_v121 val_main_v120 val_main_v119 val_main_v118 val_main_v117 val_main_v116 val_main_v115 val_main_cst_14
  generalize (val_main_v106 (F := Ideal) x0 x1) = W
  generalize (val_main_v111 (F := Ideal) x0 x1 x2 x3) = A
  generalize (val_main_v114 (F := Ideal) x0 x1 x2 x3) = B
  pointwise

end Cert.Attn

end
-- ==== Proof.Tie.lean ====
module

public import proofs.«01_k».proof.Proof.RefRead

/-! Where the kernel and the reference meet: the kernel's array of results, at an index, is the reference's softmax
attention of the same arguments. -/

@[expose] public section

set_option maxRecDepth 16384

noncomputable section

namespace Cert.Attn

open Idealize.ShloMosaic Idealize.SL.Sem

/-- The factor of the reference's scores. -/
theorem ofBits_scale : Ideal.ofBits .f32 0x3DB504F3#32 = ((11863283 / 134217728 : ℝ) : EReal) := by
  simp [Ideal.ofBits, Ideal.ieee, -EReal.coe_mul]; norm_num

/-- One, as the kernel stores it beside the values. -/
theorem ofBits_one16 : Ideal.ofBits .bf16 0x3F80#16 = (1 : EReal) := by
  simp [Ideal.ofBits, Ideal.ieee, -EReal.coe_mul]
  try norm_num

/-- The kernel's named factor is the reference's factor over the logarithm of two. -/
theorem scaleNamed_eq : scaleNamed = ((11863283 / 134217728 * (Real.log 2)⁻¹ : ℝ) : EReal) :=
  IdealRules.named_const.ideal_named_scalar _ _ _ _ rfl

/-- The sine with the sign of the half of the head it turns. -/
def sgnSin (l : Fin 4096) (d : Fin 128) : EReal := if d.val < 64 then -sinT l (half d) else sinT l (half d)

theorem sgnSin_isR (l : Fin 4096) (d : Fin 128) : IsR (sgnSin l d) := by
  unfold sgnSin
  split
  · exact (sinT_isR l _).neg
  · exact sinT_isR l _

/-- The reference's turn of a head, as a sum of two products. -/
theorem rotE_eq (a : Fin 128 → EReal) (l : Fin 4096) (d : Fin 128) :
    rotE a l d = a d * cosT l (half d) + a (swp d) * sgnSin l d := by
  unfold rotE sgnSin
  split
  · rw [mul_neg, sub_eq_add_neg]
  · rfl

/-- A turned head is real where the norm's weights are. -/
theorem rotE_isR (x w : Fin 128 → EReal) (hw : ∀ d, IsR (w d)) (l : Fin 4096) (d : Fin 128) : IsR (rotE (rmsE x w) l d) := by
  rw [rotE_eq]
  exact ((rmsE_isR x w d (hw d)).mul (cosT_isR l _)).add ((rmsE_isR x w _ (hw _)).mul (sgnSin_isR l d))

/-- The kernel's turn by its two tables is the reference's. -/
theorem ropeE_rot {x x' w w' C S : Fin 128 → EReal} (l : Fin 4096) (hx : ∀ d, x d = x' d) (hw : ∀ d, w d = w' d)
    (hC : ∀ d, C d = cosT l (half d)) (hS : ∀ d, S d = sgnSin l d) (d : Fin 128) :
    ropeE x w C S d = rotE (rmsE x' w') l d := by
  obtain rfl : x = x' := funext hx
  obtain rfl : w = w' := funext hw
  rw [rotE_eq, ← hC, ← hS]; rfl

/-- A row of the kernel's attention, its scale in the tables and its exponentials powers of two, is the reference's row. -/
theorem att_eq (x w : Fin 128 → EReal) (hw : ∀ d, IsR (w d)) (l : Fin 4096) (K : Fin 4352 → Fin 128 → EReal)
    (hK : ∀ j d, IsR (K j d)) (V O : Fin 4352 → EReal) (hO : ∀ j, O j = 1) (u' : Fin 4352 → EReal)
    (hu' : u' = fun j => (∑ d : Fin 128, rotE (rmsE x w) l d * K j d) * Ideal.ofBits .f32 0x3DB504F3#32) :
    attE (ropeE x w (fun d => cosT l (half d) * scaleNamed) (fun d => sgnSin l d * scaleNamed)) K V O
      = ∑ j, V j * Ideal.div (Ideal.exp (u' j - Finset.univ.fold max (Ideal.ofBits .f32 0xFF800000#32) u'))
          (∑ j, Ideal.exp (u' j - Finset.univ.fold max (Ideal.ofBits .f32 0xFF800000#32) u')) := by
  have hs : ∀ j, ∃ s : ℝ, (∑ d : Fin 128, rotE (rmsE x w) l d * K j d) = (s : EReal)
      ∧ (∑ d, ropeE x w (fun d => cosT l (half d) * scaleNamed) (fun d => sgnSin l d * scaleNamed) d * K j d)
        = ((11863283 / 134217728 * (Real.log 2)⁻¹ * s : ℝ) : EReal) := by
    intro j
    simp only [rotE_eq]
    refine score_scaled _ _ _ _ _ _ (K j) (fun d => ?_) (fun d => rmsE_isR x w d (hw d)) (fun d => cosT_isR l _)
      (fun d => rmsE_isR x w _ (hw _)) (fun d => sgnSin_isR l d) (hK j)
    unfold ropeE
    rw [scaleNamed_eq]
  choose s hs1 hs2 using hs
  unfold attE
  simp only [hO]
  refine softmax_two_ways (fun j => s j * (11863283 / 134217728)) V _ u' (fun j => ?_) (fun j => ?_)
  · rw [hs2]
    congr 1; ring
  · rw [hu']
    show (∑ d : Fin 128, rotE (rmsE x w) l d * K j d) * _ = _
    rw [hs1, ofBits_scale, ← EReal.coe_mul]

section
open Cert.KernelIdeal Cert.KernelIdeal.Gen

variable (m : (ℓ : Loc nD τ sig) → Buf (Elt Ideal) ℓ) (c : Dev nD)

/-- The four arguments, as both programs are handed them. -/
abbrev A0 : FVec Ideal S4x4096x11776 .bf16 := m ((c.tc : Thread nD τ).loc main_arg0)
abbrev A1 : FVec Ideal S4x256x11776 .bf16 := m ((c.tc : Thread nD τ).loc main_arg1)
abbrev A2 : FVec Ideal S128 .f32 := m ((c.tc : Thread nD τ).loc main_arg2)
abbrev A3 : FVec Ideal S128 .f32 := m ((c.tc : Thread nD τ).loc main_arg3)

/-- A key of the reference is real where the weights of the key norm are. -/
theorem refK_isR (hw : ∀ d : Fin 128, IsR (A3 m c (ix1 d))) (b : Fin 4) (q : Fin 2) (j : Fin 4352) (d : Fin 128) :
    IsR (refK (A0 m c) (A1 m c) (A3 m c) b q j d) := by
  unfold refK
  split
  · exact rmsE_isR _ _ _ (hw _)
  · exact rotE_isR _ _ hw _ _

/-- A column of the context's keys and values, as the kernel's block reads it. -/
theorem colsC_at (b : Fin 4) (o : ℕ) (ho : o + 256 ≤ 11776) (r : Fin 256) (k : Fin 256) (n : Fin 11776) (hn : n.val = o + k.val) :
    colsC (V m c main_arg1) b o ho (ix3 0 r k) = A1 m c (ix3 b r n) := by
  unfold colsC
  rw [V_main_arg1]
  exact congrArg (fun n => A1 m c (ix3 b r n)) (Fin.ext hn.symm)

/-- A column of the sequence's keys and values, as the kernel's block reads it. -/
theorem colsS_at (b : Fin 4) (o : ℕ) (ho : o + 256 ≤ 11776) (r : Fin 4096) (k : Fin 256) (n : Fin 11776) (hn : n.val = o + k.val) :
    colsS (V m c main_arg0) b o ho (ix3 0 r k) = A0 m c (ix3 b r n) := by
  unfold colsS
  rw [V_main_arg0]
  exact congrArg (fun n => A0 m c (ix3 b r n)) (Fin.ext hn.symm)

/-- The kernel's keys of a batch are the reference's. -/
theorem keysOf_at (b : Fin 4) (q : Fin 2) (j : Fin 4352) (d : Fin 128) :
    keysOf m c b (ix3 q j d) = refK (A0 m c) (A1 m c) (A3 m c) b q j d := by
  unfold keysOf keyFn
  show keyE _ _ _ _ _ q j d = _
  unfold keyE refK
  by_cases h : j.val < 256
  · refine (dif_pos h).trans (Eq.trans ?_ (dif_pos h).symm)
    refine congrArg₂ (fun x w => rmsE x w d) (funext fun d => colsC_at m c b _ _ _ _ _ ?_) (funext fun d => row_k_at m c d)
    show 1024 + 128 * q.val + d.val = 1024 + (128 * q.val + d.val)
    omega
  · refine (dif_neg h).trans (Eq.trans ?_ (dif_neg h).symm)
    refine ropeE_rot _ (fun d => colsS_at m c b _ _ _ _ _ ?_) (fun d => row_k_at m c d) (fun d => tab_cos_at m c _ d)
      (fun d => tab_sin_at m c _ d) d
    show 1024 + 128 * q.val + d.val = 1024 + (128 * q.val + d.val)
    omega

/-- The kernel's values of a batch are the reference's, -/
theorem valsOf_at (b : Fin 4) (q : Fin 2) (j : Fin 4352) (d : Fin 128) :
    valsOf m c b (ix3 q j ⟨d.val, by omega⟩) = refV (A0 m c) (A1 m c) b q j d := by
  unfold valsOf valFn
  show valE _ _ q j ⟨d.val, _⟩ = _
  unfold valE refV
  refine (dif_pos d.isLt).trans ?_
  by_cases h : j.val < 256
  · refine (dif_pos h).trans (Eq.trans ?_ (dif_pos h).symm)
    refine colsC_at m c b _ _ _ _ _ ?_
    show 1280 + 128 * q.val + d.val = 1280 + (128 * q.val + d.val)
    omega
  · refine (dif_neg h).trans (Eq.trans ?_ (dif_neg h).symm)
    refine colsS_at m c b _ _ _ _ _ ?_
    show 1280 + 128 * q.val + d.val = 1280 + (128 * q.val + d.val)
    omega

/-- and beside them stand ones. -/
theorem valsOf_one (b : Fin 4) (q : Fin 2) (j : Fin 4352) : valsOf m c b (ix3 q j 128) = (1 : EReal) := by
  unfold valsOf valFn
  show valE _ _ q j (128 : Fin 256) = _
  unfold valE
  exact (dif_neg (by decide)).trans ofBits_one16

/-- The batch of the point that computes row `l` of batch `b`, -/
theorem bat_ptOf (b : Fin 4) (l : Fin 4096) : bat (ptOf b l) = b :=
  Fin.ext (show (8 * b.val + l.val / 512) / 8 = b.val by omega)

/-- and the row itself, from the point's first. -/
theorem rowb_ptOf (b : Fin 4) (l : Fin 4096) : 512 * (rowb (ptOf b l)).val + l.val % 512 = l.val :=
  show 512 * ((8 * b.val + l.val / 512) % 8) + l.val % 512 = l.val by omega

/-- A block of results, at a row, a head and a column, from the values of what it reads. -/
theorem blockOut_eq (x0 : FVec Ideal S1x512x1024 .bf16) (x5 x6 : FVec Ideal S512x128 .f32) (x9 : FVec Ideal S1x128 .f32)
    (k : FVec Ideal S2x4352x128 .bf16) (v : FVec Ideal S2x4352x256 .bf16) (r : Fin 512) (g : Fin 8) (d : Fin 128)
    {x w C S : Fin 128 → EReal} {K : Fin 4352 → Fin 128 → EReal} {W O : Fin 4352 → EReal}
    (hx : ∀ d : Fin 128, x0 (ix3 0 r ⟨128 * g.val + d.val, by omega⟩) = x d) (hw : ∀ d, x9 (ix2 0 d) = w d)
    (hC : ∀ d, x5 (ix2 r d) = C d) (hS : ∀ d, x6 (ix2 r d) = S d)
    (hK : ∀ j d, k (ix3 ⟨g.val / 4, by omega⟩ j d) = K j d) (hV : ∀ j, v (ix3 ⟨g.val / 4, by omega⟩ j ⟨d.val, by omega⟩) = W j)
    (hO : ∀ j, v (ix3 ⟨g.val / 4, by omega⟩ j 128) = O j) :
    blockOut x0 x5 x6 x9 k v r g d = attE (ropeE x w (fun d => C d * scaleNamed) (fun d => S d * scaleNamed)) K W O := by
  obtain rfl := funext hx
  obtain rfl := funext hw
  obtain rfl := funext hC
  obtain rfl := funext hS
  obtain rfl := funext fun j => funext (hK j)
  obtain rfl := funext hV
  obtain rfl := funext hO
  rfl

/-- A block of results, at a row, a head and a column, is the reference's softmax attention. -/
theorem block_ref (hq : ∀ d : Fin 128, IsR (A2 m c (ix1 d))) (hk : ∀ d : Fin 128, IsR (A3 m c (ix1 d)))
    (b : Fin 4) (l : Fin 4096) (q : Fin 2) (p : Fin 4) (d : Fin 128) :
    blockOut (X0_0 m c (ptOf b l)) (iblk m c 5 (ptOf b l)) (iblk m c 6 (ptOf b l)) (iblk m c 9 (ptOf b l))
        (keysOf m c b) (valsOf m c b) ⟨l.val % 512, Nat.mod_lt _ (by decide)⟩ ⟨4 * q.val + p.val, by omega⟩ d
      = refO (A0 m c) (A1 m c) (A2 m c) (A3 m c) b l q p d := by
  have hb := bat_ptOf b l
  have hl' : ∀ h, (⟨512 * (rowb (ptOf b l)).val + l.val % 512, h⟩ : Fin 4096) = l := fun _ => Fin.ext (rowb_ptOf b l)
  have hg4 : ∀ h, (⟨(4 * q.val + p.val) / 4, h⟩ : Fin 2) = q := fun _ => Fin.ext (show (4 * q.val + p.val) / 4 = q.val by omega)
  have main := att_eq (fun d : Fin 128 => A0 m c (ix3 b l ⟨128 * (4 * q.val + p.val) + d.val, by omega⟩)) (fun d => A2 m c (ix1 d))
    hq l (fun j d => refK (A0 m c) (A1 m c) (A3 m c) b q j d) (fun j d => refK_isR m c hk b q j d)
    (fun j => refV (A0 m c) (A1 m c) b q j d) (fun _ => (1 : EReal)) (fun _ => rfl)
    (refS (A0 m c) (A1 m c) (A2 m c) (A3 m c) b l q p) rfl
  refine (blockOut_eq _ _ _ _ _ _ _ _ _ (fun d => ?_) (fun d => ?_) (fun d => ?_) (fun d => ?_) (fun j d => ?_)
    (fun j => ?_) (fun j => ?_)).trans main
  · rw [blk_0, V_main_arg0, hb, hl']
  · exact (blk_9 m c _ _ _).trans (row_q_at m c d)
  · refine (blk_5 m c _ _ _).trans ?_
    dsimp only
    rw [hl', tab_cos_at]
  · refine (blk_6 m c _ _ _).trans ?_
    dsimp only
    rw [hl', tab_sin_at]; rfl
  · dsimp only
    rw [hg4, keysOf_at]
  · dsimp only
    rw [hg4, valsOf_at]
  · dsimp only
    rw [hg4, valsOf_one]

/-- The kernel's results are the reference's, where the weights of the two norms are real. -/
theorem G11_ref (hq : ∀ d : Fin 128, IsR (A2 m c (ix1 d))) (hk : ∀ d : Fin 128, IsR (A3 m c (ix1 d)))
    (i : S4x4096x1024.Idx) :
    (Value.G11 m c : FVec Ideal S4x4096x1024 .bf16) i
      = (ReferenceIdeal.Read.val_main_v126 (F := Ideal) (A0 m c) (A1 m c) (A2 m c) (A3 m c) : FVec Ideal S4x4096x1024 .bf16) i := by
  have hi : (i 2).val < 1024 := (i 2).isLt
  obtain ⟨q, p, d, h2⟩ : ∃ (q : Fin 2) (p : Fin 4) (d : Fin 128), (i 2).val = 512 * q.val + 128 * p.val + d.val :=
    ⟨⟨(i 2).val / 512, by omega⟩, ⟨(i 2).val / 128 % 4, by omega⟩, ⟨(i 2).val % 128, by omega⟩, by dsimp only; omega⟩
  have hr := r125 (A0 m c) (A1 m c) (A2 m c) (A3 m c) (i 0) (i 1) q p d i rfl rfl h2
  have hg := G11_at m c (i 0) (i 1) ⟨4 * q.val + p.val, by omega⟩ d i rfl rfl (by rw [h2]; dsimp only; omega)
  exact hg.trans ((block_ref m c hq hk (i 0) (i 1) q p d).trans hr.symm)
end

end Cert.Attn

end
-- ==== Proof.Merge.lean ====
module

public import proofs.«01_k».proof.Proof.Gen.Kernel3Ideal.Value
public import Idealize.ShloMosaic.Lib.Pointwise

/-! The merge of the two branches, on one block of 256 rows: the gated sum of the two products, the product that
follows with its residual, and the norm of that with its shift and scale. -/

@[expose] public section

set_option maxRecDepth 16384

noncomputable section

namespace Cert.Merge

open Idealize.ShloMosaic Cert.Kernel3Ideal Cert.Kernel3Ideal.Gen

/-- The logistic function, as both sides spell it. -/
def sigE (x : EReal) : EReal := Ideal.div 1 (1 + Ideal.exp (-x))

/-- The gated sum of the two branches at column `k`. -/
def mixE (a : Fin 1024 → EReal) (r ga gr : Fin 2048 → EReal) (wa : Fin 1024 → Fin 2048 → EReal)
    (wr : Fin 2048 → Fin 2048 → EReal) (k : Fin 2048) : EReal :=
  sigE (ga k) * (∑ j, a j * wa j k) + sigE (gr k) * ∑ j, r j * wr j k

/-- The residual sum at column `d`. -/
def resE (x g mix : Fin 2048 → EReal) (wm : Fin 2048 → Fin 2048 → EReal) (d : Fin 2048) : EReal :=
  x d + g d * ∑ k, mix k * wm k d

/-- A row normed over its 2048 entries, weighted, scaled and shifted. -/
def modE (y w sc sh : Fin 2048 → EReal) (d : Fin 2048) : EReal :=
  y d * Ideal.rsqrt (Ideal.div (∑ k, y k * y k) (Ideal.ofBits .f32 0x45000000#32) + Ideal.ofBits .f32 0x358637BD#32) * w d
    * (1 + sc d) + sh d

/-- Four blocks of 512 columns side by side. -/
theorem gate_at (P0 P1 P2 P3 : FVec Ideal S1x256x512 .bf16) (r : Fin 256) (q : Fin 4) (e : Fin 512) :
    k0_pay2 (F := Ideal) P0 P1 P2 P3 (ix2 r ⟨512 * q.val + e.val, by omega⟩) = (![P0, P1, P2, P3] q) (ix3 0 r e) := by
  unfold k0_pay2
  have he := e.isLt
  fin_cases q <;> pointwise
  · rw [dif_neg (by omega), dif_neg (by omega), dif_pos (by omega)]
    congr 3; omega
  · rw [dif_neg (by omega), dif_neg (by omega), dif_neg (by omega)]
    congr 3; omega

/-- The first product. -/
theorem pay4_at (x : FVec Ideal S1x256x1024 .bf16) (w : FVec Ideal S1024x2048 .bf16) (r : Fin 256) (d : Fin 2048) :
    k0_pay4 (F := Ideal) x w (ix2 r d) = ∑ j : Fin 1024, x (ix3 0 r j) * w (ix2 j d) := by
  unfold k0_pay4
  pointwise

/-- The residual sum of a block. -/
theorem pay6_at (ga gr : FVec Ideal S256x2048 .bf16) (a : FVec Ideal S256x2048 .f32) (x1 : FVec Ideal S1x256x2048 .bf16)
    (wr wm : FVec Ideal S2048x2048 .bf16) (x : FVec Ideal S1x256x2048 .f32) (g : FVec Ideal S1x1x2048 .f32)
    (r : Fin 256) (d : Fin 2048) :
    k0_pay6 (F := Ideal) ga gr a (k0_pay5 x1) wr wm x g (ix2 r d)
      = x (ix3 0 r d) + g (ix3 0 0 d) * ∑ k : Fin 2048,
          (sigE (ga (ix2 r k)) * a (ix2 r k) + sigE (gr (ix2 r k)) * ∑ j : Fin 2048, x1 (ix3 0 r j) * wr (ix2 j k))
            * wm (ix2 k d) := by
  unfold k0_pay6 k0_pay5 sigE
  pointwise
  simp only [zero_sub]

/-- What is stored of the residual sums. -/
theorem pay7_at (ga gr : FVec Ideal S256x2048 .bf16) (a : FVec Ideal S256x2048 .f32) (x1 : FVec Ideal S256x2048 .bf16)
    (wr wm : FVec Ideal S2048x2048 .bf16) (x : FVec Ideal S1x256x2048 .f32) (g : FVec Ideal S1x1x2048 .f32)
    (r : Fin 256) (d : Fin 2048) :
    k0_pay7 (F := Ideal) ga gr a x1 wr wm x g (ix3 0 r d) = k0_pay6 ga gr a x1 wr wm x g (ix2 r d) := by
  unfold k0_pay7
  generalize k0_pay6 (F := Ideal) ga gr a x1 wr wm x g = y
  pointwise

/-- The norm of a block's residual sums. -/
theorem pay1_at (y : FVec Ideal S256x2048 .f32) (w : FVec Ideal S1x2048 .f32) (sc sh : FVec Ideal S1x1x2048 .f32)
    (r : Fin 256) (d : Fin 2048) :
    k0_pay1 (F := Ideal) y (mulf y y) w sc sh (ix3 0 r d)
      = modE (fun k => y (ix2 r k)) (fun k => w (ix2 0 k)) (fun k => sc (ix3 0 0 k)) (fun k => sh (ix3 0 0 k)) d := by
  unfold k0_pay1 modE
  pointwise

end Cert.Merge

end
-- ==== Proof.MergeBlocks.lean ====
module

public import proofs.«01_k».proof.Proof.Merge
public import proofs.«01_k».proof.Proof.Gen.Reference3Ideal.Read
public import Idealize.ShloMosaic.Lib.Pipeline.ValueKit
public import Idealize.ShloMosaic.Lib.StableHlo.RunRead
public import Idealize.ShloMosaic.Lib.Claim
public import Idealize.ShloMosaic.Lib.Tactic.ValueTie

/-! The merge over its grid: which rows each point works on, what the arrays hold before it, and the two arrays of
results as the reference's. -/

@[expose] public section

set_option maxRecDepth 16384

noncomputable section

namespace Cert.Merge

open Idealize.ShloMosaic Idealize.SL.Sem Cert.Kernel3Ideal Cert.Kernel3Ideal.Gen

section
variable (m : (ℓ : Loc nD τ sig) → Buf (Elt Ideal) ℓ) (c : Dev nD)

theorem pt_lt (t : Fin cfg0.N) : t.val < 64 := lt_of_lt_of_eq t.isLt (show cfg0.N = 64 from N_0)

/-- The batch of a grid point. -/
def bat (t : Fin cfg0.N) : Fin 4 := ⟨t.val / 16, by have := pt_lt t; omega⟩

/-- Row `r` of a grid point, as a row of its batch. -/
def row (t : Fin cfg0.N) (r : Fin 256) : Fin 4096 := ⟨256 * (t.val % 16) + r.val, by omega⟩

theorem idx_at_0 : ∀ t : Fin cfg0.N, win0_0.index t = ![t.val / 16, t.val % 16, 0] :=
  (by decide +kernel : ∀ t : Fin grid0.N, _)

theorem idx_at_1 : ∀ t : Fin cfg0.N, win0_1.index t = ![t.val / 16, t.val % 16, 0] :=
  (by decide +kernel : ∀ t : Fin grid0.N, _)

theorem idx_at_10 : ∀ t : Fin cfg0.N, win0_10.index t = ![t.val / 16, t.val % 16, 0] :=
  (by decide +kernel : ∀ t : Fin grid0.N, _)

theorem idx_at_18 : ∀ t : Fin cfg0.N, win0_18.index t = ![t.val / 16, t.val % 16, 0] :=
  (by decide +kernel : ∀ t : Fin grid0.N, _)

theorem idx_at_19 : ∀ t : Fin cfg0.N, win0_19.index t = ![t.val / 16, t.val % 16, 0] :=
  (by decide +kernel : ∀ t : Fin grid0.N, _)

theorem idx_at_2 : ∀ t : Fin cfg0.N, win0_2.index t = ![t.val / 16, t.val % 16, 15] :=
  (by decide +kernel : ∀ t : Fin grid0.N, _)

theorem idx_at_3 : ∀ t : Fin cfg0.N, win0_3.index t = ![t.val / 16, t.val % 16, 16] :=
  (by decide +kernel : ∀ t : Fin grid0.N, _)

theorem idx_at_4 : ∀ t : Fin cfg0.N, win0_4.index t = ![t.val / 16, t.val % 16, 17] :=
  (by decide +kernel : ∀ t : Fin grid0.N, _)

theorem idx_at_5 : ∀ t : Fin cfg0.N, win0_5.index t = ![t.val / 16, t.val % 16, 18] :=
  (by decide +kernel : ∀ t : Fin grid0.N, _)

theorem idx_at_6 : ∀ t : Fin cfg0.N, win0_6.index t = ![t.val / 16, t.val % 16, 19] :=
  (by decide +kernel : ∀ t : Fin grid0.N, _)

theorem idx_at_7 : ∀ t : Fin cfg0.N, win0_7.index t = ![t.val / 16, t.val % 16, 20] :=
  (by decide +kernel : ∀ t : Fin grid0.N, _)

theorem idx_at_8 : ∀ t : Fin cfg0.N, win0_8.index t = ![t.val / 16, t.val % 16, 21] :=
  (by decide +kernel : ∀ t : Fin grid0.N, _)

theorem idx_at_9 : ∀ t : Fin cfg0.N, win0_9.index t = ![t.val / 16, t.val % 16, 22] :=
  (by decide +kernel : ∀ t : Fin grid0.N, _)

theorem idx_at_11 : ∀ t : Fin cfg0.N, win0_11.index t = ![t.val / 16, 0, 0] :=
  (by decide +kernel : ∀ t : Fin grid0.N, _)

theorem idx_at_12 : ∀ t : Fin cfg0.N, win0_12.index t = ![t.val / 16, 0, 0] :=
  (by decide +kernel : ∀ t : Fin grid0.N, _)

theorem idx_at_13 : ∀ t : Fin cfg0.N, win0_13.index t = ![t.val / 16, 0, 0] :=
  (by decide +kernel : ∀ t : Fin grid0.N, _)

theorem idx_at_14 : ∀ t : Fin cfg0.N, win0_14.index t = ![0, 0] :=
  (by decide +kernel : ∀ t : Fin grid0.N, _)

theorem idx_at_15 : ∀ t : Fin cfg0.N, win0_15.index t = ![0, 0] :=
  (by decide +kernel : ∀ t : Fin grid0.N, _)

theorem idx_at_16 : ∀ t : Fin cfg0.N, win0_16.index t = ![0, 0] :=
  (by decide +kernel : ∀ t : Fin grid0.N, _)

theorem idx_at_17 : ∀ t : Fin cfg0.N, win0_17.index t = ![0, 0] :=
  (by decide +kernel : ∀ t : Fin grid0.N, _)

/-- The first branch's rows. -/
theorem blk_0 (t : Fin cfg0.N) (q : Fin 1) (r : Fin 256) (d : Fin 1024) :
    (iblk m c 0 t : Vec Ideal S1x256x1024 .bf16) (ix3 q r d) = (V m c main_arg0 : Vec Ideal S4x4096x1024 .bf16) (ix3 (bat t) (row t r) d) := by
  have h := idx_at_0 t
  unfold bat row
  blk_ext [iblk, h]

/-- The second branch's rows. -/
theorem blk_1 (t : Fin cfg0.N) (q : Fin 1) (r : Fin 256) (d : Fin 2048) :
    (iblk m c 1 t : Vec Ideal S1x256x2048 .bf16) (ix3 q r d) = (V m c main_arg1 : Vec Ideal S4x4096x2048 .bf16) (ix3 (bat t) (row t r) d) := by
  have h := idx_at_1 t
  unfold bat row
  blk_ext [iblk, h]

/-- 512 columns of the gates. -/
theorem blk_2 (t : Fin cfg0.N) (q : Fin 1) (r : Fin 256) (d : Fin 512) :
    (iblk m c 2 t : Vec Ideal S1x256x512 .bf16) (ix3 q r d) = (V m c main_arg2 : Vec Ideal S4x4096x11776 .bf16) (ix3 (bat t) (row t r) ⟨7680 + d.val, by omega⟩) := by
  have h := idx_at_2 t
  unfold bat row
  blk_ext [iblk, h]

/-- 512 columns of the gates. -/
theorem blk_3 (t : Fin cfg0.N) (q : Fin 1) (r : Fin 256) (d : Fin 512) :
    (iblk m c 3 t : Vec Ideal S1x256x512 .bf16) (ix3 q r d) = (V m c main_arg2 : Vec Ideal S4x4096x11776 .bf16) (ix3 (bat t) (row t r) ⟨8192 + d.val, by omega⟩) := by
  have h := idx_at_3 t
  unfold bat row
  blk_ext [iblk, h]

/-- 512 columns of the gates. -/
theorem blk_4 (t : Fin cfg0.N) (q : Fin 1) (r : Fin 256) (d : Fin 512) :
    (iblk m c 4 t : Vec Ideal S1x256x512 .bf16) (ix3 q r d) = (V m c main_arg2 : Vec Ideal S4x4096x11776 .bf16) (ix3 (bat t) (row t r) ⟨8704 + d.val, by omega⟩) := by
  have h := idx_at_4 t
  unfold bat row
  blk_ext [iblk, h]

/-- 512 columns of the gates. -/
theorem blk_5 (t : Fin cfg0.N) (q : Fin 1) (r : Fin 256) (d : Fin 512) :
    (iblk m c 5 t : Vec Ideal S1x256x512 .bf16) (ix3 q r d) = (V m c main_arg2 : Vec Ideal S4x4096x11776 .bf16) (ix3 (bat t) (row t r) ⟨9216 + d.val, by omega⟩) := by
  have h := idx_at_5 t
  unfold bat row
  blk_ext [iblk, h]

/-- 512 columns of the gates. -/
theorem blk_6 (t : Fin cfg0.N) (q : Fin 1) (r : Fin 256) (d : Fin 512) :
    (iblk m c 6 t : Vec Ideal S1x256x512 .bf16) (ix3 q r d) = (V m c main_arg2 : Vec Ideal S4x4096x11776 .bf16) (ix3 (bat t) (row t r) ⟨9728 + d.val, by omega⟩) := by
  have h := idx_at_6 t
  unfold bat row
  blk_ext [iblk, h]

/-- 512 columns of the gates. -/
theorem blk_7 (t : Fin cfg0.N) (q : Fin 1) (r : Fin 256) (d : Fin 512) :
    (iblk m c 7 t : Vec Ideal S1x256x512 .bf16) (ix3 q r d) = (V m c main_arg2 : Vec Ideal S4x4096x11776 .bf16) (ix3 (bat t) (row t r) ⟨10240 + d.val, by omega⟩) := by
  have h := idx_at_7 t
  unfold bat row
  blk_ext [iblk, h]

/-- 512 columns of the gates. -/
theorem blk_8 (t : Fin cfg0.N) (q : Fin 1) (r : Fin 256) (d : Fin 512) :
    (iblk m c 8 t : Vec Ideal S1x256x512 .bf16) (ix3 q r d) = (V m c main_arg2 : Vec Ideal S4x4096x11776 .bf16) (ix3 (bat t) (row t r) ⟨10752 + d.val, by omega⟩) := by
  have h := idx_at_8 t
  unfold bat row
  blk_ext [iblk, h]

/-- 512 columns of the gates. -/
theorem blk_9 (t : Fin cfg0.N) (q : Fin 1) (r : Fin 256) (d : Fin 512) :
    (iblk m c 9 t : Vec Ideal S1x256x512 .bf16) (ix3 q r d) = (V m c main_arg2 : Vec Ideal S4x4096x11776 .bf16) (ix3 (bat t) (row t r) ⟨11264 + d.val, by omega⟩) := by
  have h := idx_at_9 t
  unfold bat row
  blk_ext [iblk, h]

/-- The residual's rows. -/
theorem blk_10 (t : Fin cfg0.N) (q : Fin 1) (r : Fin 256) (d : Fin 2048) :
    (iblk m c 10 t : Vec Ideal S1x256x2048 .f32) (ix3 q r d) = (V m c main_arg3 : Vec Ideal S4x4096x2048 .f32) (ix3 (bat t) (row t r) d) := by
  have h := idx_at_10 t
  unfold bat row
  blk_ext [iblk, h]

/-- The residual's factor. -/
theorem blk_11 (t : Fin cfg0.N) (q s : Fin 1) (d : Fin 2048) :
    (iblk m c 11 t : Vec Ideal S1x1x2048 .f32) (ix3 q s d) = (V m c main_v0 : Vec Ideal S4x1x2048 .f32) (ix3 (bat t) s d) := by
  have h := idx_at_11 t
  unfold bat
  blk_ext [iblk, h]

/-- The shift. -/
theorem blk_12 (t : Fin cfg0.N) (q s : Fin 1) (d : Fin 2048) :
    (iblk m c 12 t : Vec Ideal S1x1x2048 .f32) (ix3 q s d) = (V m c main_v1 : Vec Ideal S4x1x2048 .f32) (ix3 (bat t) s d) := by
  have h := idx_at_12 t
  unfold bat
  blk_ext [iblk, h]

/-- The scale. -/
theorem blk_13 (t : Fin cfg0.N) (q s : Fin 1) (d : Fin 2048) :
    (iblk m c 13 t : Vec Ideal S1x1x2048 .f32) (ix3 q s d) = (V m c main_v2 : Vec Ideal S4x1x2048 .f32) (ix3 (bat t) s d) := by
  have h := idx_at_13 t
  unfold bat
  blk_ext [iblk, h]

/-- The norm's weights. -/
theorem blk_14 (t : Fin cfg0.N) (q : Fin 1) (d : Fin 2048) :
    (iblk m c 14 t : Vec Ideal S1x2048 .f32) (ix2 q d) = (V m c main_v6 : Vec Ideal S1x2048 .f32) (ix2 q d) := by
  have h := idx_at_14 t
  blk_ext [iblk, h]

/-- The first branch's weight. -/
theorem blk_15 (t : Fin cfg0.N) (j : Fin 1024) (d : Fin 2048) :
    (iblk m c 15 t : Vec Ideal S1024x2048 .bf16) (ix2 j d) = (V m c main_v3 : Vec Ideal S1024x2048 .bf16) (ix2 j d) := by
  have h := idx_at_15 t
  blk_ext [iblk, h]

/-- The second branch's weight. -/
theorem blk_16 (t : Fin cfg0.N) (j d : Fin 2048) :
    (iblk m c 16 t : Vec Ideal S2048x2048 .bf16) (ix2 j d) = (V m c main_v4 : Vec Ideal S2048x2048 .bf16) (ix2 j d) := by
  have h := idx_at_16 t
  blk_ext [iblk, h]

/-- The last weight. -/
theorem blk_17 (t : Fin cfg0.N) (j d : Fin 2048) :
    (iblk m c 17 t : Vec Ideal S2048x2048 .bf16) (ix2 j d) = (V m c main_v5 : Vec Ideal S2048x2048 .bf16) (ix2 j d) := by
  have h := idx_at_17 t
  blk_ext [iblk, h]

/-- The residual's factor, as the call is given it. -/
theorem V0_at (b : Fin 4) (d : Fin 2048) : (V m c main_v0 : Vec Ideal S4x1x2048 .f32) (ix3 b 0 d) = (m (c.tc.loc main_arg4) : FVec Ideal S4x2048 .f32) (ix2 b d) := by
  have h : (V m c main_v0 : Vec Ideal S4x1x2048 .f32) = shapeCast S4x1x2048 (m (c.tc.loc main_arg4) : FVec Ideal S4x2048 .f32) (h := shapeCasts_S4x2048_S4x1x2048) := by
    show StableHlo.after (List.flatten [hostOps0]) (fun b => m (c, b)) _ = _
    unfold_abbrev_sides
    after_reads_simp
    rfl
  rw [h]
  pointwise

/-- The shift, as the call is given it. -/
theorem V1_at (b : Fin 4) (d : Fin 2048) : (V m c main_v1 : Vec Ideal S4x1x2048 .f32) (ix3 b 0 d) = (m (c.tc.loc main_arg5) : FVec Ideal S4x2048 .f32) (ix2 b d) := by
  have h : (V m c main_v1 : Vec Ideal S4x1x2048 .f32) = shapeCast S4x1x2048 (m (c.tc.loc main_arg5) : FVec Ideal S4x2048 .f32) (h := shapeCasts_S4x2048_S4x1x2048) := by
    show StableHlo.after (List.flatten [hostOps0]) (fun b => m (c, b)) _ = _
    unfold_abbrev_sides
    after_reads_simp
    rfl
  rw [h]
  pointwise

/-- The scale, as the call is given it. -/
theorem V2_at (b : Fin 4) (d : Fin 2048) : (V m c main_v2 : Vec Ideal S4x1x2048 .f32) (ix3 b 0 d) = (m (c.tc.loc main_arg6) : FVec Ideal S4x2048 .f32) (ix2 b d) := by
  have h : (V m c main_v2 : Vec Ideal S4x1x2048 .f32) = shapeCast S4x1x2048 (m (c.tc.loc main_arg6) : FVec Ideal S4x2048 .f32) (h := shapeCasts_S4x2048_S4x1x2048) := by
    show StableHlo.after (List.flatten [hostOps0]) (fun b => m (c, b)) _ = _
    unfold_abbrev_sides
    after_reads_simp
    rfl
  rw [h]
  pointwise

/-- The norm's weights, as a row. -/
theorem V6_at (d : Fin 2048) : (V m c main_v6 : Vec Ideal S1x2048 .f32) (ix2 0 d) = (m (c.tc.loc main_arg7) : FVec Ideal S2048 .f32) (ix1 d) := by
  have h : (V m c main_v6 : Vec Ideal S1x2048 .f32) = shapeCast S1x2048 (m (c.tc.loc main_arg7) : FVec Ideal S2048 .f32) (h := shapeCasts_S2048_S1x2048) := by
    show StableHlo.after (List.flatten [hostOps0]) (fun b => m (c, b)) _ = _
    unfold_abbrev_sides
    after_reads_simp
    rfl
  rw [h]
  pointwise

/-- The first branch's weight, as the call is given it. -/
theorem V3_at (j : Fin 1024) (d : Fin 2048) : (V m c main_v3 : Vec Ideal S1024x2048 .bf16) (ix2 j d) = (m (c.tc.loc main_arg8) : FVec Ideal S1024x2048 .f32) (ix2 j d) := by
  have h : (V m c main_v3 : Vec Ideal S1024x2048 .bf16) = truncf (F := Ideal) .bf16 (m (c.tc.loc main_arg8) : FVec Ideal S1024x2048 .f32) bitsLt_bf16_f32 := by
    show StableHlo.after (List.flatten [hostOps0]) (fun b => m (c, b)) _ = _
    unfold_abbrev_sides
    after_reads_simp
  rw [h]
  rfl

/-- The second branch's weight, as the call is given it. -/
theorem V4_at (j : Fin 2048) (d : Fin 2048) : (V m c main_v4 : Vec Ideal S2048x2048 .bf16) (ix2 j d) = (m (c.tc.loc main_arg9) : FVec Ideal S2048x2048 .f32) (ix2 j d) := by
  have h : (V m c main_v4 : Vec Ideal S2048x2048 .bf16) = truncf (F := Ideal) .bf16 (m (c.tc.loc main_arg9) : FVec Ideal S2048x2048 .f32) bitsLt_bf16_f32 := by
    show StableHlo.after (List.flatten [hostOps0]) (fun b => m (c, b)) _ = _
    unfold_abbrev_sides
    after_reads_simp
  rw [h]
  rfl

/-- The last weight, as the call is given it. -/
theorem V5_at (j : Fin 2048) (d : Fin 2048) : (V m c main_v5 : Vec Ideal S2048x2048 .bf16) (ix2 j d) = (m (c.tc.loc main_arg10) : FVec Ideal S2048x2048 .f32) (ix2 j d) := by
  have h : (V m c main_v5 : Vec Ideal S2048x2048 .bf16) = truncf (F := Ideal) .bf16 (m (c.tc.loc main_arg10) : FVec Ideal S2048x2048 .f32) bitsLt_bf16_f32 := by
    show StableHlo.after (List.flatten [hostOps0]) (fun b => m (c, b)) _ = _
    unfold_abbrev_sides
    after_reads_simp
  rw [h]
  rfl

end

end Cert.Merge

end
-- ==== Proof.MergeRef.lean ====
module

public import proofs.«01_k».proof.Proof.Merge
public import proofs.«01_k».proof.Proof.Gen.Reference3Ideal.Read

/-! The reference of the merge, read at an index. -/

@[expose] public section

set_option maxRecDepth 16384

noncomputable section

namespace Cert.Merge

open Idealize.ShloMosaic Cert.Reference3Ideal Cert.Reference3Ideal.Gen Cert.Reference3Ideal.Read

section
variable (x0 : FVec Ideal S4x4096x1024 .bf16) (x1 : FVec Ideal S4x4096x2048 .bf16) (x2 : FVec Ideal S4x4096x11776 .bf16)
  (x3 : FVec Ideal S4x4096x2048 .f32) (x4 x5 x6 : FVec Ideal S4x2048 .f32) (x7 : FVec Ideal S2048 .f32)
  (x8 : FVec Ideal S1024x2048 .f32) (x9 x10 : FVec Ideal S2048x2048 .f32)

/-- The gated sum at row `l` of batch `b`. -/
def mixR (b : Fin 4) (l : Fin 4096) : Fin 2048 → EReal :=
  mixE (fun j => x0 (ix3 b l j)) (fun j => x1 (ix3 b l j)) (fun k => x2 (ix3 b l ⟨7680 + k.val, by omega⟩))
    (fun k => x2 (ix3 b l ⟨9728 + k.val, by omega⟩)) (fun j k => x8 (ix2 j k)) (fun j k => x9 (ix2 j k))

/-- The residual sum at row `l` of batch `b`. -/
def resR (b : Fin 4) (l : Fin 4096) : Fin 2048 → EReal :=
  resE (fun d => x3 (ix3 b l d)) (fun d => x4 (ix2 b d)) (mixR x0 x1 x2 x8 x9 b l) (fun k d => x10 (ix2 k d))

/-- The normed row `l` of batch `b`. -/
def outR (b : Fin 4) (l : Fin 4096) : Fin 2048 → EReal :=
  modE (resR x0 x1 x2 x3 x4 x8 x9 x10 b l) (fun d => x7 (ix1 d)) (fun d => x6 (ix2 b d)) (fun d => x5 (ix2 b d))

theorem gateA_at (b : Fin 4) (l : Fin 4096) (k : Fin 2048) :
    (val_main_v10 (F := Ideal) x2 : FVec Ideal S4x4096x2048 .f32) (ix3 b l k)
      = sigE (x2 (ix3 b l ⟨7680 + k.val, by omega⟩)) := by
  unfold val_main_v10 val_main_v9 val_main_cst_0 val_main_v8 val_main_v7 val_main_cst val_main_v6 val_main_v5 val_main_v3
    val_main_v2 sigE
  pointwise

theorem gateR_at (b : Fin 4) (l : Fin 4096) (k : Fin 2048) :
    (val_main_v18 (F := Ideal) x2 : FVec Ideal S4x4096x2048 .f32) (ix3 b l k)
      = sigE (x2 (ix3 b l ⟨9728 + k.val, by omega⟩)) := by
  unfold val_main_v18 val_main_v17 val_main_cst_2 val_main_v16 val_main_v15 val_main_cst_1 val_main_v14 val_main_v13
    val_main_v4 val_main_v2 sigE
  pointwise

theorem prodA_at (b : Fin 4) (l : Fin 4096) (k : Fin 2048) :
    (val_main_v11 (F := Ideal) x0 x8 : FVec Ideal S4x4096x2048 .f32) (ix3 b l k) = ∑ j : Fin 1024, x0 (ix3 b l j) * x8 (ix2 j k) := by
  unfold val_main_v11 val_main_v0
  pointwise

theorem prodR_at (b : Fin 4) (l : Fin 4096) (k : Fin 2048) :
    (val_main_v19 (F := Ideal) x1 x9 : FVec Ideal S4x4096x2048 .f32) (ix3 b l k) = ∑ j : Fin 2048, x1 (ix3 b l j) * x9 (ix2 j k) := by
  unfold val_main_v19 val_main_v1
  pointwise

theorem mix_at (b : Fin 4) (l : Fin 4096) (k : Fin 2048) :
    (val_main_v21 (F := Ideal) x0 x1 x2 x8 x9 : FVec Ideal S4x4096x2048 .f32) (ix3 b l k) = mixR x0 x1 x2 x8 x9 b l k := by
  unfold val_main_v21 val_main_v12 val_main_v20 mixR mixE
  rw [← gateA_at, ← gateR_at, ← prodA_at, ← prodR_at]
  rfl

theorem res_at (b : Fin 4) (l : Fin 4096) (d : Fin 2048) :
    (val_main_v26 (F := Ideal) x0 x1 x2 x3 x4 x8 x9 x10 : FVec Ideal S4x4096x2048 .f32) (ix3 b l d)
      = resR x0 x1 x2 x3 x4 x8 x9 x10 b l d := by
  unfold val_main_v26 val_main_v25 val_main_v24 val_main_v22 val_main_v23 resR resE
  simp only [← mix_at]
  generalize (val_main_v21 (F := Ideal) x0 x1 x2 x8 x9 : FVec Ideal S4x4096x2048 .f32) = y
  pointwise

theorem out_at (b : Fin 4) (l : Fin 4096) (d : Fin 2048) :
    (val_main_v48 (F := Ideal) x0 x1 x2 x3 x4 x5 x6 x7 x8 x9 x10 : FVec Ideal S4x4096x2048 .bf16) (ix3 b l d)
      = outR x0 x1 x2 x3 x4 x5 x6 x7 x8 x9 x10 b l d := by
  unfold val_main_v48 val_main_v47 val_main_v46 val_main_v45 val_main_v44 val_main_v43 val_main_v42 val_main_v41 val_main_cst_6
    val_main_v40 val_main_v39 val_main_v38 val_main_v37 val_main_v36 val_main_v35 val_main_v34 val_main_v33 val_main_v32
    val_main_cst_5 val_main_v31 val_main_v30 val_main_cst_4 val_main_v29 val_main_v28 val_main_cst_3 val_main_v27 outR modE
  simp only [← res_at]
  generalize (val_main_v26 (F := Ideal) x0 x1 x2 x3 x4 x8 x9 x10 : FVec Ideal S4x4096x2048 .f32) = y
  pointwise
end

end Cert.Merge

end
-- ==== Proof.MergeTie.lean ====
module

public import proofs.«01_k».proof.Proof.MergeBlocks
public import proofs.«01_k».proof.Proof.MergeRef

/-! The two arrays of results of the merge are the reference's. -/

@[expose] public section

set_option maxRecDepth 16384

noncomputable section

namespace Cert.Merge

open Idealize.ShloMosaic Idealize.SL.Sem Cert.Kernel3Ideal Cert.Kernel3Ideal.Gen

/-- A residual sum, of entries that agree. -/
theorem res_congr {x g x' g' : Fin 2048 → EReal} {a a' : Fin 1024 → EReal} {r ga gr r' ga' gr' : Fin 2048 → EReal}
    {wa wa' : Fin 1024 → Fin 2048 → EReal} {wr wm wr' wm' : Fin 2048 → Fin 2048 → EReal}
    (hx : ∀ d, x d = x' d) (hg : ∀ d, g d = g' d) (ha : ∀ j, a j = a' j) (hr : ∀ j, r j = r' j) (hga : ∀ k, ga k = ga' k)
    (hgr : ∀ k, gr k = gr' k) (hwa : ∀ j k, wa j k = wa' j k) (hwr : ∀ j k, wr j k = wr' j k) (hwm : ∀ j k, wm j k = wm' j k)
    (d : Fin 2048) : resE x g (mixE a r ga gr wa wr) wm d = resE x' g' (mixE a' r' ga' gr' wa' wr') wm' d := by
  obtain rfl := funext hx
  obtain rfl := funext hg
  obtain rfl := funext ha
  obtain rfl := funext hr
  obtain rfl := funext hga
  obtain rfl := funext hgr
  obtain rfl := funext fun j => funext (hwa j)
  obtain rfl := funext fun j => funext (hwr j)
  obtain rfl := funext fun j => funext (hwm j)
  rfl

/-- A normed row, of entries that agree. -/
theorem mod_congr {y w sc sh y' w' sc' sh' : Fin 2048 → EReal} (hy : ∀ d, y d = y' d) (hw : ∀ d, w d = w' d)
    (hsc : ∀ d, sc d = sc' d) (hsh : ∀ d, sh d = sh' d) (d : Fin 2048) : modE y w sc sh d = modE y' w' sc' sh' d := by
  obtain rfl := funext hy
  obtain rfl := funext hw
  obtain rfl := funext hsc
  obtain rfl := funext hsh
  rfl

section
variable (m : (ℓ : Loc nD τ sig) → Buf (Elt Ideal) ℓ) (c : Dev nD)

/-- The arguments. -/
abbrev B0 : FVec Ideal S4x4096x1024 .bf16 := m (c.tc.loc main_arg0)
abbrev B1 : FVec Ideal S4x4096x2048 .bf16 := m (c.tc.loc main_arg1)
abbrev B2 : FVec Ideal S4x4096x11776 .bf16 := m (c.tc.loc main_arg2)
abbrev B3 : FVec Ideal S4x4096x2048 .f32 := m (c.tc.loc main_arg3)
abbrev B4 : FVec Ideal S4x2048 .f32 := m (c.tc.loc main_arg4)
abbrev B5 : FVec Ideal S4x2048 .f32 := m (c.tc.loc main_arg5)
abbrev B6 : FVec Ideal S4x2048 .f32 := m (c.tc.loc main_arg6)
abbrev B7 : FVec Ideal S2048 .f32 := m (c.tc.loc main_arg7)
abbrev B8 : FVec Ideal S1024x2048 .f32 := m (c.tc.loc main_arg8)
abbrev B9 : FVec Ideal S2048x2048 .f32 := m (c.tc.loc main_arg9)
abbrev B10 : FVec Ideal S2048x2048 .f32 := m (c.tc.loc main_arg10)

/-- The first gate of a point. -/
theorem gateA_blk (t : Fin cfg0.N) (r : Fin 256) (k : Fin 2048) :
    k0_pay2 (F := Ideal) (iblk m c 2 t) (iblk m c 3 t) (iblk m c 4 t) (iblk m c 5 t) (ix2 r k)
      = B2 m c (ix3 (bat t) (row t r) ⟨7680 + k.val, by omega⟩) := by
  obtain ⟨q, e, rfl⟩ : ∃ (q : Fin 4) (e : Fin 512), k = ⟨512 * q.val + e.val, by omega⟩ :=
    ⟨⟨k.val / 512, by omega⟩, ⟨k.val % 512, by omega⟩, by apply Fin.ext; dsimp only; omega⟩
  rw [gate_at]
  fin_cases q
  · refine (blk_2 m c t 0 r e).trans ?_
    rw [V_main_arg2]; congr 2; apply Fin.ext; dsimp only; omega
  · refine (blk_3 m c t 0 r e).trans ?_
    rw [V_main_arg2]; congr 2; apply Fin.ext; dsimp only; omega
  · refine (blk_4 m c t 0 r e).trans ?_
    rw [V_main_arg2]; congr 2; apply Fin.ext; dsimp only; omega
  · refine (blk_5 m c t 0 r e).trans ?_
    rw [V_main_arg2]; congr 2; apply Fin.ext; dsimp only; omega

/-- The second gate of a point. -/
theorem gateR_blk (t : Fin cfg0.N) (r : Fin 256) (k : Fin 2048) :
    k0_pay3 (F := Ideal) (iblk m c 6 t) (iblk m c 7 t) (iblk m c 8 t) (iblk m c 9 t) (ix2 r k)
      = B2 m c (ix3 (bat t) (row t r) ⟨9728 + k.val, by omega⟩) := by
  obtain ⟨q, e, rfl⟩ : ∃ (q : Fin 4) (e : Fin 512), k = ⟨512 * q.val + e.val, by omega⟩ :=
    ⟨⟨k.val / 512, by omega⟩, ⟨k.val % 512, by omega⟩, by apply Fin.ext; dsimp only; omega⟩
  refine (gate_at _ _ _ _ r q e).trans ?_
  fin_cases q
  · refine (blk_6 m c t 0 r e).trans ?_
    rw [V_main_arg2]; congr 2; apply Fin.ext; dsimp only; omega
  · refine (blk_7 m c t 0 r e).trans ?_
    rw [V_main_arg2]; congr 2; apply Fin.ext; dsimp only; omega
  · refine (blk_8 m c t 0 r e).trans ?_
    rw [V_main_arg2]; congr 2; apply Fin.ext; dsimp only; omega
  · refine (blk_9 m c t 0 r e).trans ?_
    rw [V_main_arg2]; congr 2; apply Fin.ext; dsimp only; omega

/-- The residual sums of a point. -/
def resBlk (t : Fin cfg0.N) : FVec Ideal S256x2048 .f32 :=
  k0_pay6 (F := Ideal) (k0_pay2 (iblk m c 2 t) (iblk m c 3 t) (iblk m c 4 t) (iblk m c 5 t))
    (k0_pay3 (iblk m c 6 t) (iblk m c 7 t) (iblk m c 8 t) (iblk m c 9 t)) (k0_pay4 (iblk m c 0 t) (iblk m c 15 t))
    (k0_pay5 (iblk m c 1 t)) (iblk m c 16 t) (iblk m c 17 t) (iblk m c 10 t) (iblk m c 11 t)

theorem resBlk_at (t : Fin cfg0.N) (r : Fin 256) (d : Fin 2048) :
    resBlk m c t (ix2 r d)
      = resR (B0 m c) (B1 m c) (B2 m c) (B3 m c) (B4 m c) (B8 m c) (B9 m c) (B10 m c) (bat t) (row t r) d := by
  unfold resBlk
  refine (pay6_at _ _ _ _ _ _ _ _ r d).trans ?_
  simp only [pay4_at]
  unfold resR mixR
  refine res_congr (x := fun d => (iblk m c 10 t : Vec Ideal S1x256x2048 .f32) (ix3 0 r d))
    (g := fun d => (iblk m c 11 t : Vec Ideal S1x1x2048 .f32) (ix3 0 0 d))
    (a := fun j => (iblk m c 0 t : Vec Ideal S1x256x1024 .bf16) (ix3 0 r j))
    (r := fun j => (iblk m c 1 t : Vec Ideal S1x256x2048 .bf16) (ix3 0 r j))
    (ga := fun k => k0_pay2 (F := Ideal) (iblk m c 2 t) (iblk m c 3 t) (iblk m c 4 t) (iblk m c 5 t) (ix2 r k))
    (gr := fun k => k0_pay3 (F := Ideal) (iblk m c 6 t) (iblk m c 7 t) (iblk m c 8 t) (iblk m c 9 t) (ix2 r k))
    (wa := fun j k => (iblk m c 15 t : Vec Ideal S1024x2048 .bf16) (ix2 j k))
    (wr := fun j k => (iblk m c 16 t : Vec Ideal S2048x2048 .bf16) (ix2 j k))
    (wm := fun j k => (iblk m c 17 t : Vec Ideal S2048x2048 .bf16) (ix2 j k))
    (fun d => ?_) (fun d => ?_) (fun j => ?_) (fun j => ?_) (gateA_blk m c t r) (gateR_blk m c t r)
    (fun j k => ?_) (fun j k => ?_) (fun j k => ?_) d
  · exact (blk_10 m c t 0 r d).trans (congrFun (V_main_arg3 m c) _)
  · exact (blk_11 m c t 0 0 d).trans (V0_at m c (bat t) d)
  · exact (blk_0 m c t 0 r j).trans (congrFun (V_main_arg0 m c) _)
  · exact (blk_1 m c t 0 r j).trans (congrFun (V_main_arg1 m c) _)
  · exact (blk_15 m c t j k).trans (V3_at m c j k)
  · exact (blk_16 m c t j k).trans (V4_at m c j k)
  · exact (blk_17 m c t j k).trans (V5_at m c j k)

/-- The normed rows of a point. -/
theorem outBlk_at (t : Fin cfg0.N) (r : Fin 256) (d : Fin 2048) :
    k0_pay1 (F := Ideal) (resBlk m c t) (mulf (resBlk m c t) (resBlk m c t)) (iblk m c 14 t) (iblk m c 13 t) (iblk m c 12 t) (ix3 0 r d)
      = outR (B0 m c) (B1 m c) (B2 m c) (B3 m c) (B4 m c) (B5 m c) (B6 m c) (B7 m c) (B8 m c) (B9 m c) (B10 m c) (bat t) (row t r) d := by
  refine (pay1_at _ _ _ _ r d).trans ?_
  unfold outR
  refine mod_congr (fun d => resBlk_at m c t r d) (fun d => ?_) (fun d => ?_) (fun d => ?_) d
  · exact (blk_14 m c t 0 d).trans (V6_at m c d)
  · exact (blk_13 m c t 0 0 d).trans (V2_at m c (bat t) d)
  · exact (blk_12 m c t 0 0 d).trans (V1_at m c (bat t) d)

/-- The array of residual sums is the reference's. -/
theorem result_res :
    (dats m 0 c).arrAt 18 cfg0.N
      = (Reference3Ideal.Read.val_main_v26 (F := Ideal) (B0 m c) (B1 m c) (B2 m c) (B3 m c) (B4 m c) (B8 m c) (B9 m c) (B10 m c)
          : FVec Ideal S4x4096x2048 .f32) := by
  refine (dats m 0 c).arrAt_eq_of_covers 18 _ (by decide +kernel) fun t hf y => ?_
  blk_simp
  rw [after0_18]
  unfold_out out0_18
  frame_out
  obtain ⟨q, r, d, rfl⟩ : ∃ (q : Fin 1) (r : Fin 256) (d : Fin 2048), y = ix3 q r d :=
    ⟨y 0, y 1, y 2, by funext a; fin_cases a <;> rfl⟩
  obtain rfl : q = 0 := Subsingleton.elim _ _
  have he : ((cfg0.win 18).blk t).view.emb (ix3 0 r d) = (ix3 (bat t) (row t r) d : S4x4096x2048.Idx) := by
    have h := idx_at_18 t
    unfold bat row
    blk_ext [h]
  refine Eq.trans ?_ (congrArg (Reference3Ideal.Read.val_main_v26 (F := Ideal) (B0 m c) (B1 m c) (B2 m c) (B3 m c) (B4 m c)
    (B8 m c) (B9 m c) (B10 m c) : FVec Ideal S4x4096x2048 .f32) he.symm)
  rw [res_at]
  exact (pay7_at _ _ _ _ _ _ _ _ r d).trans (resBlk_at m c t r d)

/-- The array of normed rows is the reference's. -/
theorem result_out :
    (dats m 0 c).arrAt 19 cfg0.N
      = (Reference3Ideal.Read.val_main_v48 (F := Ideal) (B0 m c) (B1 m c) (B2 m c) (B3 m c) (B4 m c) (B5 m c) (B6 m c) (B7 m c)
          (B8 m c) (B9 m c) (B10 m c) : FVec Ideal S4x4096x2048 .bf16) := by
  refine (dats m 0 c).arrAt_eq_of_covers 19 _ (by decide +kernel) fun t hf y => ?_
  blk_simp
  rw [after0_19]
  unfold_out out0_19
  frame_out
  obtain ⟨q, r, d, rfl⟩ : ∃ (q : Fin 1) (r : Fin 256) (d : Fin 2048), y = ix3 q r d :=
    ⟨y 0, y 1, y 2, by funext a; fin_cases a <;> rfl⟩
  obtain rfl : q = 0 := Subsingleton.elim _ _
  have he : ((cfg0.win 19).blk t).view.emb (ix3 0 r d) = (ix3 (bat t) (row t r) d : S4x4096x2048.Idx) := by
    have h := idx_at_19 t
    unfold bat row
    blk_ext [h]
  refine Eq.trans ?_ (congrArg (Reference3Ideal.Read.val_main_v48 (F := Ideal) (B0 m c) (B1 m c) (B2 m c) (B3 m c) (B4 m c)
    (B5 m c) (B6 m c) (B7 m c) (B8 m c) (B9 m c) (B10 m c) : FVec Ideal S4x4096x2048 .bf16) he.symm)
  rw [out_at]
  exact outBlk_at m c t r d
end

end Cert.Merge

end
-- ==== Proof.MergeClaim.lean ====
module

public import proofs.«01_k».proof.Defs
public import proofs.«01_k».proof.Proof.MergeTie
public import proofs.«01_k».proof.Proof.Gen.Reference3Ideal.Run
public import Idealize.ShloMosaic.Adequacy
public import Idealize.ShloMosaic.Init
public import Idealize.ShloMosaic.Lib.Quiescent

/-! The claims of the merge. -/

@[expose] public section

noncomputable section

namespace Cert.Merge

open Idealize.ShloMosaic Idealize.SL.Sem

theorem quiescent_reference : quiescent_Reference3Ideal (hReference3Ideal := Cert.Reference3Ideal.Gen.facts) := fun m ρ _ =>
  (θ_run Cert.Reference3Ideal.defs _ _).mono (fun r h => ⟨fun c => (h c).2.2, sem_eq_zero_of_no_sems (by decide) r.2⟩)
    (Cert.Reference3Ideal.Value.run (F := Ideal) m ρ)

/-- The kernel with exact arithmetic ends with the reference's two results. -/
theorem algebraic : algebraic_Kernel3Ideal_Reference3Ideal (hKernel3Ideal := Cert.Kernel3Ideal.Gen.facts)
    (hReference3Ideal := Cert.Reference3Ideal.Gen.facts) := by
  intro m ρ m' ρ' _ hagree
  refine ⟨_, _, Cert.Kernel3Ideal.Value.run_blocks (F := Ideal) m ρ, ?_⟩
  refine (θ_run Cert.Reference3Ideal.defs _ _).mono (fun _ h c => ⟨?_, ?_, (h c).2.2⟩)
    (Cert.Reference3Ideal.Value.run (F := Ideal) m' ρ')
  · refine (h c).1.trans ((Cert.Reference3Ideal.Read.val_main_v26_eq (F := Ideal) _ _ _ _ _ _ _ _).trans ?_)
    obtain ⟨e0, e1, e2, e3, e4, e5, e6, e7, e8, e9, e10⟩ := hagree c
    rw [e0, e1, e2, e3, e4, e8, e9, e10]
    exact (result_res m c).symm
  · refine (h c).2.1.trans ((Cert.Reference3Ideal.Read.val_main_v48_eq (F := Ideal) m' c).trans ?_)
    obtain ⟨e0, e1, e2, e3, e4, e5, e6, e7, e8, e9, e10⟩ := hagree c
    rw [e0, e1, e2, e3, e4, e5, e6, e7, e8, e9, e10]
    exact (result_out m c).symm

end Cert.Merge

end
-- ==== Proof.InProj.lean ====
module

public import proofs.«01_k».proof.Proof.Gen.Kernel2Ideal.Frame
public import proofs.«01_k».proof.Proof.Gen.Kernel2Ideal.Skeleton
public import Idealize.ShloMosaic.Lib.VecWindow
public import Idealize.ShloMosaic.Lib.Writes
public import Idealize.ShloMosaic.Lib.WholeRead

/-! The input projection's body, point by point: what each of its three courses leaves in the output block and in the two-slot buffer that
    carries the normalised tile from one point to the next. -/

@[expose] public section

set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resources the body's assertions speak of. -/
abbrev Res (F : FTy → Type) : Type := MT nD τ sig Unit (Elt F) ℕ (UR sig nD τ) ℕ

/-- The first condition: the first point. -/
abbrev cond1 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1

theorem cond1_iff : ∀ t : Fin cfg0.N, cond1 (grid0.coords t) ↔ t.val = 0 :=
  (by decide +kernel : ∀ t : Fin grid0.N, cond1 (grid0.coords t) ↔ t.val = 0)
theorem cond2_iff : ∀ t : Fin cfg0.N, k0_cond2 (grid0.coords t) = 1#1 ↔ t.val % 4 ≠ 3 :=
  (by decide +kernel : ∀ t : Fin grid0.N, k0_cond2 (grid0.coords t) = 1#1 ↔ t.val % 4 ≠ 3)
theorem cond3_iff : ∀ t : Fin cfg0.N, k0_cond3 (grid0.coords t) = 1#1 ↔ t.val % 4 = 3 :=
  (by decide +kernel : ∀ t : Fin grid0.N, k0_cond3 (grid0.coords t) = 1#1 ↔ t.val % 4 = 3)
/-- The slot read at a point is the parity of its row tile, and the slot filled at a row tile's last point is the other one. -/
theorem off1_eq : ∀ t : Fin cfg0.N, k0_off1 (grid0.coords t) = ![t.val / 4 % 2, 0, 0] :=
  (by decide +kernel : ∀ t : Fin grid0.N, k0_off1 (grid0.coords t) = ![t.val / 4 % 2, 0, 0])
theorem off2_eq : ∀ t : Fin cfg0.N, k0_off2 (grid0.coords t) = ![1 - t.val / 4 % 2, 0, 0] :=
  (by decide +kernel : ∀ t : Fin grid0.N, k0_off2 (grid0.coords t) = ![1 - t.val / 4 % 2, 0, 0])
theorem off3_eq : ∀ t : Fin cfg0.N, k0_off3 (grid0.coords t) = ![t.val / 4 % 2, 0, 0] :=
  (by decide +kernel : ∀ t : Fin grid0.N, k0_off3 (grid0.coords t) = ![t.val / 4 % 2, 0, 0])
/-- The output block is stored at every point. -/
theorem idle_eq : ∀ t : Fin cfg0.N, cfg0.idle 8 (grid0.coords t) = false :=
  (by decide +kernel : ∀ t : Fin grid0.N, (!(k0_cond2 (grid0.coords t) == 1#1) && !(k0_cond3 (grid0.coords t) == 1#1)) = false)

/-! ## One slot of the two-slot buffer -/

/-- Slot `s` of the buffer holds the tile `h`. -/
def Holds (d : Vec F S2x512x2048 .bf16) (s : ℕ) (h : Vec F S1x512x2048 .bf16) : Prop :=
  ∀ (z : S2x512x2048.Idx) (y : S1x512x2048.Idx), (z 0).val = s → (z 1).val = (y 1).val → (z 2).val = (y 2).val → d z = h y

/-- Loading a slot reads the tile it holds. -/
theorem load_of_holds {κ : Kind} {sp : Space} (v : View sig κ sp S2x512x2048 .bf16) (f : v.ty.Contents (Elt F)) (s : ℕ) (h : Vec F S1x512x2048 .bf16)
    {off : Fin 3 → ℕ} (ho : off = ![s, 0, 0]) (inb : ∀ a, off a + S1x512x2048.size a ≤ S2x512x2048.size a)
    (hd : Holds (v.read (Elt F) f) s h) :
    v.readAt (Elt F) (Rect.unit (s := S2x512x2048) off S1x512x2048.size inb).toLoadRect f = h := by
  subst ho
  funext y
  refine hd _ y ?_ ?_ ?_
  · show s + 1 * (y 0).val = s
    have : (y 0).val < 1 := (y 0).isLt
    omega
  · show 0 + 1 * (y 1).val = _
    omega
  · show 0 + 1 * (y 2).val = _
    omega

/-- A store of a whole slot leaves the tile in it. -/
theorem holds_of_store {κ : Kind} {sp : Space} (v : View sig κ sp S2x512x2048 .bf16) (f : v.ty.Contents (Elt F)) (s : ℕ) (w : Vec F S1x512x2048 .bf16)
    {off : Fin 3 → ℕ} (ho : off = ![s, 0, 0]) (inb : ∀ a, off a + S1x512x2048.size a ≤ S2x512x2048.size a) :
    Holds (v.read (Elt F) (v.writes (Elt F) f [⟨Rect.unit (s := S2x512x2048) off S1x512x2048.size inb, w⟩])) s w := by
  subst ho
  intro z y h0 h1 h2
  refine View.read_writes_cons_hit_of_coords v f (Rect.unit (s := S2x512x2048) _ S1x512x2048.size inb) w [] y z fun a => ?_
  have : (y 0).val < 1 := (y 0).isLt
  match a with
  | 0 => show (z 0).val = s + 1 * (y 0).val; omega
  | 1 => show (z 1).val = 0 + 1 * (y 1).val; omega
  | 2 => show (z 2).val = 0 + 1 * (y 2).val; omega

/-- A store of one slot leaves the tile of the other. -/
theorem holds_of_other {κ : Kind} {sp : Space} (v : View sig κ sp S2x512x2048 .bf16) (f : v.ty.Contents (Elt F)) (s s' : ℕ) (hne : s ≠ s') (w h : Vec F S1x512x2048 .bf16)
    {off : Fin 3 → ℕ} (ho : off = ![s', 0, 0]) (inb : ∀ a, off a + S1x512x2048.size a ≤ S2x512x2048.size a)
    (hd : Holds (v.read (Elt F) f) s h) :
    Holds (v.read (Elt F) (v.writes (Elt F) f [⟨Rect.unit (s := S2x512x2048) off S1x512x2048.size inb, w⟩])) s h := by
  subst ho
  intro z y h0 h1 h2
  rw [View.read_writes_cons_miss_of_axis v f _ [] z 0 s' 1 rfl rfl rfl (by omega)]
  exact hd z y h0 h1 h2

set_option maxHeartbeats 2000000 in
/-- At a row tile's last column block: the next tile's rows are normalised into the other slot, then the slot's tile is multiplied. -/
theorem run_C (c : Dev nD) (i : grid0.Coords) (arg2 : Memref sig .tc .vmem S512x2048 .f32) (harg2 : arg2.IsWhole)
    (arg3 : Memref sig .tc .vmem S512x2048 .f32) (harg3 : arg3.IsWhole) (arg4 : Memref sig .tc .vmem S1x2048 .f32) (harg4 : arg4.IsWhole)
    (arg5 : Memref sig .tc .vmem S1x1x2048 .f32) (harg5 : arg5.IsWhole) (arg6 : Memref sig .tc .vmem S1x1x2048 .f32) (harg6 : arg6.IsWhole)
    (arg7 : Memref sig .tc .vmem S1x1x2048 .f32) (harg7 : arg7.IsWhole) (arg8 : Memref sig .tc .vmem S1x1x2048 .f32) (harg8 : arg8.IsWhole)
    (arg9 : Memref sig .tc .vmem S2048x2944 .bf16) (harg9 : arg9.IsWhole) (arg10 : Memref sig .tc .vmem S512x2944 .bf16) (harg10 : arg10.IsWhole)
    (arg11 : Memref sig .tc .vmem S2x512x2048 .bf16) (harg11 : arg11.IsWhole)
    (s : ℕ) (hs : s < 2) (ho2 : k0_off2 i = ![1 - s, 0, 0]) (ho3 : k0_off3 i = ![s, 0, 0]) (h1 : ¬ cond1 i) (h2 : ¬ k0_cond2 i = 1#1) (h3 : k0_cond3 i = 1#1)
    (x3 : Vec F S512x2048 .f32) (x4 : Vec F S1x2048 .f32) (x7 : Vec F S1x1x2048 .f32) (x8 : Vec F S1x1x2048 .f32) (x9 : Vec F S2048x2944 .bf16)
    (d : Vec F S2x512x2048 .bf16) (h : Vec F S1x512x2048 .bf16) (hd : Holds d s h) (E : Set ℕ) (K : PUnit → sProp (Res F)) :
    iprop(owns (c : Thread nD τ) arg3 fullShare x3 ∗ owns (c : Thread nD τ) arg4 fullShare x4 ∗ owns (c : Thread nD τ) arg7 fullShare x7 ∗ owns (c : Thread nD τ) arg8 fullShare x8 ∗ owns (c : Thread nD τ) arg9 fullShare x9
      ∗ (∃ d, owns (c : Thread nD τ) arg10 fullShare d) ∗ owns (c : Thread nD τ) arg11 fullShare d
      ∗ (iprop(owns (c : Thread nD τ) arg3 fullShare x3 ∗ owns (c : Thread nD τ) arg4 fullShare x4 ∗ owns (c : Thread nD τ) arg7 fullShare x7 ∗ owns (c : Thread nD τ) arg8 fullShare x8 ∗ owns (c : Thread nD τ) arg9 fullShare x9 ∗ owns (c : Thread nD τ) arg10 fullShare (k0_pay2 h x9)
        ∗ (∃ d', ⌜Holds d' (1 - s) (k0_pay4 x3 x7 x8 x4)⌝ ∗ owns (c : Thread nD τ) arg11 fullShare d')) -∗ K ⟨⟩))
    ⊢ wp frame (wpE (defs₀ (F := F)) Variants.none c none) E (cc0_in_proj i arg2 harg2 arg3 harg3 arg4 harg4 arg5 harg5 arg6 harg6 arg7 harg7 arg8 harg8 arg9 harg9 arg10 harg10 arg11 harg11) K := by
  simp only [cc0_in_proj_eq_skeleton]; unfold cc0_in_proj_skel
  simp only [k0_part1_eq_skeleton]
  unfold owns
  iintro ⟨⟨%f3, %hf3, H3⟩, ⟨%f4, %hf4, H4⟩, ⟨%f7, %hf7, H7⟩, ⟨%f8, %hf8, H8⟩, ⟨%f9, %hf9, H9⟩, ⟨%d10, %f10, -, H10⟩, ⟨%fs, %hfs, HS⟩, Hk⟩
  obtain rfl := harg3.eq_unread hf3; obtain rfl := harg4.eq_unread hf4; obtain rfl := harg7.eq_unread hf7; obtain rfl := harg8.eq_unread hf8; obtain rfl := harg9.eq_unread hf9; obtain rfl := harg11.eq_unread hfs
  letI : ClosedOff (k0_off2 i) := ⟨![1 - s, 0, 0], ho2⟩
  letI : ClosedOff (k0_off3 i) := ⟨![s, 0, 0], ho3⟩
  sl_exec (disch := first | sl_exact h1 | sl_exact h2 | sl_exact h3)
  sl_step
  unfold run_C.sl.r run_C.sl.r_1 run_C.sl.HS_1 run_C.sl.cst_28
  have e3 : ∀ {off : Fin S512x2048.rank → ℕ} (inb : ∀ a, off a + S512x2048.size a ≤ S512x2048.size a),
      View.readAt (Elt F) arg3.view (Rect.unit off S512x2048.size inb).toLoadRect (harg3.unread x3) = x3 :=
    fun inb => (View.readAt_full _ _ inb).trans (harg3.read_unread x3)
  have e4 : ∀ {off : Fin S1x2048.rank → ℕ} (inb : ∀ a, off a + S1x2048.size a ≤ S1x2048.size a),
      View.readAt (Elt F) arg4.view (Rect.unit off S1x2048.size inb).toLoadRect (harg4.unread x4) = x4 :=
    fun inb => (View.readAt_full _ _ inb).trans (harg4.read_unread x4)
  have e7 : ∀ {off : Fin S1x1x2048.rank → ℕ} (inb : ∀ a, off a + S1x1x2048.size a ≤ S1x1x2048.size a),
      View.readAt (Elt F) arg7.view (Rect.unit off S1x1x2048.size inb).toLoadRect (harg7.unread x7) = x7 :=
    fun inb => (View.readAt_full _ _ inb).trans (harg7.read_unread x7)
  have e8 : ∀ {off : Fin S1x1x2048.rank → ℕ} (inb : ∀ a, off a + S1x1x2048.size a ≤ S1x1x2048.size a),
      View.readAt (Elt F) arg8.view (Rect.unit off S1x1x2048.size inb).toLoadRect (harg8.unread x8) = x8 :=
    fun inb => (View.readAt_full _ _ inb).trans (harg8.read_unread x8)
  have e9 : ∀ {off : Fin S2048x2944.rank → ℕ} (inb : ∀ a, off a + S2048x2944.size a ≤ S2048x2944.size a),
      View.readAt (Elt F) arg9.view (Rect.unit off S2048x2944.size inb).toLoadRect (harg9.unread x9) = x9 :=
    fun inb => (View.readAt_full _ _ inb).trans (harg9.read_unread x9)
  simp only [e3, e4, e7, e8, e9]
  iapply Hk
  isplitl [H3]
  · iexists _; isplitr; swap; · iexact H3
    ipureintro; exact harg3.read_unread x3
  isplitl [H4]
  · iexists _; isplitr; swap; · iexact H4
    ipureintro; exact harg4.read_unread x4
  isplitl [H7]
  · iexists _; isplitr; swap; · iexact H7
    ipureintro; exact harg7.read_unread x7
  isplitl [H8]
  · iexists _; isplitr; swap; · iexact H8
    ipureintro; exact harg8.read_unread x8
  isplitl [H9]
  · iexists _; isplitr; swap; · iexact H9
    ipureintro; exact harg9.read_unread x9
  isplitl [H10]
  · iexists _; isplitr; swap; · iexact H10
    ipureintro
    refine (View.read_writes_full _ _ _ _ _).trans ?_
    exact congrArg (fun g => k0_pay2 g x9) (load_of_holds _ _ s h ho3 _ (holds_of_other _ _ s (1 - s) (by omega) _ _ ho2 _ (by
      rw [harg11.read_unread]; exact hd)))
  iexists (arg11.view.read (Elt F) _); isplitr; swap
  · iexists _; isplitr; swap; · iexact HS
    ipureintro; rfl
  ipureintro
  exact holds_of_store _ _ _ _ ho2 _

set_option maxHeartbeats 2000000 in
/-- At a row tile's other column blocks: the slot's tile is multiplied, and the buffer stays as it is. -/
theorem run_B (c : Dev nD) (i : grid0.Coords) (arg2 : Memref sig .tc .vmem S512x2048 .f32) (harg2 : arg2.IsWhole)
    (arg3 : Memref sig .tc .vmem S512x2048 .f32) (harg3 : arg3.IsWhole) (arg4 : Memref sig .tc .vmem S1x2048 .f32) (harg4 : arg4.IsWhole)
    (arg5 : Memref sig .tc .vmem S1x1x2048 .f32) (harg5 : arg5.IsWhole) (arg6 : Memref sig .tc .vmem S1x1x2048 .f32) (harg6 : arg6.IsWhole)
    (arg7 : Memref sig .tc .vmem S1x1x2048 .f32) (harg7 : arg7.IsWhole) (arg8 : Memref sig .tc .vmem S1x1x2048 .f32) (harg8 : arg8.IsWhole)
    (arg9 : Memref sig .tc .vmem S2048x2944 .bf16) (harg9 : arg9.IsWhole) (arg10 : Memref sig .tc .vmem S512x2944 .bf16) (harg10 : arg10.IsWhole)
    (arg11 : Memref sig .tc .vmem S2x512x2048 .bf16) (harg11 : arg11.IsWhole)
    (s : ℕ) (ho1 : k0_off1 i = ![s, 0, 0]) (h1 : ¬ cond1 i) (h2 : k0_cond2 i = 1#1) (h3 : ¬ k0_cond3 i = 1#1)
    (x9 : Vec F S2048x2944 .bf16)
    (d : Vec F S2x512x2048 .bf16) (h : Vec F S1x512x2048 .bf16) (hd : Holds d s h) (E : Set ℕ) (K : PUnit → sProp (Res F)) :
    iprop(owns (c : Thread nD τ) arg9 fullShare x9
      ∗ (∃ d, owns (c : Thread nD τ) arg10 fullShare d) ∗ owns (c : Thread nD τ) arg11 fullShare d
      ∗ (iprop(owns (c : Thread nD τ) arg9 fullShare x9 ∗ owns (c : Thread nD τ) arg10 fullShare (k0_pay2 h x9)
        ∗ (∃ d', ⌜Holds d' s h⌝ ∗ owns (c : Thread nD τ) arg11 fullShare d')) -∗ K ⟨⟩))
    ⊢ wp frame (wpE (defs₀ (F := F)) Variants.none c none) E (cc0_in_proj i arg2 harg2 arg3 harg3 arg4 harg4 arg5 harg5 arg6 harg6 arg7 harg7 arg8 harg8 arg9 harg9 arg10 harg10 arg11 harg11) K := by
  simp only [cc0_in_proj_eq_skeleton]; unfold cc0_in_proj_skel
  simp only [k0_part1_eq_skeleton]
  unfold owns
  iintro ⟨⟨%f9, %hf9, H9⟩, ⟨%d10, %f10, -, H10⟩, ⟨%fs, %hfs, HS⟩, Hk⟩
  obtain rfl := harg9.eq_unread hf9; obtain rfl := harg11.eq_unread hfs
  letI : ClosedOff (k0_off1 i) := ⟨![s, 0, 0], ho1⟩
  sl_exec (disch := first | sl_exact h1 | sl_exact h2 | sl_exact h3)
  sl_step
  have e9 : ∀ {off : Fin S2048x2944.rank → ℕ} (inb : ∀ a, off a + S2048x2944.size a ≤ S2048x2944.size a),
      View.readAt (Elt F) arg9.view (Rect.unit off S2048x2944.size inb).toLoadRect (harg9.unread x9) = x9 :=
    fun inb => (View.readAt_full _ _ inb).trans (harg9.read_unread x9)
  simp only [e9]
  iapply Hk
  isplitl [H9]
  · iexists _; isplitr; swap; · iexact H9
    ipureintro; exact harg9.read_unread x9
  isplitl [H10]
  · iexists _; isplitr; swap; · iexact H10
    ipureintro
    refine (View.read_writes_full _ _ _ _ _).trans ?_
    exact congrArg (fun g => k0_pay2 g x9) (load_of_holds _ _ s h ho1 _ (by rw [harg11.read_unread]; exact hd))
  iexists (arg11.view.read (Elt F) _); isplitr; swap
  · iexists _; isplitr; swap; · iexact HS
    ipureintro; rfl
  ipureintro
  rw [harg11.read_unread]; exact hd

set_option maxHeartbeats 2000000 in
/-- At the first point: the first tile's rows are normalised into slot 0, then multiplied. -/
theorem run_A (c : Dev nD) (i : grid0.Coords) (arg2 : Memref sig .tc .vmem S512x2048 .f32) (harg2 : arg2.IsWhole)
    (arg3 : Memref sig .tc .vmem S512x2048 .f32) (harg3 : arg3.IsWhole) (arg4 : Memref sig .tc .vmem S1x2048 .f32) (harg4 : arg4.IsWhole)
    (arg5 : Memref sig .tc .vmem S1x1x2048 .f32) (harg5 : arg5.IsWhole) (arg6 : Memref sig .tc .vmem S1x1x2048 .f32) (harg6 : arg6.IsWhole)
    (arg7 : Memref sig .tc .vmem S1x1x2048 .f32) (harg7 : arg7.IsWhole) (arg8 : Memref sig .tc .vmem S1x1x2048 .f32) (harg8 : arg8.IsWhole)
    (arg9 : Memref sig .tc .vmem S2048x2944 .bf16) (harg9 : arg9.IsWhole) (arg10 : Memref sig .tc .vmem S512x2944 .bf16) (harg10 : arg10.IsWhole)
    (arg11 : Memref sig .tc .vmem S2x512x2048 .bf16) (harg11 : arg11.IsWhole)
    (ho1 : k0_off1 i = ![0, 0, 0]) (h1 : cond1 i) (h2 : k0_cond2 i = 1#1) (h3 : ¬ k0_cond3 i = 1#1)
    (x2 : Vec F S512x2048 .f32) (x4 : Vec F S1x2048 .f32) (x5 : Vec F S1x1x2048 .f32) (x6 : Vec F S1x1x2048 .f32) (x9 : Vec F S2048x2944 .bf16)
     (E : Set ℕ) (K : PUnit → sProp (Res F)) :
    iprop(owns (c : Thread nD τ) arg2 fullShare x2 ∗ owns (c : Thread nD τ) arg4 fullShare x4 ∗ owns (c : Thread nD τ) arg5 fullShare x5 ∗ owns (c : Thread nD τ) arg6 fullShare x6 ∗ owns (c : Thread nD τ) arg9 fullShare x9
      ∗ (∃ d, owns (c : Thread nD τ) arg10 fullShare d) ∗ (∃ d, owns (c : Thread nD τ) arg11 fullShare d)
      ∗ (iprop(owns (c : Thread nD τ) arg2 fullShare x2 ∗ owns (c : Thread nD τ) arg4 fullShare x4 ∗ owns (c : Thread nD τ) arg5 fullShare x5 ∗ owns (c : Thread nD τ) arg6 fullShare x6 ∗ owns (c : Thread nD τ) arg9 fullShare x9 ∗ owns (c : Thread nD τ) arg10 fullShare (k0_pay2 (k0_pay1 x2 x5 x6 x4) x9)
        ∗ (∃ d', ⌜Holds d' 0 (k0_pay1 x2 x5 x6 x4)⌝ ∗ owns (c : Thread nD τ) arg11 fullShare d')) -∗ K ⟨⟩))
    ⊢ wp frame (wpE (defs₀ (F := F)) Variants.none c none) E (cc0_in_proj i arg2 harg2 arg3 harg3 arg4 harg4 arg5 harg5 arg6 harg6 arg7 harg7 arg8 harg8 arg9 harg9 arg10 harg10 arg11 harg11) K := by
  simp only [cc0_in_proj_eq_skeleton]; unfold cc0_in_proj_skel
  simp only [k0_part1_eq_skeleton]
  unfold owns
  iintro ⟨⟨%f2, %hf2, H2⟩, ⟨%f4, %hf4, H4⟩, ⟨%f5, %hf5, H5⟩, ⟨%f6, %hf6, H6⟩, ⟨%f9, %hf9, H9⟩, ⟨%d10, %f10, -, H10⟩, ⟨%d, %fs, %hfs, HS⟩, Hk⟩
  obtain rfl := harg2.eq_unread hf2; obtain rfl := harg4.eq_unread hf4; obtain rfl := harg5.eq_unread hf5; obtain rfl := harg6.eq_unread hf6; obtain rfl := harg9.eq_unread hf9; obtain rfl := harg11.eq_unread hfs
  letI : ClosedOff (k0_off1 i) := ⟨![0, 0, 0], ho1⟩
  sl_exec (disch := first | sl_exact h1 | sl_exact h2 | sl_exact h3)
  sl_step
  unfold run_A.sl.v22 run_A.sl.HS_1
  have e2 : ∀ {off : Fin S512x2048.rank → ℕ} (inb : ∀ a, off a + S512x2048.size a ≤ S512x2048.size a),
      View.readAt (Elt F) arg2.view (Rect.unit off S512x2048.size inb).toLoadRect (harg2.unread x2) = x2 :=
    fun inb => (View.readAt_full _ _ inb).trans (harg2.read_unread x2)
  have e4 : ∀ {off : Fin S1x2048.rank → ℕ} (inb : ∀ a, off a + S1x2048.size a ≤ S1x2048.size a),
      View.readAt (Elt F) arg4.view (Rect.unit off S1x2048.size inb).toLoadRect (harg4.unread x4) = x4 :=
    fun inb => (View.readAt_full _ _ inb).trans (harg4.read_unread x4)
  have e5 : ∀ {off : Fin S1x1x2048.rank → ℕ} (inb : ∀ a, off a + S1x1x2048.size a ≤ S1x1x2048.size a),
      View.readAt (Elt F) arg5.view (Rect.unit off S1x1x2048.size inb).toLoadRect (harg5.unread x5) = x5 :=
    fun inb => (View.readAt_full _ _ inb).trans (harg5.read_unread x5)
  have e6 : ∀ {off : Fin S1x1x2048.rank → ℕ} (inb : ∀ a, off a + S1x1x2048.size a ≤ S1x1x2048.size a),
      View.readAt (Elt F) arg6.view (Rect.unit off S1x1x2048.size inb).toLoadRect (harg6.unread x6) = x6 :=
    fun inb => (View.readAt_full _ _ inb).trans (harg6.read_unread x6)
  have e9 : ∀ {off : Fin S2048x2944.rank → ℕ} (inb : ∀ a, off a + S2048x2944.size a ≤ S2048x2944.size a),
      View.readAt (Elt F) arg9.view (Rect.unit off S2048x2944.size inb).toLoadRect (harg9.unread x9) = x9 :=
    fun inb => (View.readAt_full _ _ inb).trans (harg9.read_unread x9)
  simp only [e2, e4, e5, e6, e9]
  iapply Hk
  isplitl [H2]
  · iexists _; isplitr; swap; · iexact H2
    ipureintro; exact harg2.read_unread x2
  isplitl [H4]
  · iexists _; isplitr; swap; · iexact H4
    ipureintro; exact harg4.read_unread x4
  isplitl [H5]
  · iexists _; isplitr; swap; · iexact H5
    ipureintro; exact harg5.read_unread x5
  isplitl [H6]
  · iexists _; isplitr; swap; · iexact H6
    ipureintro; exact harg6.read_unread x6
  isplitl [H9]
  · iexists _; isplitr; swap; · iexact H9
    ipureintro; exact harg9.read_unread x9
  isplitl [H10]
  · iexists _; isplitr; swap; · iexact H10
    ipureintro
    refine (View.read_writes_full _ _ _ _ _).trans ?_
    exact congrArg (fun g => k0_pay2 g x9) (load_of_holds _ _ 0 _ ho1 _ (holds_of_store _ _ _ _ rfl _))
  iexists (arg11.view.read (Elt F) _); isplitr; swap
  · iexists _; isplitr; swap; · iexact HS
    ipureintro; rfl
  ipureintro
  exact holds_of_store _ _ _ _ rfl _

end Cert.Kernel2Ideal.Gen

end
-- ==== Proof.InProjFrame.lean ====
module

public import proofs.«01_k».proof.Proof.InProj
public import proofs.«01_k».proof.Proof.Gen.Kernel2
public import Idealize.ShloMosaic.Lib.Claim

/-! The input projection's run: the tile carried in the two-slot buffer at each point, the body at every point, and the whole program from its
    launch to its end. -/

@[expose] public section

set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

/-- The grid's first point. -/
abbrev pt0 : Fin cfg0.N := ⟨0, by rw [show cfg0.N = 128 from N_0]; omega⟩

/-- The normalised and modulated tile `T`: the first from the windows the first point reads, each later one from the windows read at the last
    point of the tile before it. -/
def held (c : Dev nD) : ℕ → Vec F S1x512x2048 .bf16
  | 0 => k0_pay1 (iblk m c 0 pt0) (iblk m c 3 pt0) (iblk m c 4 pt0) (iblk m c 2 pt0)
  | T + 1 => if h : 4 * T + 3 < cfg0.N then k0_pay4 (iblk m c 1 ⟨4 * T + 3, h⟩) (iblk m c 5 ⟨4 * T + 3, h⟩) (iblk m c 6 ⟨4 * T + 3, h⟩) (iblk m c 2 ⟨4 * T + 3, h⟩)
      else k0_pay1 (iblk m c 0 pt0) (iblk m c 3 pt0) (iblk m c 4 pt0) (iblk m c 2 pt0)

theorem held_zero (c : Dev nD) : held m c 0 = k0_pay1 (iblk m c 0 pt0) (iblk m c 3 pt0) (iblk m c 4 pt0) (iblk m c 2 pt0) := by
  unfold held; rfl

theorem held_succ (c : Dev nD) (t : Fin cfg0.N) (ht : t.val % 4 = 3) :
    held m c (t.val / 4 + 1) = k0_pay4 (iblk m c 1 t) (iblk m c 5 t) (iblk m c 6 t) (iblk m c 2 t) := by
  obtain ⟨n, hn⟩ := t
  have e : 4 * (n / 4) + 3 = n := by
    have : n % 4 = 3 := ht
    omega
  have key : ∀ k (hk : k < cfg0.N), k = n → k0_pay4 (iblk m c 1 ⟨k, hk⟩) (iblk m c 5 ⟨k, hk⟩) (iblk m c 6 ⟨k, hk⟩) (iblk m c 2 ⟨k, hk⟩)
      = k0_pay4 (iblk m c 1 ⟨n, hn⟩) (iblk m c 5 ⟨n, hn⟩) (iblk m c 6 ⟨n, hn⟩) (iblk m c 2 ⟨n, hn⟩) := by
    intro k hk hkn; subst hkn; rfl
  show held m c (n / 4 + 1) = _
  unfold held
  show dite (4 * (n / 4) + 3 < cfg0.N) _ _ = _
  rw [dif_pos (show 4 * (n / 4) + 3 < cfg0.N by rw [e]; exact hn)]
  exact key _ _ e

/-- The two-slot buffer. -/
abbrev scM : Memref sig .tc .vmem S2x512x2048 .bf16 := Memref.whole cc0_scratch0

/-- What the launch hands over besides the windows: the two-slot buffer at anything, and the generator's register. -/
theorem launched_eq (c : Dev nD) :
    (Pipeline.ΦA spec0 c : sProp (Res F)) = iprop((∃ d, owns (c : Thread nD τ) scM fullShare d) ∗ (∃ r, prngReg c r)) := by
  unfold Pipeline.ΦA; rw [scopedRest0_eq]; simp only [scM, owns_whole]; try rfl

/-- Between points: before the first, what the launch hands over; later, the buffer's slot of the current row tile holds that tile. -/
def carried (c : Dev nD) : ℕ → sProp (Res F)
  | 0 => Pipeline.ΦA spec0 c
  | n + 1 => iprop((∃ d, ⌜Holds d ((n + 1) / 4 % 2) (held m c ((n + 1) / 4))⌝ ∗ owns (c : Thread nD τ) scM fullShare d) ∗ (∃ r, prngReg c r))

theorem carried_zero (c : Dev nD) : carried m c 0 = Pipeline.ΦA spec0 c := by unfold carried; rfl
theorem carried_pos (c : Dev nD) (n : ℕ) (hn : n ≠ 0) :
    carried m c n = iprop((∃ d, ⌜Holds d (n / 4 % 2) (held m c (n / 4))⌝ ∗ owns (c : Thread nD τ) scM fullShare d) ∗ (∃ r, prngReg c r)) := by
  obtain ⟨k, rfl⟩ := Nat.exists_eq_succ_of_ne_zero hn
  unfold carried; rfl

/-- The run's data: the arrays as the region finds them; after each point the inputs' blocks as they were, and the output's block the product
    of the row tile and the weight block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => k0_pay2 (held m c (t.val / 4)) (iblk m c 7 t)
    | ⟨_ + 9, h⟩ => absurd h (Nat.not_lt.2 (Nat.le_add_left _ _))
  Φ t := carried m c t.val
  q w := Pipeline.shareOf spec0 w
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = k0_pay2 (held m c (t.val / 4)) (iblk m c 7 t) := by dsimp only [dats]

theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d
theorem before0_5 (c : Dev nD) (t : Fin cfg0.N) (d) : (dats m 0 c).before 5 t d = iblk m c 5 t := before0_5_of m (dats m 0 c) (A_eq m c 5) (after0_5 m c) t d
theorem before0_6 (c : Dev nD) (t : Fin cfg0.N) (d) : (dats m 0 c).before 6 t d = iblk m c 6 t := before0_6_of m (dats m 0 c) (A_eq m c 6) (after0_6 m c) t d
theorem before0_7 (c : Dev nD) (t : Fin cfg0.N) (d) : (dats m 0 c).before 7 t d = iblk m c 7 t := before0_7_of m (dats m 0 c) (A_eq m c 7) (after0_7 m c) t d

/-- What the body is called with at a point, the windows one by one, -/
def bodyPre (c : Dev nD) (t : Fin cfg0.N) : sProp (Res F) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp (Res F) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

set_option maxHeartbeats 2000000 in
/-- The body at any point, by which of its three courses the point takes. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.castSucc = carried m c t.val from rfl, show (dats m 0 c).Φ t.succ = carried m c (t.val + 1) from rfl,
    show (dats m 0 c).owesAt () t.succ = (dats m 0 c).owesAt () t.castSucc from rfl,
    after0_0, after0_1, after0_2, after0_3, after0_4, after0_5, after0_6, after0_7, after0_8]
  rw [carried_pos m c (t.val + 1) (by omega)]
  by_cases hz : t.val = 0
  · obtain rfl : t = pt0 := Fin.ext hz
    rw [show (pt0 : Fin cfg0.N).val = 0 from rfl, carried_zero, launched_eq]
    rw [show held m c (0 / 4) = held m c 0 from rfl, show held m c ((0 + 1) / 4) = held m c 0 from rfl, held_zero]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run_A c (grid0.coords pt0) _ _ _ _ _ _ _ _ _ _ _ _ _ _ _ _ _ _ scM (Memref.isWhole_whole _) (off1_eq pt0) ((cond1_iff pt0).mpr rfl)
      ((cond2_iff pt0).mpr (by decide)) (fun h => absurd ((cond3_iff pt0).mp h) (by decide))
      (iblk m c 0 pt0) (iblk m c 2 pt0) (iblk m c 3 pt0) (iblk m c 4 pt0) (iblk m c 7 pt0) Set.univ _)
    isplitl [H0]; · iexact H0
    isplitl [H2]; · iexact H2
    isplitl [H3]; · iexact H3
    isplitl [H4]; · iexact H4
    isplitl [H7]; · iexact H7
    isplitl [H8]; · iexists _; iexact H8
    isplitl [HS]; · iexact HS
    iintro ⟨H0, H2, H3, H4, H7, H8, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · rw [carried_pos m c t.val hz]
    by_cases h3 : t.val % 4 = 3
    · rw [show (t.val + 1) / 4 = t.val / 4 + 1 by omega, show (t.val / 4 + 1) % 2 = 1 - t.val / 4 % 2 by omega, held_succ m c t h3]
      iintro ⟨⟨⟨%d, %hd, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (run_C c (grid0.coords t) _ _ _ _ _ _ _ _ _ _ _ _ _ _ _ _ _ _ scM (Memref.isWhole_whole _) (t.val / 4 % 2) (by omega) (off2_eq t) (off3_eq t)
        (fun h => hz ((cond1_iff t).mp h)) (fun h => (cond2_iff t).mp h h3) ((cond3_iff t).mpr h3)
        (iblk m c 1 t) (iblk m c 2 t) (iblk m c 5 t) (iblk m c 6 t) (iblk m c 7 t) d (held m c (t.val / 4)) hd Set.univ _)
      isplitl [H1]; · iexact H1
      isplitl [H2]; · iexact H2
      isplitl [H5]; · iexact H5
      isplitl [H6]; · iexact H6
      isplitl [H7]; · iexact H7
      isplitl [H8]; · iexists _; iexact H8
      isplitl [HS]; · iexact HS
      iintro ⟨H1, H2, H5, H6, H7, H8, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · rw [show (t.val + 1) / 4 = t.val / 4 by omega]
      iintro ⟨⟨⟨%d, %hd, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (run_B c (grid0.coords t) _ _ _ _ _ _ _ _ _ _ _ _ _ _ _ _ _ _ scM (Memref.isWhole_whole _) (t.val / 4 % 2) (off1_eq t)
        (fun h => hz ((cond1_iff t).mp h)) ((cond2_iff t).mpr h3) (fun h => h3 ((cond3_iff t).mp h))
        (iblk m c 7 t) d (held m c (t.val / 4)) hd Set.univ _)
      isplitl [H7]; · iexact H7
      isplitl [H8]; · iexists _; iexact H8
      isplitl [HS]; · iexact HS
      iintro ⟨H7, H8, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8

/-- The body table's row at a point is the body there. -/
theorem row_eq (t : Fin cfg0.N) : defs₀ (F := F) .tc cfg0.body (cfg0.bodyArgs t (cfg0.slots t)) = bodyAt0 t := by
  unfold defs₀; rw [Defs.onTc_tc]

/-- The pipeline's demand of the body, at every point. -/
theorem body_obligation (c : Dev nD) : BodyObligation (dats (F := F) m 0 c) (defs₀ (F := F)) Variants.none () Set.univ := fun t => by
  rw [bigSep_W0, bigSep_W0, row_eq]
  simp only [show idle0 8 (grid0.coords t) = false from idle_eq t]
  exact triple_restated (sound_body m c t) rfl .rfl fun _ => .rfl

theorem hin (c : Dev nD) : Pipeline.ΦA spec0 c ⊢ (dats m 0 c).Φ 0 := by
  rw [show (dats m 0 c).Φ 0 = carried m c 0 from rfl, carried_zero]

theorem hout (c : Dev nD) : (dats m 0 c).Φ (Fin.last cfg0.N) ⊢ Pipeline.ΦA spec0 c := by
  have hN : cfg0.N = 128 := N_0
  rw [show (dats m 0 c).Φ (Fin.last cfg0.N) = carried m c cfg0.N from rfl, carried_pos m c _ (by omega), launched_eq]
  iintro ⟨⟨%d, -, HS⟩, Hg⟩
  isplitl [HS]
  · iexists _; iexact HS
  iexact Hg

-- the launch theorem's implicit arguments are found by unifying its conclusion with this one, which takes unfolding plain definitions in a
-- metavariable's type
set_option backward.isDefEq.respectTransparency.types false in
/-- The run, with every counter at zero at its end. -/
theorem run_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_quiescent m ρ)

/-- The frame: the argument arrays end as launched and every counter at zero. -/
theorem frame_in : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_quiescent m ρ))

end Cert.Kernel2Ideal.Gen

end
-- ==== Proof.InProjValue.lean ====
module

public import proofs.«01_k».proof.Proof.InProjFrame
public import proofs.«01_k».proof.Proof.Merge
public import proofs.«01_k».proof.Proof.Gen.Reference2Ideal.Read
public import Idealize.ShloMosaic.Lib.Pointwise
public import Idealize.ShloMosaic.Lib.Pipeline.ValueKit
public import Idealize.ShloMosaic.Lib.StableHlo.RunRead
public import Idealize.ShloMosaic.Lib.Claim
public import Idealize.ShloMosaic.Lib.Tactic.ValueTie

/-! The input projection's value: the tile carried at each row tile is the normed and modulated rows, every grid point multiplies it by a block of
2944 columns of the weight, and the array of results is the reference's. -/

@[expose] public section

set_option maxRecDepth 16384

noncomputable section

namespace Cert.InProj

open Idealize.ShloMosaic Idealize.SL.Sem Cert.Kernel2Ideal Cert.Kernel2Ideal.Gen
open Cert.Merge (modE)

/-- The first tile's normed and modulated rows. -/
theorem pay1_at (x : FVec Ideal S512x2048 .f32) (sh sc : FVec Ideal S1x1x2048 .f32) (w : FVec Ideal S1x2048 .f32) (r : Fin 512) (k : Fin 2048) :
    k0_pay1 (F := Ideal) x sh sc w (ix3 0 r k)
      = modE (fun k => x (ix2 r k)) (fun k => w (ix2 0 k)) (fun k => sc (ix3 0 0 k)) (fun k => sh (ix3 0 0 k)) k := by
  unfold k0_pay1 modE
  pointwise

/-- A later tile's. -/
theorem pay4_at (x : FVec Ideal S512x2048 .f32) (sh sc : FVec Ideal S1x1x2048 .f32) (w : FVec Ideal S1x2048 .f32) (r : Fin 512) (k : Fin 2048) :
    k0_pay4 (F := Ideal) x sh sc w (ix3 0 r k)
      = modE (fun k => x (ix2 r k)) (fun k => w (ix2 0 k)) (fun k => sc (ix3 0 0 k)) (fun k => sh (ix3 0 0 k)) k := by
  unfold k0_pay4 modE
  pointwise

/-- What a grid point stores: the tile times a block of the weight. -/
theorem pay2_at (h : FVec Ideal S1x512x2048 .bf16) (w : FVec Ideal S2048x2944 .bf16) (r : Fin 512) (d : Fin 2944) :
    k0_pay2 (F := Ideal) h w (ix2 r d) = ∑ k : Fin 2048, h (ix3 0 r k) * w (ix2 k d) := by
  unfold k0_pay2
  pointwise

/-! ## The reference at an index -/

section
variable (x : FVec Ideal S4x4096x2048 .f32) (w : FVec Ideal S2048 .f32) (sh sc : FVec Ideal S4x2048 .f32) (W : FVec Ideal S2048x11776 .f32)

/-- Row `i` of all batches in order, normed and modulated. -/
def rowR (i : Fin 16384) : Fin 2048 → EReal :=
  modE (fun k => x (ix3 ⟨i.val / 4096, by omega⟩ ⟨i.val % 4096, by omega⟩ k)) (fun k => w (ix1 k))
    (fun k => sc (ix2 ⟨i.val / 4096, by omega⟩ k)) (fun k => sh (ix2 ⟨i.val / 4096, by omega⟩ k))

open Cert.Reference2Ideal.Read in
theorem mean_at (b : Fin 4) (l : Fin 4096) :
    (val_main_v7 (F := Ideal) x : FVec Ideal Reference2Ideal.S4x4096x1 .f32) (ix3 b l 0)
      = Ideal.rsqrt (Ideal.div (∑ k, x (ix3 b l k) * x (ix3 b l k)) (Ideal.ofBits .f32 0x45000000#32) + Ideal.ofBits .f32 0x358637BD#32) := by
  unfold val_main_v7 val_main_v6 val_main_v5 val_main_cst_1 val_main_v4 val_main_v3 val_main_cst_0 val_main_v2 val_main_v1 val_main_cst val_main_v0
  pointwise

open Cert.Reference2Ideal.Read in
theorem row_at (b : Fin 4) (l : Fin 4096) (k : Fin 2048) :
    (val_main_v20 (F := Ideal) x w sh sc : FVec Ideal S4x4096x2048 .f32) (ix3 b l k)
      = modE (fun k => x (ix3 b l k)) (fun k => w (ix1 k)) (fun k => sc (ix2 b k)) (fun k => sh (ix2 b k)) k := by
  have e := mean_at x b l
  unfold val_main_v20 val_main_v19 val_main_v18 val_main_v17 val_main_v16 val_main_v15 val_main_v14 val_main_cst_2 val_main_v13 val_main_v12
    val_main_v11 val_main_v10 val_main_v9 val_main_v8 modE
  rw [← e]
  generalize (val_main_v7 (F := Ideal) x : FVec Ideal Reference2Ideal.S4x4096x1 .f32) = y
  pointwise

open Cert.Reference2Ideal.Read in
theorem ref_at (i : Fin 16384) (d : Fin 11776) :
    (val_main_v23 (F := Ideal) x w sh sc W : FVec Ideal S16384x11776 .bf16) (ix2 i d) = ∑ k : Fin 2048, rowR x w sh sc i k * W (ix2 k d) := by
  have e : ∀ k : Fin 2048, rowR x w sh sc i k = (val_main_v20 (F := Ideal) x w sh sc : FVec Ideal S4x4096x2048 .f32) (ix3 ⟨i.val / 4096, by omega⟩ ⟨i.val % 4096, by omega⟩ k) :=
    fun k => (row_at x w sh sc _ _ k).symm
  simp only [e]
  unfold val_main_v23 val_main_v22 val_main_v21
  generalize (val_main_v20 (F := Ideal) x w sh sc : FVec Ideal S4x4096x2048 .f32) = y
  pointwise
end

/-! ## The kernel's blocks -/

section
variable (m : (ℓ : Loc nD τ sig) → Buf (Elt Ideal) ℓ) (c : Dev nD)

theorem pt_lt (t : Fin cfg0.N) : t.val < 128 := lt_of_lt_of_eq t.isLt (show cfg0.N = 128 from N_0)

/-- Where each window's block lies, over the grid. -/
theorem idx_0 : ∀ t : Fin cfg0.N, win0_0.index t = ![0, 0] := (by decide +kernel : ∀ t : Fin grid0.N, _)
theorem idx_1 : ∀ t : Fin cfg0.N, win0_1.index t = ![min (t.val / 4 + 1) 31, 0] := (by decide +kernel : ∀ t : Fin grid0.N, _)
theorem idx_2 : ∀ t : Fin cfg0.N, win0_2.index t = ![0, 0] := (by decide +kernel : ∀ t : Fin grid0.N, _)
theorem idx_3 : ∀ t : Fin cfg0.N, win0_3.index t = ![0, 0, 0] := (by decide +kernel : ∀ t : Fin grid0.N, _)
theorem idx_4 : ∀ t : Fin cfg0.N, win0_4.index t = ![0, 0, 0] := (by decide +kernel : ∀ t : Fin grid0.N, _)
theorem idx_5 : ∀ t : Fin cfg0.N, win0_5.index t = ![min (t.val / 4 + 1) 31 / 8, 0, 0] := (by decide +kernel : ∀ t : Fin grid0.N, _)
theorem idx_6 : ∀ t : Fin cfg0.N, win0_6.index t = ![min (t.val / 4 + 1) 31 / 8, 0, 0] := (by decide +kernel : ∀ t : Fin grid0.N, _)
theorem idx_7 : ∀ t : Fin cfg0.N, win0_7.index t = ![0, t.val % 4] := (by decide +kernel : ∀ t : Fin grid0.N, _)
theorem idx_8 : ∀ t : Fin cfg0.N, win0_8.index t = ![t.val / 4, t.val % 4] := (by decide +kernel : ∀ t : Fin grid0.N, _)

theorem blk_0 (t : Fin cfg0.N) (r : Fin 512) (k : Fin 2048) :
    (iblk m c 0 t : Vec Ideal S512x2048 .f32) (ix2 r k) = (V m c main_v3 : Vec Ideal S16384x2048 .f32) (ix2 ⟨r.val, by omega⟩ k) := by
  have h := idx_0 t
  blk_ext [iblk, h]
theorem blk_1 (t : Fin cfg0.N) (r : Fin 512) (k : Fin 2048) :
    (iblk m c 1 t : Vec Ideal S512x2048 .f32) (ix2 r k)
      = (V m c main_v3 : Vec Ideal S16384x2048 .f32) (ix2 ⟨512 * min (t.val / 4 + 1) 31 + r.val, by omega⟩ k) := by
  have h := idx_1 t
  blk_ext [iblk, h]
theorem blk_2 (t : Fin cfg0.N) (k : Fin 2048) :
    (iblk m c 2 t : Vec Ideal S1x2048 .f32) (ix2 0 k) = (V m c main_v4 : Vec Ideal S1x2048 .f32) (ix2 0 k) := by
  have h := idx_2 t
  blk_ext [iblk, h]
theorem blk_3 (t : Fin cfg0.N) (k : Fin 2048) :
    (iblk m c 3 t : Vec Ideal S1x1x2048 .f32) (ix3 0 0 k) = (V m c main_v1 : Vec Ideal S4x1x2048 .f32) (ix3 0 0 k) := by
  have h := idx_3 t
  blk_ext [iblk, h]
theorem blk_4 (t : Fin cfg0.N) (k : Fin 2048) :
    (iblk m c 4 t : Vec Ideal S1x1x2048 .f32) (ix3 0 0 k) = (V m c main_v2 : Vec Ideal S4x1x2048 .f32) (ix3 0 0 k) := by
  have h := idx_4 t
  blk_ext [iblk, h]
theorem blk_5 (t : Fin cfg0.N) (k : Fin 2048) :
    (iblk m c 5 t : Vec Ideal S1x1x2048 .f32) (ix3 0 0 k)
      = (V m c main_v1 : Vec Ideal S4x1x2048 .f32) (ix3 ⟨min (t.val / 4 + 1) 31 / 8, by omega⟩ 0 k) := by
  have h := idx_5 t
  blk_ext [iblk, h]
theorem blk_6 (t : Fin cfg0.N) (k : Fin 2048) :
    (iblk m c 6 t : Vec Ideal S1x1x2048 .f32) (ix3 0 0 k)
      = (V m c main_v2 : Vec Ideal S4x1x2048 .f32) (ix3 ⟨min (t.val / 4 + 1) 31 / 8, by omega⟩ 0 k) := by
  have h := idx_6 t
  blk_ext [iblk, h]
theorem blk_7 (t : Fin cfg0.N) (k : Fin 2048) (d : Fin 2944) :
    (iblk m c 7 t : Vec Ideal S2048x2944 .bf16) (ix2 k d)
      = (V m c main_v0 : Vec Ideal S2048x11776 .bf16) (ix2 k ⟨2944 * (t.val % 4) + d.val, by omega⟩) := by
  have h := idx_7 t
  blk_ext [iblk, h]

/-! ## The arrays the region finds -/

theorem rows_at (i : Fin 16384) (d : Fin 2048) :
    (V m c main_v3 : Vec Ideal S16384x2048 .f32) (ix2 i d)
      = (m (c.tc.loc main_arg0) : FVec Ideal S4x4096x2048 .f32) (ix3 ⟨i.val / 4096, by omega⟩ ⟨i.val % 4096, by omega⟩ d) := by
  have h : (V m c main_v3 : Vec Ideal S16384x2048 .f32)
      = shapeCast S16384x2048 (m (c.tc.loc main_arg0) : FVec Ideal S4x4096x2048 .f32) (h := shapeCasts_S4x4096x2048_S16384x2048) := by
    show StableHlo.after hostOps0 (fun b => m (c, b)) _ = _
    unfold_abbrev_sides
    after_reads_simp
    rfl
  rw [h]
  exact shapeCast_apply _ shapeCasts_S4x4096x2048_S16384x2048 (ix2 i d) (ix3 ⟨i.val / 4096, by omega⟩ ⟨i.val % 4096, by omega⟩ d)
    (by rewrite [Shape.rowMajor_val_three, Shape.rowMajor_val_two]
        show (i.val / 4096 * 4096 + i.val % 4096) * 2048 + d.val = i.val * 2048 + d.val
        omega)

theorem norm_at (d : Fin 2048) :
    (V m c main_v4 : Vec Ideal S1x2048 .f32) (ix2 0 d) = (m (c.tc.loc main_arg1) : FVec Ideal S2048 .f32) (ix1 d) := by
  have h : (V m c main_v4 : Vec Ideal S1x2048 .f32)
      = shapeCast S1x2048 (m (c.tc.loc main_arg1) : FVec Ideal S2048 .f32) (h := shapeCasts_S2048_S1x2048) := by
    show StableHlo.after hostOps0 (fun b => m (c, b)) _ = _
    unfold_abbrev_sides
    after_reads_simp
    rfl
  rw [h]
  generalize (m (c.tc.loc main_arg1) : FVec Ideal S2048 .f32) = y
  pointwise

theorem shift_at (b : Fin 4) (d : Fin 2048) :
    (V m c main_v1 : Vec Ideal S4x1x2048 .f32) (ix3 b 0 d) = (m (c.tc.loc main_arg2) : FVec Ideal S4x2048 .f32) (ix2 b d) := by
  have h : (V m c main_v1 : Vec Ideal S4x1x2048 .f32)
      = shapeCast S4x1x2048 (m (c.tc.loc main_arg2) : FVec Ideal S4x2048 .f32) (h := shapeCasts_S4x2048_S4x1x2048) := by
    show StableHlo.after hostOps0 (fun b => m (c, b)) _ = _
    unfold_abbrev_sides
    after_reads_simp
    rfl
  rw [h]
  generalize (m (c.tc.loc main_arg2) : FVec Ideal S4x2048 .f32) = y
  pointwise

theorem scale_at (b : Fin 4) (d : Fin 2048) :
    (V m c main_v2 : Vec Ideal S4x1x2048 .f32) (ix3 b 0 d) = (m (c.tc.loc main_arg3) : FVec Ideal S4x2048 .f32) (ix2 b d) := by
  have h : (V m c main_v2 : Vec Ideal S4x1x2048 .f32)
      = shapeCast S4x1x2048 (m (c.tc.loc main_arg3) : FVec Ideal S4x2048 .f32) (h := shapeCasts_S4x2048_S4x1x2048) := by
    show StableHlo.after hostOps0 (fun b => m (c, b)) _ = _
    unfold_abbrev_sides
    after_reads_simp
    rfl
  rw [h]
  generalize (m (c.tc.loc main_arg3) : FVec Ideal S4x2048 .f32) = y
  pointwise

theorem weight_at (k : Fin 2048) (d : Fin 11776) :
    (V m c main_v0 : Vec Ideal S2048x11776 .bf16) (ix2 k d) = (m (c.tc.loc main_arg4) : FVec Ideal S2048x11776 .f32) (ix2 k d) := by
  have h : (V m c main_v0 : Vec Ideal S2048x11776 .bf16)
      = (truncf (F := Ideal) .bf16 (m (c.tc.loc main_arg4) : FVec Ideal S2048x11776 .f32) bitsLt_bf16_f32) := by
    show StableHlo.after hostOps0 (fun b => m (c, b)) _ = _
    unfold_abbrev_sides
    after_reads_simp
  rw [h]
  rfl

/-- The reference's normed and modulated row, of the kernel's arguments. -/
abbrev rowM (i : Fin 16384) : Fin 2048 → EReal :=
  rowR (m (c.tc.loc main_arg0)) (m (c.tc.loc main_arg1)) (m (c.tc.loc main_arg2)) (m (c.tc.loc main_arg3)) i

/-- The tile carried at row tile `T` is the reference's rows `512 T …`. -/
theorem held_at (T : ℕ) (hT : T < 32) (r : Fin 512) (k : Fin 2048) :
    (held m c T : FVec Ideal S1x512x2048 .bf16) (ix3 0 r k) = rowM m c ⟨512 * T + r.val, by omega⟩ k := by
  have key : ∀ {y y' w w' sc sc' sh sh' : Fin 2048 → EReal}, y = y' → w = w' → sc = sc' → sh = sh' → modE y w sc sh k = modE y' w' sc' sh' k := by
    rintro _ _ _ _ _ _ _ _ rfl rfl rfl rfl; rfl
  match T, hT with
  | 0, _ =>
    rw [held_zero]
    refine (pay1_at _ _ _ _ r k).trans (key (funext fun j => ?_) (funext fun j => ?_) (funext fun j => ?_) (funext fun j => ?_))
    · rw [blk_0, show (⟨r.val, by omega⟩ : Fin 16384) = ⟨512 * 0 + r.val, by omega⟩ from Fin.ext (by show r.val = 512 * 0 + r.val; omega), rows_at]
    · rw [blk_2, norm_at]
    · rw [blk_4, show (0 : Fin 4) = ⟨(512 * 0 + r.val) / 4096, by omega⟩ from Fin.ext (by show 0 = (512 * 0 + r.val) / 4096; omega), scale_at]
    · rw [blk_3, show (0 : Fin 4) = ⟨(512 * 0 + r.val) / 4096, by omega⟩ from Fin.ext (by show 0 = (512 * 0 + r.val) / 4096; omega), shift_at]
  | T + 1, hT =>
    have ht : 4 * T + 3 < cfg0.N := by rw [show cfg0.N = 128 from N_0]; omega
    have e0 : T = (⟨4 * T + 3, ht⟩ : Fin cfg0.N).val / 4 := by show T = (4 * T + 3) / 4; omega
    have e : held m c (T + 1) = held m c ((⟨4 * T + 3, ht⟩ : Fin cfg0.N).val / 4 + 1) := congrArg (fun n => held m c (n + 1)) e0
    rw [e, held_succ m c ⟨4 * T + 3, ht⟩ (by show (4 * T + 3) % 4 = 3; omega)]
    have em : min ((4 * T + 3) / 4 + 1) 31 = T + 1 := by omega
    have er : ∀ h, (⟨512 * min ((4 * T + 3) / 4 + 1) 31 + r.val, h⟩ : Fin 16384) = ⟨512 * (T + 1) + r.val, by omega⟩ := fun _ =>
      Fin.ext (by show 512 * min ((4 * T + 3) / 4 + 1) 31 + r.val = _; rw [em])
    have eb : ∀ h, (⟨min ((4 * T + 3) / 4 + 1) 31 / 8, h⟩ : Fin 4) = ⟨(512 * (T + 1) + r.val) / 4096, by omega⟩ := fun _ =>
      Fin.ext (by show min ((4 * T + 3) / 4 + 1) 31 / 8 = (512 * (T + 1) + r.val) / 4096; rw [em]; omega)
    refine (pay4_at _ _ _ _ r k).trans (key (funext fun j => ?_) (funext fun j => ?_) (funext fun j => ?_) (funext fun j => ?_))
    · rw [blk_1, er, rows_at]
    · rw [blk_2, norm_at]
    · rw [blk_6, eb, scale_at]
    · rw [blk_5, eb, shift_at]

/-- The kernel's array of results is the reference's. -/
theorem result_eq :
    (dats m 0 c).arrAt 8 cfg0.N
      = (Reference2Ideal.Read.val_main_v23 (F := Ideal) (m (c.tc.loc main_arg0)) (m (c.tc.loc main_arg1)) (m (c.tc.loc main_arg2))
          (m (c.tc.loc main_arg3)) (m (c.tc.loc main_arg4)) : FVec Ideal S16384x11776 .bf16) := by
  refine (dats m 0 c).arrAt_eq_of_covers 8 _ (by decide +kernel) fun t hf y => ?_
  blk_simp
  rw [after0_8]
  obtain ⟨r, d, rfl⟩ : ∃ (r : Fin 512) (d : Fin 2944), y = ix2 r d :=
    ⟨y 0, y 1, by funext a; fin_cases a <;> rfl⟩
  have ht := pt_lt t
  have he : ((cfg0.win 8).blk t).view.emb (ix2 r d)
      = (ix2 ⟨512 * (t.val / 4) + r.val, by omega⟩ ⟨2944 * (t.val % 4) + d.val, by omega⟩ : S16384x11776.Idx) := by
    have h := idx_8 t
    blk_ext [h]
  refine (pay2_at _ _ r d).trans ?_
  refine Eq.trans ?_ (congrArg (Reference2Ideal.Read.val_main_v23 (F := Ideal) (m (c.tc.loc main_arg0)) (m (c.tc.loc main_arg1)) (m (c.tc.loc main_arg2))
          (m (c.tc.loc main_arg3)) (m (c.tc.loc main_arg4)) : FVec Ideal S16384x11776 .bf16) he.symm)
  rw [ref_at]
  refine Finset.sum_congr rfl fun k _ => ?_
  rw [blk_7, weight_at, held_at m c (t.val / 4) (by omega) r k]
end

end Cert.InProj

end
-- ==== Proof.InProjClaim.lean ====
module

public import proofs.«01_k».proof.Defs
public import proofs.«01_k».proof.Proof.InProjValue
public import proofs.«01_k».proof.Proof.Gen.Reference2Ideal.Run
public import Idealize.ShloMosaic.Adequacy
public import Idealize.ShloMosaic.Init
public import Idealize.ShloMosaic.Lib.Quiescent

/-! The claims of the input projection. -/

@[expose] public section

noncomputable section

namespace Cert.InProj

open Idealize.ShloMosaic Idealize.SL.Sem

attribute [local instance] Cert.Kernel2.Gen.facts

/-- The two printed programs have the same body tables: label by label the same function. -/
theorem bodies_eq : Cert.Kernel2.defs₀ (F := Bits) = Cert.Kernel2Ideal.defs₀ (F := Bits) := by
  funext k
  cases k with
  | tc =>
    funext ℓ a
    match ℓ, a with
    | ⟨0, _⟩, (t, s) => exact rfl
  | scScalar _ => rfl
  | scVector _ _ => rfl

/-- So they have the same tables with the pipelines' labels added. -/
theorem tables_eq : Cert.Kernel2.defs (F := Bits) = Cert.Kernel2Ideal.defs (F := Bits) :=
  congrArg (Pipeline.defs (Cert.Kernel2Ideal.pcfgs (F := Bits))) bodies_eq

/-- The kernel over float words ends with its arguments and semaphores as they were: the run over any float values, at these. -/
theorem frame_kernel : quiescent_Kernel2 (hKernel2 := Cert.Kernel2.Gen.facts) := fun m ρ _ => by
  rw [tables_eq]
  exact Cert.Kernel2Ideal.Gen.frame_in (F := Bits) m ρ

/-- The kernel with exact arithmetic ends with its arguments and semaphores as they were. -/
theorem frame_ideal : quiescent_Kernel2Ideal (hKernel2Ideal := Cert.Kernel2Ideal.Gen.facts) := fun m ρ _ =>
  Cert.Kernel2Ideal.Gen.frame_in (F := Ideal) m ρ

/-- The reference ends with its arguments and semaphores as they were. -/
theorem quiescent_reference : quiescent_Reference2Ideal (hReference2Ideal := Cert.Reference2Ideal.Gen.facts) := fun m ρ _ =>
  (θ_run Cert.Reference2Ideal.defs _ _).mono (fun r h => ⟨fun c => (h c).2, sem_eq_zero_of_no_sems (by decide) r.2⟩)
    (Cert.Reference2Ideal.Value.run (F := Ideal) m ρ)

/-- The kernel's run, its array of results named. -/
theorem run_kernel (m : (ℓ : Loc Cert.Kernel2Ideal.nD Cert.Kernel2Ideal.τ Cert.Kernel2Ideal.sig) → Buf (Elt Ideal) ℓ)
    (ρ : Dev Cert.Kernel2Ideal.nD → PrngReg) :
    θ_run (Cert.Kernel2Ideal.defs (F := Ideal)) (onTc (τ := Cert.Kernel2Ideal.τ) (Cert.Kernel2Ideal.main (F := Ideal))) ⟨m, fun _ => 0, ρ⟩
      (fun r => ∀ c : Dev Cert.Kernel2Ideal.nD,
        r.2.mem (c.tc.loc Cert.Kernel2Ideal.main_v5) = (Cert.Kernel2Ideal.Gen.dats (F := Ideal) m 0 c).arrAt 8 Cert.Kernel2Ideal.cfg0.N) :=
  (θ_run Cert.Kernel2Ideal.defs _ _).mono (fun _ h c => (h c).1 8) (Cert.Kernel2Ideal.Gen.run_main (F := Ideal) m ρ)

/-- The kernel with exact arithmetic ends with the reference's results. -/
theorem algebraic : algebraic_Kernel2Ideal_Reference2Ideal (hKernel2Ideal := Cert.Kernel2Ideal.Gen.facts)
    (hReference2Ideal := Cert.Reference2Ideal.Gen.facts) := by
  intro m ρ m' ρ' _ hagree
  refine ⟨fun c => (Cert.Kernel2Ideal.Gen.dats (F := Ideal) m 0 c).arrAt 8 Cert.Kernel2Ideal.cfg0.N,
    (θ_run Cert.Kernel2Ideal.defs _ _).mono (fun _ h c => ⟨h.1 c, h.2.1 c⟩)
      (θ_run_and (run_kernel m ρ) (Cert.Kernel2Ideal.Gen.frame_in (F := Ideal) m ρ)), ?_⟩
  refine (θ_run Cert.Reference2Ideal.defs _ _).mono (fun _ h c => ⟨?_, (h c).2⟩) (Cert.Reference2Ideal.Value.run (F := Ideal) m' ρ')
  refine (h c).1.trans ((Cert.Reference2Ideal.Read.val_main_v23_eq (F := Ideal) _ _ _ _ _).trans ?_)
  obtain ⟨e0, e1, e2, e3, e4⟩ := hagree c
  rw [e0, e1, e2, e3, e4]
  exact (result_eq m c).symm

end Cert.InProj

end
-- ==== Proof.PeerQ.lean ====
module

public import proofs.«01_k».proof.Proof.Gen.Kernel4Ideal.Value
public import proofs.«01_k».proof.Proof.Gen.Reference4Ideal.Read
public import Idealize.ShloMosaic.Lib.Pointwise
public import Idealize.ShloMosaic.Lib.Pipeline.ValueKit
public import Idealize.ShloMosaic.Lib.StableHlo.RunRead
public import Idealize.ShloMosaic.Lib.Claim
public import Idealize.ShloMosaic.Lib.Tactic.ValueTie

/-! The queries of the expert layer: every grid point multiplies 1024 rows by the whole weight, and the array of
results is the reference's product. -/

@[expose] public section

set_option maxRecDepth 16384

noncomputable section

namespace Cert.PeerQ

open Idealize.ShloMosaic Idealize.SL.Sem Cert.Kernel4Ideal Cert.Kernel4Ideal.Gen

/-- What a grid point stores: its rows times the weight. -/
theorem pay_at (x : FVec Ideal S1024x2048 .bf16) (w : FVec Ideal S2048x2048 .bf16) (r : Fin 1024) (d : Fin 2048) :
    k0_pay1 (F := Ideal) x w (ix2 r d) = ∑ k : Fin 2048, x (ix2 r k) * w (ix2 k d) := by
  unfold k0_pay1
  pointwise

section
variable (m : (ℓ : Loc nD τ sig) → Buf (Elt Ideal) ℓ) (c : Dev nD)

/-- Where each window's block lies, over the grid. -/
theorem idx_at : ∀ t : Fin cfg0.N,
    win0_0.index t = ![t.val, 0] ∧ win0_1.index t = ![0, 0] ∧ win0_2.index t = ![t.val, 0] :=
  (by decide +kernel : ∀ t : Fin grid0.N, _)

theorem pt_lt (t : Fin cfg0.N) : t.val < 16 := lt_of_lt_of_eq t.isLt (show cfg0.N = 16 from N_0)

/-- The rows of a point. -/
theorem blk_0 (t : Fin cfg0.N) (r : Fin 1024) (d : Fin 2048) :
    (iblk m c 0 t : Vec Ideal S1024x2048 .bf16) (ix2 r d)
      = (V m c main_v0 : Vec Ideal S16384x2048 .bf16) (ix2 ⟨1024 * t.val + r.val, by have := pt_lt t; omega⟩ d) := by
  have h := (idx_at t).1
  blk_ext [iblk, h]

/-- The weight, whole. -/
theorem blk_1 (t : Fin cfg0.N) (k d : Fin 2048) :
    (iblk m c 1 t : Vec Ideal S2048x2048 .bf16) (ix2 k d) = (V m c main_v1 : Vec Ideal S2048x2048 .bf16) (ix2 k d) := by
  have h := (idx_at t).2.1
  blk_ext [iblk, h]

/-- The rows the kernel is called with, of all batches in order. -/
theorem rows_at (i : Fin 16384) (d : Fin 2048) :
    (V m c main_v0 : Vec Ideal S16384x2048 .bf16) (ix2 i d)
      = (m (c.tc.loc main_arg0) : FVec Ideal S4x4096x2048 .bf16) (ix3 ⟨i.val / 4096, by omega⟩ ⟨i.val % 4096, by omega⟩ d) := by
  have h : (V m c main_v0 : Vec Ideal S16384x2048 .bf16)
      = shapeCast S16384x2048 (m (c.tc.loc main_arg0) : FVec Ideal S4x4096x2048 .bf16)
          (h := shapeCasts_S4x4096x2048_S16384x2048) := by
    show StableHlo.after (List.flatten [hostOps0]) (fun b => m (c, b)) _ = _
    unfold_abbrev_sides
    after_reads_simp
    rfl
  rw [h]
  exact shapeCast_apply _ shapeCasts_S4x4096x2048_S16384x2048 (ix2 i d) (ix3 ⟨i.val / 4096, by omega⟩ ⟨i.val % 4096, by omega⟩ d)
    (by rewrite [Shape.rowMajor_val_three, Shape.rowMajor_val_two]
        show (i.val / 4096 * 4096 + i.val % 4096) * 2048 + d.val = i.val * 2048 + d.val
        omega)

/-- The weight the kernel is called with. -/
theorem weight_at (k d : Fin 2048) :
    (V m c main_v1 : Vec Ideal S2048x2048 .bf16) (ix2 k d)
      = (m (c.tc.loc main_arg1) : FVec Ideal S2048x2048 .f32) (ix2 k d) := by
  have h : (V m c main_v1 : Vec Ideal S2048x2048 .bf16)
      = (truncf (F := Ideal) .bf16 (m (c.tc.loc main_arg1) : FVec Ideal S2048x2048 .f32) bitsLt_bf16_f32) := by
    show StableHlo.after (List.flatten [hostOps0]) (fun b => m (c, b)) _ = _
    unfold_abbrev_sides
    after_reads_simp
  rw [h]
  rfl

/-- The reference's result at an index. -/
theorem ref_at (x : FVec Ideal S4x4096x2048 .bf16) (w : FVec Ideal S2048x2048 .f32) (i : Fin 16384) (d : Fin 2048) :
    (Reference4Ideal.Read.val_main_v3 (F := Ideal) x w : FVec Ideal S16384x2048 .bf16) (ix2 i d)
      = ∑ k : Fin 2048, x (ix3 ⟨i.val / 4096, by omega⟩ ⟨i.val % 4096, by omega⟩ k) * w (ix2 k d) := by
  unfold Reference4Ideal.Read.val_main_v3 Reference4Ideal.Read.val_main_v2 Reference4Ideal.Read.val_main_v1
    Reference4Ideal.Read.val_main_v0
  pointwise

/-- The kernel's array of results is the reference's. -/
theorem result_eq :
    (dats m 0 c).arrAt 2 cfg0.N
      = (Reference4Ideal.Read.val_main_v3 (F := Ideal) (m (c.tc.loc main_arg0)) (m (c.tc.loc main_arg1))
          : FVec Ideal S16384x2048 .bf16) := by
  refine (dats m 0 c).arrAt_eq_of_covers 2 _ (by decide +kernel) fun t hf y => ?_
  blk_simp
  rw [after0_2]
  frame_out
  obtain ⟨r, d, rfl⟩ : ∃ (r : Fin 1024) (d : Fin 2048), y = ix2 r d :=
    ⟨y 0, y 1, by funext a; fin_cases a <;> rfl⟩
  have ht := pt_lt t
  have he : ((cfg0.win 2).blk t).view.emb (ix2 r d) = (ix2 ⟨1024 * t.val + r.val, by omega⟩ d : S16384x2048.Idx) := by
    have h := (idx_at t).2.2
    blk_ext [h]
  refine (pay_at _ _ r d).trans ?_
  refine Eq.trans ?_ (congrArg (Reference4Ideal.Read.val_main_v3 (F := Ideal) (m (c.tc.loc main_arg0)) (m (c.tc.loc main_arg1))
          : FVec Ideal S16384x2048 .bf16) he.symm)
  rw [ref_at]
  refine Finset.sum_congr rfl fun k _ => ?_
  rw [blk_0, blk_1, rows_at, weight_at]
end

end Cert.PeerQ

end
-- ==== Proof.PeerQClaim.lean ====
module

public import proofs.«01_k».proof.Defs
public import proofs.«01_k».proof.Proof.PeerQ
public import proofs.«01_k».proof.Proof.Gen.Reference4Ideal.Run
public import Idealize.ShloMosaic.Adequacy
public import Idealize.ShloMosaic.Init
public import Idealize.ShloMosaic.Lib.Quiescent

/-! The claims of the expert layer's queries. -/

@[expose] public section

noncomputable section

namespace Cert.PeerQ

open Idealize.ShloMosaic Idealize.SL.Sem

theorem quiescent_reference : quiescent_Reference4Ideal (hReference4Ideal := Cert.Reference4Ideal.Gen.facts) := fun m ρ _ =>
  (θ_run Cert.Reference4Ideal.defs _ _).mono (fun r h => ⟨fun c => (h c).2, sem_eq_zero_of_no_sems (by decide) r.2⟩)
    (Cert.Reference4Ideal.Value.run (F := Ideal) m ρ)

/-- The kernel with exact arithmetic ends with the reference's results. -/
theorem algebraic : algebraic_Kernel4Ideal_Reference4Ideal (hKernel4Ideal := Cert.Kernel4Ideal.Gen.facts)
    (hReference4Ideal := Cert.Reference4Ideal.Gen.facts) := by
  intro m ρ m' ρ' _ hagree
  refine ⟨_, Cert.Kernel4Ideal.Value.run_blocks (F := Ideal) m ρ, ?_⟩
  refine (θ_run Cert.Reference4Ideal.defs _ _).mono (fun _ h c => ⟨?_, (h c).2⟩) (Cert.Reference4Ideal.Value.run (F := Ideal) m' ρ')
  refine (h c).1.trans ((Cert.Reference4Ideal.Read.val_main_v3_eq (F := Ideal) _ _).trans ?_)
  obtain ⟨e0, e1⟩ := hagree c
  rw [e0, e1]
  exact (result_eq m c).symm

end Cert.PeerQ

end
-- ==== Proof.PeerD.lean ====
module

public import proofs.«01_k».proof.Proof.Gen.Kernel5Ideal.Frame
public import proofs.«01_k».proof.Proof.Gen.Kernel5Ideal.Skeleton
public import Idealize.ShloMosaic.Lib.VecWindow
public import Idealize.ShloMosaic.Lib.Writes
public import Idealize.ShloMosaic.Lib.WholeRead
public import Idealize.ShloMosaic.Lib.Pointwise

/-! The experts' sum, point by point: what each of the body's four courses leaves in the accumulator, in the two-slot buffer that
    carries the scores of 1024 experts from one point to the next, and in the output block. -/

@[expose] public section

set_option maxRecDepth 16384

noncomputable section

namespace Cert.Kernel5Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resources the body's assertions speak of. -/
abbrev Res (F : FTy → Type) : Type := MT nD τ sig Unit (Elt F) ℕ (UR sig nD τ) ℕ

/-- The condition of the first point of a row tile. -/
abbrev cond1 (i : grid0.Coords) : Prop :=
  (Scalar.cmpi .ne (Scalar.extui (Scalar.cmpi .eq (BitVec.ofNat 32 (i 1).val) 0#32)) 0#32) = 1#1

/-- The condition of a point between the first and the last whose number has the remainder `k` by two. -/
abbrev midOf (k : BitVec 32) (i : grid0.Coords) : Prop :=
  (Scalar.cmpi .ne (Scalar.extui (Scalar.andi (Scalar.andi (Scalar.cmpi .sgt (BitVec.ofNat 32 (i 1).val) 0#32) (Scalar.cmpi .slt (BitVec.ofNat 32 (i 1).val) 16#32))
    (Scalar.cmpi .eq (Scalar.select (Scalar.andi (Scalar.xori (Scalar.cmpi .slt (Scalar.remsi (BitVec.ofNat 32 (i 1).val) (Scalar.select (Scalar.cmpi .eq 2#32 0#32) 1#32 2#32)) 0#32) (Scalar.cmpi .slt (Scalar.select (Scalar.cmpi .eq 2#32 0#32) 1#32 2#32) 0#32))
      (Scalar.cmpi .ne (Scalar.remsi (BitVec.ofNat 32 (i 1).val) (Scalar.select (Scalar.cmpi .eq 2#32 0#32) 1#32 2#32)) 0#32))
      (Scalar.addi (Scalar.remsi (BitVec.ofNat 32 (i 1).val) (Scalar.select (Scalar.cmpi .eq 2#32 0#32) 1#32 2#32)) (Scalar.select (Scalar.cmpi .eq 2#32 0#32) 1#32 2#32))
      (Scalar.remsi (BitVec.ofNat 32 (i 1).val) (Scalar.select (Scalar.cmpi .eq 2#32 0#32) 1#32 2#32))) k))) 0#32) = 1#1

theorem cond1_iff : ∀ t : Fin cfg0.N, cond1 (grid0.coords t) ↔ t.val % 17 = 0 :=
  (by decide +kernel : ∀ t : Fin grid0.N, cond1 (grid0.coords t) ↔ t.val % 17 = 0)
theorem cond2_iff : ∀ t : Fin cfg0.N, midOf 0#32 (grid0.coords t) ↔ t.val % 17 ≠ 0 ∧ t.val % 17 ≠ 16 ∧ t.val % 17 % 2 = 0 :=
  (by decide +kernel : ∀ t : Fin grid0.N, midOf 0#32 (grid0.coords t) ↔ t.val % 17 ≠ 0 ∧ t.val % 17 ≠ 16 ∧ t.val % 17 % 2 = 0)
theorem cond3_iff : ∀ t : Fin cfg0.N, midOf 1#32 (grid0.coords t) ↔ t.val % 17 % 2 = 1 :=
  (by decide +kernel : ∀ t : Fin grid0.N, midOf 1#32 (grid0.coords t) ↔ t.val % 17 % 2 = 1)
theorem cond4_iff : ∀ t : Fin cfg0.N, k0_cond4 (grid0.coords t) = 1#1 ↔ t.val % 17 = 16 :=
  (by decide +kernel : ∀ t : Fin grid0.N, k0_cond4 (grid0.coords t) = 1#1 ↔ t.val % 17 = 16)

/-! ## Windows of a block, and blocks put together -/

/-- What a load through a rectangle reads of `x`. -/
def win {s : Shape} {e : EltTy} (x : Vec F s e) (r : LoadRect s) : r.shape.Idx → Elt F e := fun y => x (r.idx y)

theorem readAt_unread {s : Shape} {e : EltTy} {m : Memref sig .tc .vmem s e} (hm : m.IsWhole) (x : Vec F s e) (r : LoadRect s) :
    m.view.readAt (Elt F) r (hm.unread x) = win x r :=
  funext fun y => congrFun (hm.read_unread x) (r.idx y)

/-- A load of a whole block reads the block. -/
theorem win_full {s : Shape} {e : EltTy} (x : Vec F s e) {off : Fin s.rank → ℕ} (inb : ∀ a, off a + s.size a ≤ s.size a) :
    win x (Rect.unit (s := s) off s.size inb).toLoadRect = x := by
  funext y
  refine congrArg x (funext fun a => Fin.ext ?_)
  show off a + 1 * (y a).val = (y a).val
  have := inb a
  omega

/-- Half a block of 1024 scored experts, from expert `o`. -/
abbrev rU0 : LoadRect S1024x2048 := (Rect.unit (s := S1024x2048) ![0, 0] S512x2048.size inb_S1024x2048_S512x2048_0_0).toLoadRect
abbrev rU1 : LoadRect S1024x2048 := (Rect.unit (s := S1024x2048) ![512, 0] S512x2048.size inb_S1024x2048_S512x2048_512_0).toLoadRect
/-- Four quarters of a block's columns, of the accumulator and of the experts' outputs. -/
abbrev rA0 : LoadRect S512x2048 := (Rect.unit (s := S512x2048) ![0, 0] S512x512.size inb_S512x2048_S512x512_0_0).toLoadRect
abbrev rA1 : LoadRect S512x2048 := (Rect.unit (s := S512x2048) ![0, 512] S512x512.size inb_S512x2048_S512x512_0_512).toLoadRect
abbrev rA2 : LoadRect S512x2048 := (Rect.unit (s := S512x2048) ![0, 1024] S512x512.size inb_S512x2048_S512x512_0_1024).toLoadRect
abbrev rA3 : LoadRect S512x2048 := (Rect.unit (s := S512x2048) ![0, 1536] S512x512.size inb_S512x2048_S512x512_0_1536).toLoadRect
abbrev rV0 : LoadRect S1024x2048 := (Rect.unit (s := S1024x2048) ![0, 0] S1024x512.size inb_S1024x2048_S1024x512_0_0).toLoadRect
abbrev rV1 : LoadRect S1024x2048 := (Rect.unit (s := S1024x2048) ![0, 512] S1024x512.size inb_S1024x2048_S1024x512_0_512).toLoadRect
abbrev rV2 : LoadRect S1024x2048 := (Rect.unit (s := S1024x2048) ![0, 1024] S1024x512.size inb_S1024x2048_S1024x512_0_1024).toLoadRect
abbrev rV3 : LoadRect S1024x2048 := (Rect.unit (s := S1024x2048) ![0, 1536] S1024x512.size inb_S1024x2048_S1024x512_0_1536).toLoadRect

/-- Two halves side by side. -/
def join (w0 w1 : Vec F S1x512x512 .f32) : Vec F S1x512x1024 .f32 := fun y =>
  if h : (y 2).val < 512 then w0 (ix3 0 (⟨(y 1).val, (y 1).isLt⟩ : Fin 512) ⟨(y 2).val, h⟩)
  else w1 (ix3 0 (⟨(y 1).val, (y 1).isLt⟩ : Fin 512) ⟨(y 2).val - 512, by have : (y 2).val < 1024 := (y 2).isLt; omega⟩)

/-- Four quarters side by side. -/
def quads (p0 p1 p2 p3 : Vec F S512x512 .f32) : Vec F S512x2048 .f32 := fun z =>
  if h0 : (z 1).val < 512 then p0 (ix2 (⟨(z 0).val, (z 0).isLt⟩ : Fin 512) ⟨(z 1).val, h0⟩)
  else if h1 : (z 1).val < 1024 then p1 (ix2 (⟨(z 0).val, (z 0).isLt⟩ : Fin 512) ⟨(z 1).val - 512, by omega⟩)
  else if h2 : (z 1).val < 1536 then p2 (ix2 (⟨(z 0).val, (z 0).isLt⟩ : Fin 512) ⟨(z 1).val - 1024, by omega⟩)
  else p3 (ix2 (⟨(z 0).val, (z 0).isLt⟩ : Fin 512) ⟨(z 1).val - 1536, by have : (z 1).val < 2048 := (z 1).isLt; omega⟩)

/-- The scores of 1024 experts. -/
def scoresOf (x2 : Vec F S512x2048 .bf16) (x3 : Vec F S1024x2048 .bf16) : Vec F S1x512x1024 .f32 :=
  join (k0_pay3 x2 (win x3 rU0)) (k0_pay3 x2 (win x3 rU1))

/-- The accumulator with the weighted outputs of 1024 experts added. -/
def accOf (h : Vec F S1x512x1024 .f32) (x5 : Vec F S512x1024 .bf16) (x4 : Vec F S1024x2048 .bf16) (a : Vec F S512x2048 .f32) : Vec F S512x2048 .f32 :=
  quads (k0_pay6 (k0_pay5 h x5) (win a rA0) (win x4 rV0)) (k0_pay6 (k0_pay5 h x5) (win a rA1) (win x4 rV1))
    (k0_pay6 (k0_pay5 h x5) (win a rA2) (win x4 rV2)) (k0_pay6 (k0_pay5 h x5) (win a rA3) (win x4 rV3))

/-- Slot `s` of the buffer holds the scores `h`. -/
def Holds (d : Vec F S2x512x1024 .f32) (s : ℕ) (h : Vec F S1x512x1024 .f32) : Prop :=
  ∀ (z : S2x512x1024.Idx) (y : S1x512x1024.Idx), (z 0).val = s → (z 1).val = (y 1).val → (z 2).val = (y 2).val → d z = h y

/-- Loading a slot reads the scores it holds. -/
theorem win_of_holds (d : Vec F S2x512x1024 .f32) (s : ℕ) (h : Vec F S1x512x1024 .f32)
    {off : Fin 3 → ℕ} (ho : off = ![s, 0, 0]) (inb : ∀ a, off a + S1x512x1024.size a ≤ S2x512x1024.size a) (hd : Holds d s h) :
    win d (Rect.unit (s := S2x512x1024) off S1x512x1024.size inb).toLoadRect = h := by
  subst ho
  funext y
  refine hd _ y ?_ ?_ ?_
  · show s + 1 * (y 0).val = s
    have : (y 0).val < 1 := (y 0).isLt
    omega
  · show 0 + 1 * (y 1).val = _
    omega
  · show 0 + 1 * (y 2).val = _
    omega

/-- Two stores, of the halves of a slot, leave the halves put together in it. -/
theorem holds_of_stores {κ : Kind} {sp : Space} (v : View sig κ sp S2x512x1024 .f32) (f : v.ty.Contents (Elt F)) (s : ℕ) (w0 w1 : Vec F S1x512x512 .f32)
    {o0 o1 : Fin 3 → ℕ} (h0 : o0 = ![s, 0, 0]) (h1 : o1 = ![s, 0, 512]) (i0 : ∀ a, o0 a + S1x512x512.size a ≤ S2x512x1024.size a)
    (i1 : ∀ a, o1 a + S1x512x512.size a ≤ S2x512x1024.size a) :
    Holds (v.read (Elt F) (v.writes (Elt F) f [⟨Rect.unit (s := S2x512x1024) o1 S1x512x512.size i1, w1⟩, ⟨Rect.unit (s := S2x512x1024) o0 S1x512x512.size i0, w0⟩])) s (join w0 w1) := by
  subst h0 h1
  intro z y e0 e1 e2
  have l1 : (y 1).val < 512 := (y 1).isLt
  have l2 : (y 2).val < 1024 := (y 2).isLt
  unfold join
  by_cases h : (y 2).val < 512
  · rw [dif_pos h, View.read_writes_cons_miss_of_axis v f _ _ z 2 512 512 rfl rfl rfl (by omega)]
    refine View.read_writes_cons_hit_of_coords v f (Rect.unit (s := S2x512x1024) _ S1x512x512.size i0) w0 [] (ix3 0 (⟨(y 1).val, l1⟩ : Fin 512) ⟨(y 2).val, h⟩) z fun a => ?_
    match a with
    | 0 => show (z 0).val = s + 1 * 0; omega
    | 1 => show (z 1).val = 0 + 1 * (y 1).val; omega
    | 2 => show (z 2).val = 0 + 1 * (y 2).val; omega
  · rw [dif_neg h]
    refine View.read_writes_cons_hit_of_coords v f (Rect.unit (s := S2x512x1024) _ S1x512x512.size i1) w1 _ (ix3 0 (⟨(y 1).val, l1⟩ : Fin 512) ⟨(y 2).val - 512, by omega⟩) z fun a => ?_
    match a with
    | 0 => show (z 0).val = s + 1 * 0; omega
    | 1 => show (z 1).val = 0 + 1 * (y 1).val; omega
    | 2 => show (z 2).val = 512 + 1 * ((y 2).val - 512); omega

/-- Four stores, of the quarters of a block, leave the quarters put together. -/
theorem read_quads {κ : Kind} {sp : Space} (v : View sig κ sp S512x2048 .f32) (f : v.ty.Contents (Elt F)) (p0 p1 p2 p3 : Vec F S512x512 .f32)
    (i0 : ∀ a, (![0, 0] : Fin 2 → ℕ) a + S512x512.size a ≤ S512x2048.size a) (i1 : ∀ a, (![0, 512] : Fin 2 → ℕ) a + S512x512.size a ≤ S512x2048.size a)
    (i2 : ∀ a, (![0, 1024] : Fin 2 → ℕ) a + S512x512.size a ≤ S512x2048.size a) (i3 : ∀ a, (![0, 1536] : Fin 2 → ℕ) a + S512x512.size a ≤ S512x2048.size a) :
    v.read (Elt F) (v.writes (Elt F) f [⟨Rect.unit (s := S512x2048) ![0, 1536] S512x512.size i3, p3⟩, ⟨Rect.unit (s := S512x2048) ![0, 1024] S512x512.size i2, p2⟩,
      ⟨Rect.unit (s := S512x2048) ![0, 512] S512x512.size i1, p1⟩, ⟨Rect.unit (s := S512x2048) ![0, 0] S512x512.size i0, p0⟩]) = quads p0 p1 p2 p3 := by
  funext z
  have l0 : (z 0).val < 512 := (z 0).isLt
  have l1 : (z 1).val < 2048 := (z 1).isLt
  unfold quads
  by_cases h3 : 1536 ≤ (z 1).val
  · rw [dif_neg (by omega), dif_neg (by omega), dif_neg (by omega)]
    refine View.read_writes_cons_hit_of_coords v f (Rect.unit (s := S512x2048) ![0, 1536] S512x512.size i3) p3 _ (ix2 (⟨(z 0).val, l0⟩ : Fin 512) ⟨(z 1).val - 1536, by omega⟩) z fun a => ?_
    match a with
    | 0 => show (z 0).val = 0 + 1 * (z 0).val; omega
    | 1 => show (z 1).val = 1536 + 1 * ((z 1).val - 1536); omega
  rw [View.read_writes_cons_miss_of_axis v f _ _ z 1 1536 512 rfl rfl rfl (by omega)]
  by_cases h2 : 1024 ≤ (z 1).val
  · rw [dif_neg (by omega), dif_neg (by omega), dif_pos (by omega)]
    refine View.read_writes_cons_hit_of_coords v f (Rect.unit (s := S512x2048) ![0, 1024] S512x512.size i2) p2 _ (ix2 (⟨(z 0).val, l0⟩ : Fin 512) ⟨(z 1).val - 1024, by omega⟩) z fun a => ?_
    match a with
    | 0 => show (z 0).val = 0 + 1 * (z 0).val; omega
    | 1 => show (z 1).val = 1024 + 1 * ((z 1).val - 1024); omega
  rw [View.read_writes_cons_miss_of_axis v f _ _ z 1 1024 512 rfl rfl rfl (by omega)]
  by_cases h1 : 512 ≤ (z 1).val
  · rw [dif_neg (by omega), dif_pos (by omega)]
    refine View.read_writes_cons_hit_of_coords v f (Rect.unit (s := S512x2048) ![0, 512] S512x512.size i1) p1 _ (ix2 (⟨(z 0).val, l0⟩ : Fin 512) ⟨(z 1).val - 512, by omega⟩) z fun a => ?_
    match a with
    | 0 => show (z 0).val = 0 + 1 * (z 0).val; omega
    | 1 => show (z 1).val = 512 + 1 * ((z 1).val - 512); omega
  rw [View.read_writes_cons_miss_of_axis v f _ _ z 1 512 512 rfl rfl rfl (by omega), dif_pos (by omega)]
  refine View.read_writes_cons_hit_of_coords v f (Rect.unit (s := S512x2048) ![0, 0] S512x512.size i0) p0 _ (ix2 (⟨(z 0).val, l0⟩ : Fin 512) ⟨(z 1).val, by omega⟩) z fun a => ?_
  match a with
  | 0 => show (z 0).val = 0 + 1 * (z 0).val; omega
  | 1 => show (z 1).val = 0 + 1 * (z 1).val; omega

/-! ## The four courses -/

set_option maxHeartbeats 2000000 in
/-- At an odd point: the next 1024 experts are scored into slot 1, and the scores of slot 0 are weighted and summed. -/
theorem run_odd (c : Dev nD) (i : grid0.Coords) (arg2 : Memref sig .tc .vmem S512x2048 .bf16) (harg2 : arg2.IsWhole) (arg3 : Memref sig .tc .vmem S1024x2048 .bf16) (harg3 : arg3.IsWhole) (arg4 : Memref sig .tc .vmem S1024x2048 .bf16) (harg4 : arg4.IsWhole) (arg5 : Memref sig .tc .vmem S512x1024 .bf16) (harg5 : arg5.IsWhole) (arg6 : Memref sig .tc .vmem S512x2048 .f32) (harg6 : arg6.IsWhole) (arg7 : Memref sig .tc .vmem S1x1x2048 .f32) (harg7 : arg7.IsWhole) (arg8 : Memref sig .tc .vmem S1x2048 .f32) (harg8 : arg8.IsWhole) (arg9 : Memref sig .tc .vmem S512x2048 .f32) (harg9 : arg9.IsWhole) (arg10 : Memref sig .tc .vmem S512x2048 .f32) (harg10 : arg10.IsWhole) (arg11 : Memref sig .tc .vmem S2x512x1024 .f32) (harg11 : arg11.IsWhole)
    (h1 : ¬ cond1 i) (h2 : ¬ midOf 0#32 i) (h3 : midOf 1#32 i) (h4 : ¬ k0_cond4 i = 1#1)
    (x2 : Vec F S512x2048 .bf16) (x3 : Vec F S1024x2048 .bf16) (x4 : Vec F S1024x2048 .bf16) (x5 : Vec F S512x1024 .bf16)
    (a : Vec F S512x2048 .f32) (d : Vec F S2x512x1024 .f32) (h : Vec F S1x512x1024 .f32) (hd : Holds d 0 h) (E : Set ℕ) (K : PUnit → sProp (Res F)) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg10 fullShare a ∗ owns (c : Thread nD τ) arg11 fullShare d
      ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg10 fullShare (accOf h x5 x4 a) ∗ (∃ d', ⌜Holds d' 1 (scoresOf x2 x3)⌝ ∗ owns (c : Thread nD τ) arg11 fullShare d')) -∗ K ⟨⟩))
    ⊢ wp frame (wpE (defs₀ (F := F)) Variants.none c none) E (cc0_peer_dense i arg2 harg2 arg3 harg3 arg4 harg4 arg5 harg5 arg6 harg6 arg7 harg7 arg8 harg8 arg9 harg9 arg10 harg10 arg11 harg11) K := by
  simp only [cc0_peer_dense_eq_skeleton]; unfold cc0_peer_dense_skel
  simp only [k0_part1_eq_skeleton, k0_part2_eq_skeleton, k0_part3_eq_skeleton, k0_part4_eq_skeleton, k0_part5_eq_skeleton, k0_part6_eq_skeleton, k0_part7_eq_skeleton]
  unfold owns
  iintro ⟨⟨%f2, %hf2, H2⟩, ⟨%f3, %hf3, H3⟩, ⟨%f4, %hf4, H4⟩, ⟨%f5, %hf5, H5⟩, ⟨%fa, %hfa, HA⟩, ⟨%fs, %hfs, HS⟩, Hk⟩
  obtain rfl := harg2.eq_unread hf2; obtain rfl := harg3.eq_unread hf3; obtain rfl := harg4.eq_unread hf4; obtain rfl := harg5.eq_unread hf5; obtain rfl := harg10.eq_unread hfa; obtain rfl := harg11.eq_unread hfs
  sl_exec (disch := first | sl_exact h1 | sl_exact h2 | sl_exact h3 | sl_exact h4)
  sl_step
  unfold run_odd.sl.r_1 run_odd.sl.r run_odd.sl.v81 run_odd.sl.v89 run_odd.sl.v97 run_odd.sl.v54
  simp only [readAt_unread]
  iapply Hk
  isplitl [H2]
  · iexists _; isplitr; swap; · iexact H2
    ipureintro; exact harg2.read_unread x2
  isplitl [H3]
  · iexists _; isplitr; swap; · iexact H3
    ipureintro; exact harg3.read_unread x3
  isplitl [H4]
  · iexists _; isplitr; swap; · iexact H4
    ipureintro; exact harg4.read_unread x4
  isplitl [H5]
  · iexists _; isplitr; swap; · iexact H5
    ipureintro; exact harg5.read_unread x5
  isplitl [HA]
  · iexists _; isplitr; swap; · iexact HA
    ipureintro
    refine (read_quads _ _ _ _ _ _ _ _ _ _).trans ?_
    rw [show accOf h x5 x4 a = accOf (win d (Rect.unit (s := S2x512x1024) ![0, 0, 0] S1x512x1024.size inb_S2x512x1024_S1x512x1024_0_0_0).toLoadRect)
        (win x5 (Rect.unit (s := S512x1024) ![0, 0] S512x1024.size inb_S512x1024_S512x1024_0_0).toLoadRect) x4 a from by
      rw [win_full, win_of_holds d 0 h rfl _ hd]]
    rfl
  iexists (arg11.view.read (Elt F) _); isplitr; swap
  · iexists _; isplitr; swap; · iexact HS
    ipureintro; rfl
  ipureintro
  rw [show scoresOf x2 x3 = scoresOf (win x2 (Rect.unit (s := S512x2048) ![0, 0] S512x2048.size inb_S512x2048_S512x2048_0_0).toLoadRect) x3 from by rw [win_full]]
  exact holds_of_stores _ _ 1 _ _ rfl rfl _ _

set_option maxHeartbeats 2000000 in
/-- At an even point between: the next 1024 experts are scored into slot 0, and the scores of slot 1 are weighted and summed. -/
theorem run_even (c : Dev nD) (i : grid0.Coords) (arg2 : Memref sig .tc .vmem S512x2048 .bf16) (harg2 : arg2.IsWhole) (arg3 : Memref sig .tc .vmem S1024x2048 .bf16) (harg3 : arg3.IsWhole) (arg4 : Memref sig .tc .vmem S1024x2048 .bf16) (harg4 : arg4.IsWhole) (arg5 : Memref sig .tc .vmem S512x1024 .bf16) (harg5 : arg5.IsWhole) (arg6 : Memref sig .tc .vmem S512x2048 .f32) (harg6 : arg6.IsWhole) (arg7 : Memref sig .tc .vmem S1x1x2048 .f32) (harg7 : arg7.IsWhole) (arg8 : Memref sig .tc .vmem S1x2048 .f32) (harg8 : arg8.IsWhole) (arg9 : Memref sig .tc .vmem S512x2048 .f32) (harg9 : arg9.IsWhole) (arg10 : Memref sig .tc .vmem S512x2048 .f32) (harg10 : arg10.IsWhole) (arg11 : Memref sig .tc .vmem S2x512x1024 .f32) (harg11 : arg11.IsWhole)
    (h1 : ¬ cond1 i) (h2 : midOf 0#32 i) (h3 : ¬ midOf 1#32 i) (h4 : ¬ k0_cond4 i = 1#1)
    (x2 : Vec F S512x2048 .bf16) (x3 : Vec F S1024x2048 .bf16) (x4 : Vec F S1024x2048 .bf16) (x5 : Vec F S512x1024 .bf16)
    (a : Vec F S512x2048 .f32) (d : Vec F S2x512x1024 .f32) (h : Vec F S1x512x1024 .f32) (hd : Holds d 1 h) (E : Set ℕ) (K : PUnit → sProp (Res F)) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg10 fullShare a ∗ owns (c : Thread nD τ) arg11 fullShare d
      ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg10 fullShare (accOf h x5 x4 a) ∗ (∃ d', ⌜Holds d' 0 (scoresOf x2 x3)⌝ ∗ owns (c : Thread nD τ) arg11 fullShare d')) -∗ K ⟨⟩))
    ⊢ wp frame (wpE (defs₀ (F := F)) Variants.none c none) E (cc0_peer_dense i arg2 harg2 arg3 harg3 arg4 harg4 arg5 harg5 arg6 harg6 arg7 harg7 arg8 harg8 arg9 harg9 arg10 harg10 arg11 harg11) K := by
  simp only [cc0_peer_dense_eq_skeleton]; unfold cc0_peer_dense_skel
  simp only [k0_part1_eq_skeleton, k0_part2_eq_skeleton, k0_part3_eq_skeleton, k0_part4_eq_skeleton, k0_part5_eq_skeleton, k0_part6_eq_skeleton, k0_part7_eq_skeleton]
  unfold owns
  iintro ⟨⟨%f2, %hf2, H2⟩, ⟨%f3, %hf3, H3⟩, ⟨%f4, %hf4, H4⟩, ⟨%f5, %hf5, H5⟩, ⟨%fa, %hfa, HA⟩, ⟨%fs, %hfs, HS⟩, Hk⟩
  obtain rfl := harg2.eq_unread hf2; obtain rfl := harg3.eq_unread hf3; obtain rfl := harg4.eq_unread hf4; obtain rfl := harg5.eq_unread hf5; obtain rfl := harg10.eq_unread hfa; obtain rfl := harg11.eq_unread hfs
  sl_exec (disch := first | sl_exact h1 | sl_exact h2 | sl_exact h3 | sl_exact h4)
  sl_step
  unfold run_even.sl.r_1 run_even.sl.r run_even.sl.v81 run_even.sl.v89 run_even.sl.v97 run_even.sl.v54
  simp only [readAt_unread]
  iapply Hk
  isplitl [H2]
  · iexists _; isplitr; swap; · iexact H2
    ipureintro; exact harg2.read_unread x2
  isplitl [H3]
  · iexists _; isplitr; swap; · iexact H3
    ipureintro; exact harg3.read_unread x3
  isplitl [H4]
  · iexists _; isplitr; swap; · iexact H4
    ipureintro; exact harg4.read_unread x4
  isplitl [H5]
  · iexists _; isplitr; swap; · iexact H5
    ipureintro; exact harg5.read_unread x5
  isplitl [HA]
  · iexists _; isplitr; swap; · iexact HA
    ipureintro
    refine (read_quads _ _ _ _ _ _ _ _ _ _).trans ?_
    rw [show accOf h x5 x4 a = accOf (win d (Rect.unit (s := S2x512x1024) ![1, 0, 0] S1x512x1024.size inb_S2x512x1024_S1x512x1024_1_0_0).toLoadRect)
        (win x5 (Rect.unit (s := S512x1024) ![0, 0] S512x1024.size inb_S512x1024_S512x1024_0_0).toLoadRect) x4 a from by
      rw [win_full, win_of_holds d 1 h rfl _ hd]]
    rfl
  iexists (arg11.view.read (Elt F) _); isplitr; swap
  · iexists _; isplitr; swap; · iexact HS
    ipureintro; rfl
  ipureintro
  rw [show scoresOf x2 x3 = scoresOf (win x2 (Rect.unit (s := S512x2048) ![0, 0] S512x2048.size inb_S512x2048_S512x2048_0_0).toLoadRect) x3 from by rw [win_full]]
  exact holds_of_stores _ _ 0 _ _ rfl rfl _ _

set_option maxHeartbeats 2000000 in
/-- At a row tile's first point: the accumulator is cleared and the first 1024 experts are scored into slot 0. -/
theorem run_first (c : Dev nD) (i : grid0.Coords) (arg2 : Memref sig .tc .vmem S512x2048 .bf16) (harg2 : arg2.IsWhole) (arg3 : Memref sig .tc .vmem S1024x2048 .bf16) (harg3 : arg3.IsWhole) (arg4 : Memref sig .tc .vmem S1024x2048 .bf16) (harg4 : arg4.IsWhole) (arg5 : Memref sig .tc .vmem S512x1024 .bf16) (harg5 : arg5.IsWhole) (arg6 : Memref sig .tc .vmem S512x2048 .f32) (harg6 : arg6.IsWhole) (arg7 : Memref sig .tc .vmem S1x1x2048 .f32) (harg7 : arg7.IsWhole) (arg8 : Memref sig .tc .vmem S1x2048 .f32) (harg8 : arg8.IsWhole) (arg9 : Memref sig .tc .vmem S512x2048 .f32) (harg9 : arg9.IsWhole) (arg10 : Memref sig .tc .vmem S512x2048 .f32) (harg10 : arg10.IsWhole) (arg11 : Memref sig .tc .vmem S2x512x1024 .f32) (harg11 : arg11.IsWhole)
    (h1 : cond1 i) (h2 : ¬ midOf 0#32 i) (h3 : ¬ midOf 1#32 i) (h4 : ¬ k0_cond4 i = 1#1)
    (x2 : Vec F S512x2048 .bf16) (x3 : Vec F S1024x2048 .bf16)
     (E : Set ℕ) (K : PUnit → sProp (Res F)) :
    iprop(owns (c : Thread nD τ) arg2 fullShare x2 ∗ owns (c : Thread nD τ) arg3 fullShare x3 ∗ (∃ d, owns (c : Thread nD τ) arg10 fullShare d) ∗ (∃ d, owns (c : Thread nD τ) arg11 fullShare d)
      ∗ (iprop(owns (c : Thread nD τ) arg2 fullShare x2 ∗ owns (c : Thread nD τ) arg3 fullShare x3 ∗ owns (c : Thread nD τ) arg10 fullShare k0_pay23 ∗ (∃ d', ⌜Holds d' 0 (scoresOf x2 x3)⌝ ∗ owns (c : Thread nD τ) arg11 fullShare d')) -∗ K ⟨⟩))
    ⊢ wp frame (wpE (defs₀ (F := F)) Variants.none c none) E (cc0_peer_dense i arg2 harg2 arg3 harg3 arg4 harg4 arg5 harg5 arg6 harg6 arg7 harg7 arg8 harg8 arg9 harg9 arg10 harg10 arg11 harg11) K := by
  simp only [cc0_peer_dense_eq_skeleton]; unfold cc0_peer_dense_skel
  simp only [k0_part1_eq_skeleton, k0_part2_eq_skeleton, k0_part3_eq_skeleton, k0_part4_eq_skeleton, k0_part5_eq_skeleton, k0_part6_eq_skeleton, k0_part7_eq_skeleton]
  unfold owns
  iintro ⟨⟨%f2, %hf2, H2⟩, ⟨%f3, %hf3, H3⟩, ⟨%da, %fa, -, HA⟩, ⟨%ds, %fs, -, HS⟩, Hk⟩
  obtain rfl := harg2.eq_unread hf2; obtain rfl := harg3.eq_unread hf3
  sl_exec (disch := first | sl_exact h1 | sl_exact h2 | sl_exact h3 | sl_exact h4)
  sl_step
  simp only [readAt_unread]
  iapply Hk
  isplitl [H2]
  · iexists _; isplitr; swap; · iexact H2
    ipureintro; exact harg2.read_unread x2
  isplitl [H3]
  · iexists _; isplitr; swap; · iexact H3
    ipureintro; exact harg3.read_unread x3
  isplitl [HA]
  · iexists _; isplitr; swap; · iexact HA
    ipureintro
    exact View.read_writes_full _ _ _ _ _
  iexists (arg11.view.read (Elt F) _); isplitr; swap
  · iexists _; isplitr; swap; · iexact HS
    ipureintro; rfl
  ipureintro
  rw [show scoresOf x2 x3 = scoresOf (win x2 (Rect.unit (s := S512x2048) ![0, 0] S512x2048.size inb_S512x2048_S512x2048_0_0).toLoadRect) x3 from by rw [win_full]]
  exact holds_of_stores _ _ 0 _ _ rfl rfl _ _

set_option maxHeartbeats 2000000 in
/-- At a row tile's last point: the scores of slot 1 are weighted and summed, and the residual sum is normalised into the output block. -/
theorem run_last (c : Dev nD) (i : grid0.Coords) (arg2 : Memref sig .tc .vmem S512x2048 .bf16) (harg2 : arg2.IsWhole) (arg3 : Memref sig .tc .vmem S1024x2048 .bf16) (harg3 : arg3.IsWhole) (arg4 : Memref sig .tc .vmem S1024x2048 .bf16) (harg4 : arg4.IsWhole) (arg5 : Memref sig .tc .vmem S512x1024 .bf16) (harg5 : arg5.IsWhole) (arg6 : Memref sig .tc .vmem S512x2048 .f32) (harg6 : arg6.IsWhole) (arg7 : Memref sig .tc .vmem S1x1x2048 .f32) (harg7 : arg7.IsWhole) (arg8 : Memref sig .tc .vmem S1x2048 .f32) (harg8 : arg8.IsWhole) (arg9 : Memref sig .tc .vmem S512x2048 .f32) (harg9 : arg9.IsWhole) (arg10 : Memref sig .tc .vmem S512x2048 .f32) (harg10 : arg10.IsWhole) (arg11 : Memref sig .tc .vmem S2x512x1024 .f32) (harg11 : arg11.IsWhole)
    (h1 : ¬ cond1 i) (h2 : ¬ midOf 0#32 i) (h3 : ¬ midOf 1#32 i) (h4 : k0_cond4 i = 1#1)
    (x4 : Vec F S1024x2048 .bf16) (x5 : Vec F S512x1024 .bf16) (x6 : Vec F S512x2048 .f32) (x7 : Vec F S1x1x2048 .f32) (x8 : Vec F S1x2048 .f32)
    (a : Vec F S512x2048 .f32) (d : Vec F S2x512x1024 .f32) (h : Vec F S1x512x1024 .f32) (hd : Holds d 1 h) (E : Set ℕ) (K : PUnit → sProp (Res F)) :
    iprop(owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ owns (c : Thread nD τ) arg10 fullShare a ∗ owns (c : Thread nD τ) arg11 fullShare d
      ∗ (iprop(owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (k0_pay2 (k0_pay22 x6 x7 (accOf h x5 x4 a)) x8) ∗ (∃ d, owns (c : Thread nD τ) arg10 fullShare d) ∗ (∃ d, owns (c : Thread nD τ) arg11 fullShare d)) -∗ K ⟨⟩))
    ⊢ wp frame (wpE (defs₀ (F := F)) Variants.none c none) E (cc0_peer_dense i arg2 harg2 arg3 harg3 arg4 harg4 arg5 harg5 arg6 harg6 arg7 harg7 arg8 harg8 arg9 harg9 arg10 harg10 arg11 harg11) K := by
  simp only [cc0_peer_dense_eq_skeleton]; unfold cc0_peer_dense_skel
  simp only [k0_part1_eq_skeleton, k0_part2_eq_skeleton, k0_part3_eq_skeleton, k0_part4_eq_skeleton, k0_part5_eq_skeleton, k0_part6_eq_skeleton, k0_part7_eq_skeleton]
  unfold owns
  iintro ⟨⟨%f4, %hf4, H4⟩, ⟨%f5, %hf5, H5⟩, ⟨%f6, %hf6, H6⟩, ⟨%f7, %hf7, H7⟩, ⟨%f8, %hf8, H8⟩, ⟨%d9, %f9, -, H9⟩, ⟨%fa, %hfa, HA⟩, ⟨%fs, %hfs, HS⟩, Hk⟩
  obtain rfl := harg4.eq_unread hf4; obtain rfl := harg5.eq_unread hf5; obtain rfl := harg6.eq_unread hf6; obtain rfl := harg7.eq_unread hf7; obtain rfl := harg8.eq_unread hf8; obtain rfl := harg10.eq_unread hfa; obtain rfl := harg11.eq_unread hfs
  sl_exec (disch := first | sl_exact h1 | sl_exact h2 | sl_exact h3 | sl_exact h4)
  sl_step
  unfold run_last.sl.r_1 run_last.sl.HA_4 run_last.sl.v94 run_last.sl.HA_4 run_last.sl.v67 run_last.sl.v75 run_last.sl.v83 run_last.sl.r
  simp only [readAt_unread]
  iapply Hk
  isplitl [H4]
  · iexists _; isplitr; swap; · iexact H4
    ipureintro; exact harg4.read_unread x4
  isplitl [H5]
  · iexists _; isplitr; swap; · iexact H5
    ipureintro; exact harg5.read_unread x5
  isplitl [H6]
  · iexists _; isplitr; swap; · iexact H6
    ipureintro; exact harg6.read_unread x6
  isplitl [H7]
  · iexists _; isplitr; swap; · iexact H7
    ipureintro; exact harg7.read_unread x7
  isplitl [H8]
  · iexists _; isplitr; swap; · iexact H8
    ipureintro; exact harg8.read_unread x8
  isplitl [H9]
  · iexists _; isplitr; swap; · iexact H9
    ipureintro
    refine (View.read_writes_full _ _ _ _ _).trans ?_
    have key : ∀ {u6 u7 u8 A}, u6 = x6 → u7 = x7 → u8 = x8 → A = accOf h x5 x4 a →
        k0_pay2 (F := F) (k0_pay22 u6 u7 A) u8 = k0_pay2 (k0_pay22 x6 x7 (accOf h x5 x4 a)) x8 := by
      rintro _ _ _ _ rfl rfl rfl rfl; rfl
    refine key (win_full _ _) (win_full _ _) (win_full _ _) ((View.readAt_full _ _ _).trans ((read_quads _ _ _ _ _ _ _ _ _ _).trans ?_))
    rw [show accOf h x5 x4 a = accOf (win d (Rect.unit (s := S2x512x1024) ![1, 0, 0] S1x512x1024.size inb_S2x512x1024_S1x512x1024_1_0_0).toLoadRect)
        (win x5 (Rect.unit (s := S512x1024) ![0, 0] S512x1024.size inb_S512x1024_S512x1024_0_0).toLoadRect) x4 a from by
      rw [win_full, win_of_holds d 1 h rfl _ hd]]
    rfl
  isplitl [HA]
  · iexists (arg10.view.read (Elt F) _); iexists _; isplitr; swap; · iexact HA
    ipureintro; rfl
  iexists (arg11.view.read (Elt F) _); iexists _; isplitr; swap; · iexact HS
  ipureintro; rfl

end Cert.Kernel5Ideal.Gen

end
-- ==== Proof.PeerDFrame.lean ====
module

public import proofs.«01_k».proof.Proof.PeerD
public import proofs.«01_k».proof.Proof.Gen.Kernel5
public import Idealize.ShloMosaic.Lib.Claim

/-! The experts' sum's run: what the accumulator and the two-slot buffer hold between points, the body at every point, and the whole program
    from its launch to its end. -/

@[expose] public section

set_option maxRecDepth 16384

noncomputable section

namespace Cert.Kernel5Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The grid's point of number `n`, the first one past the grid's end. -/
def ptOf (n : ℕ) : Fin cfg0.N := if h : n < cfg0.N then ⟨n, h⟩ else ⟨0, by rw [show cfg0.N = 68 from N_0]; omega⟩

theorem ptOf_val (t : Fin cfg0.N) : ptOf t.val = t := by
  unfold ptOf; rw [dif_pos t.isLt]

/-- The scores the point `n` computes. -/
def scAt (c : Dev nD) (n : ℕ) : Vec F S1x512x1024 .f32 := scoresOf (iblk m c 0 (ptOf n)) (iblk m c 1 (ptOf n))

theorem scAt_val (c : Dev nD) (t : Fin cfg0.N) : scAt m c t.val = scoresOf (iblk m c 0 t) (iblk m c 1 t) := by
  unfold scAt; rw [ptOf_val]

/-- The accumulator after the point `n`: cleared by the first of a row tile's points, added to by each later one. -/
def acAt (c : Dev nD) : ℕ → Vec F S512x2048 .f32
  | 0 => k0_pay23
  | n + 1 => if (n + 1) % 17 = 0 then k0_pay23 else accOf (scAt m c n) (iblk m c 3 (ptOf (n + 1))) (iblk m c 2 (ptOf (n + 1))) (acAt c n)

theorem acAt_first (c : Dev nD) (n : ℕ) (h : n % 17 = 0) : acAt m c n = k0_pay23 := by
  cases n with
  | zero => unfold acAt; rfl
  | succ k => unfold acAt; rw [if_pos h]

theorem acAt_step (c : Dev nD) (t : Fin cfg0.N) (h : t.val % 17 ≠ 0) :
    acAt m c t.val = accOf (scAt m c (t.val - 1)) (iblk m c 3 t) (iblk m c 2 t) (acAt m c (t.val - 1)) := by
  obtain ⟨n, hn⟩ := t
  cases n with
  | zero => exact absurd rfl h
  | succ k =>
    rw [show (⟨k + 1, hn⟩ : Fin cfg0.N) = ptOf (k + 1) from (ptOf_val ⟨k + 1, hn⟩).symm]
    rw [ptOf_val ⟨k + 1, hn⟩]
    show acAt m c (k + 1) = _
    rw [acAt, if_neg h, show ptOf (k + 1) = (⟨k + 1, hn⟩ : Fin cfg0.N) from ptOf_val ⟨k + 1, hn⟩]
    rfl

/-- The accumulator, and the two-slot buffer. -/
abbrev scA : Memref sig .tc .vmem S512x2048 .f32 := Memref.whole cc0_scratch0
abbrev scM : Memref sig .tc .vmem S2x512x1024 .f32 := Memref.whole cc0_scratch1

/-- What the launch hands over besides the windows: both scratch buffers at anything, and the generator's register. -/
theorem launched_eq (c : Dev nD) :
    (Pipeline.ΦA spec0 c : sProp (Res F)) = iprop(((∃ d, owns (c : Thread nD τ) scA fullShare d) ∗ (∃ d, owns (c : Thread nD τ) scM fullShare d)) ∗ (∃ r, prngReg c r)) := by
  unfold Pipeline.ΦA; rw [scopedRest0_eq]; simp only [scA, scM, owns_whole]; try rfl

/-- Between points: before a row tile's first, what the launch hands over; later, the accumulator so far and the last scores in their slot. -/
def carried (c : Dev nD) (n : ℕ) : sProp (Res F) :=
  if n % 17 = 0 then Pipeline.ΦA spec0 c
  else iprop((owns (c : Thread nD τ) scA fullShare (acAt m c (n - 1))
    ∗ (∃ d, ⌜Holds d ((n - 1) % 17 % 2) (scAt m c (n - 1))⌝ ∗ owns (c : Thread nD τ) scM fullShare d)) ∗ (∃ r, prngReg c r))

theorem carried_first (c : Dev nD) (n : ℕ) (h : n % 17 = 0) : carried m c n = Pipeline.ΦA spec0 c := by
  unfold carried; rw [if_pos h]
theorem carried_later (c : Dev nD) (n : ℕ) (h : n % 17 ≠ 0) :
    carried m c n = iprop((owns (c : Thread nD τ) scA fullShare (acAt m c (n - 1))
      ∗ (∃ d, ⌜Holds d ((n - 1) % 17 % 2) (scAt m c (n - 1))⌝ ∗ owns (c : Thread nD τ) scM fullShare d)) ∗ (∃ r, prngReg c r)) := by
  unfold carried; rw [if_neg h]

/-- The run's data: the arrays as the region finds them; after each point the inputs' blocks as they were, and the output's block the gated and
    normed sum of the stream and the accumulator. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => k0_pay2 (k0_pay22 (iblk m c 4 t) (iblk m c 5 t) (acAt m c t.val)) (iblk m c 6 t)
    | ⟨_ + 8, h⟩ => absurd h (Nat.not_lt.2 (Nat.le_add_left _ _))
  Φ t := carried m c t.val
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = k0_pay2 (k0_pay22 (iblk m c 4 t) (iblk m c 5 t) (acAt m c t.val)) (iblk m c 6 t) := by dsimp only [dats]

theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d
theorem before0_5 (c : Dev nD) (t : Fin cfg0.N) (d) : (dats m 0 c).before 5 t d = iblk m c 5 t := before0_5_of m (dats m 0 c) (A_eq m c 5) (after0_5 m c) t d
theorem before0_6 (c : Dev nD) (t : Fin cfg0.N) (d) : (dats m 0 c).before 6 t d = iblk m c 6 t := before0_6_of m (dats m 0 c) (A_eq m c 6) (after0_6 m c) t d

/-- What the body is called with at a point, the windows one by one, -/
def bodyPre (c : Dev nD) (t : Fin cfg0.N) : sProp (Res F) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- what it returns at a row tile's last point, -/
def bodyPost (c : Dev nD) (t : Fin cfg0.N) : sProp (Res F) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- and what it returns at any other, which leaves the output's block as it was. -/
def bodyPass (c : Dev nD) (t : Fin cfg0.N) : sProp (Res F) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ (∃ d, owns (c : Thread nD τ) (st0_7 t) fullShare ((dats m 0 c).before 7 t d)))

set_option maxHeartbeats 2000000 in
/-- The body at a row tile's last point. -/
theorem sound_last (c : Dev nD) (t : Fin cfg0.N) (ht : t.val % 17 = 16) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.castSucc = carried m c t.val from rfl, show (dats m 0 c).Φ t.succ = carried m c (t.val + 1) from rfl,
    show (dats m 0 c).owesAt () t.succ = (dats m 0 c).owesAt () t.castSucc from rfl,
    after0_0, after0_1, after0_2, after0_3, after0_4, after0_5, after0_6, after0_7]
  rw [carried_later m c t.val (by omega), carried_first m c (t.val + 1) (by omega), launched_eq, acAt_step m c t (by omega), show (t.val - 1) % 17 % 2 = 1 by omega]
  iintro ⟨⟨⟨HA, ⟨%d, %hd, HS⟩⟩, Hg⟩, Ho, ⟨%d0, H0⟩, ⟨%d1, H1⟩, ⟨%d2, H2⟩, ⟨%d3, H3⟩, ⟨%d4, H4⟩, ⟨%d5, H5⟩, ⟨%d6, H6⟩, H7⟩
  iapply (run_last c (grid0.coords t) _ _ _ _ _ _ _ _ _ _ _ _ _ _ _ _ scA (Memref.isWhole_whole _) scM (Memref.isWhole_whole _)
    (fun h => absurd ((cond1_iff t).mp h) (by omega)) (fun h => absurd ((cond2_iff t).mp h) (by omega)) (fun h => absurd ((cond3_iff t).mp h) (by omega)) ((cond4_iff t).mpr ht)
    (iblk m c 2 t) (iblk m c 3 t) (iblk m c 4 t) (iblk m c 5 t) (iblk m c 6 t) (acAt m c (t.val - 1)) d (scAt m c (t.val - 1)) hd Set.univ _)
  isplitl [H2]; · iexact H2
  isplitl [H3]; · iexact H3
  isplitl [H4]; · iexact H4
  isplitl [H5]; · iexact H5
  isplitl [H6]; · iexact H6
  isplitl [H7]
  · icases H7 with ⟨%d7, H7⟩
    iexists _; iexact H7
  isplitl [HA]; · iexact HA
  isplitl [HS]; · iexact HS
  iintro ⟨H2, H3, H4, H5, H6, H7, HA, HS⟩
  isplitl [HA HS Hg]
  · isplitl [HA HS]
    · isplitl [HA]; · iexact HA
      iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

set_option maxHeartbeats 2000000 in
/-- The body at any other point, by which of its three courses the point takes. -/
theorem sound_other (c : Dev nD) (t : Fin cfg0.N) (ht : t.val % 17 ≠ 16) :
    bodyPre m c t ⊢ wp frame (wpE (defs₀ (F := F)) Variants.none c none) Set.univ (bodyAt0 t) (fun _ => bodyPass m c t) := by
  unfold bodyPre bodyPass bodyAt0
  simp only [before0_0, before0_1, before0_2, before0_3, before0_4, before0_5, before0_6]
  rw [show (dats m 0 c).Φ t.castSucc = carried m c t.val from rfl, show (dats m 0 c).Φ t.succ = carried m c (t.val + 1) from rfl,
    show (dats m 0 c).owesAt () t.succ = (dats m 0 c).owesAt () t.castSucc from rfl,
    after0_0, after0_1, after0_2, after0_3, after0_4, after0_5, after0_6]
  rw [carried_later m c (t.val + 1) (by omega), show t.val + 1 - 1 = t.val from rfl, scAt_val]
  by_cases hz : t.val % 17 = 0
  · rw [carried_first m c t.val hz, launched_eq, acAt_first m c t.val hz, show t.val % 17 % 2 = 0 by omega]
    iintro ⟨⟨⟨HA, HS⟩, Hg⟩, Ho, ⟨%d0, H0⟩, ⟨%d1, H1⟩, ⟨%d2, H2⟩, ⟨%d3, H3⟩, ⟨%d4, H4⟩, ⟨%d5, H5⟩, ⟨%d6, H6⟩, H7⟩
    iapply (run_first c (grid0.coords t) _ _ _ _ _ _ _ _ _ _ _ _ _ _ _ _ scA (Memref.isWhole_whole _) scM (Memref.isWhole_whole _)
      ((cond1_iff t).mpr hz) (fun h => absurd ((cond2_iff t).mp h) (by omega)) (fun h => absurd ((cond3_iff t).mp h) (by omega)) (fun h => ht ((cond4_iff t).mp h))
      (iblk m c 0 t) (iblk m c 1 t) Set.univ _)
    isplitl [H0]; · iexact H0
    isplitl [H1]; · iexact H1
    isplitl [HA]; · iexact HA
    isplitl [HS]; · iexact HS
    iintro ⟨H0, H1, HA, HS⟩
    isplitl [HA HS Hg]
    · isplitl [HA HS]
      · isplitl [HA]; · iexact HA
        iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [carried_later m c t.val hz, acAt_step m c t hz]
    by_cases h2 : t.val % 17 % 2 = 1
    · rw [show (t.val - 1) % 17 % 2 = 0 by omega, show t.val % 17 % 2 = 1 by omega]
      iintro ⟨⟨⟨HA, ⟨%d, %hd, HS⟩⟩, Hg⟩, Ho, ⟨%d0, H0⟩, ⟨%d1, H1⟩, ⟨%d2, H2⟩, ⟨%d3, H3⟩, ⟨%d4, H4⟩, ⟨%d5, H5⟩, ⟨%d6, H6⟩, H7⟩
      iapply (run_odd c (grid0.coords t) _ _ _ _ _ _ _ _ _ _ _ _ _ _ _ _ scA (Memref.isWhole_whole _) scM (Memref.isWhole_whole _)
        (fun h => hz ((cond1_iff t).mp h)) (fun h => absurd ((cond2_iff t).mp h) (by omega)) ((cond3_iff t).mpr h2) (fun h => ht ((cond4_iff t).mp h))
        (iblk m c 0 t) (iblk m c 1 t) (iblk m c 2 t) (iblk m c 3 t) (acAt m c (t.val - 1)) d (scAt m c (t.val - 1)) hd Set.univ _)
      isplitl [H0]; · iexact H0
      isplitl [H1]; · iexact H1
      isplitl [H2]; · iexact H2
      isplitl [H3]; · iexact H3
      isplitl [HA]; · iexact HA
      isplitl [HS]; · iexact HS
      iintro ⟨H0, H1, H2, H3, HA, HS⟩
      isplitl [HA HS Hg]
      · isplitl [HA HS]
        · isplitl [HA]; · iexact HA
          iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · rw [show (t.val - 1) % 17 % 2 = 1 by omega, show t.val % 17 % 2 = 0 by omega]
      iintro ⟨⟨⟨HA, ⟨%d, %hd, HS⟩⟩, Hg⟩, Ho, ⟨%d0, H0⟩, ⟨%d1, H1⟩, ⟨%d2, H2⟩, ⟨%d3, H3⟩, ⟨%d4, H4⟩, ⟨%d5, H5⟩, ⟨%d6, H6⟩, H7⟩
      iapply (run_even c (grid0.coords t) _ _ _ _ _ _ _ _ _ _ _ _ _ _ _ _ scA (Memref.isWhole_whole _) scM (Memref.isWhole_whole _)
        (fun h => hz ((cond1_iff t).mp h)) ((cond2_iff t).mpr ⟨hz, ht, by omega⟩) (fun h => h2 ((cond3_iff t).mp h)) (fun h => ht ((cond4_iff t).mp h))
        (iblk m c 0 t) (iblk m c 1 t) (iblk m c 2 t) (iblk m c 3 t) (acAt m c (t.val - 1)) d (scAt m c (t.val - 1)) hd Set.univ _)
      isplitl [H0]; · iexact H0
      isplitl [H1]; · iexact H1
      isplitl [H2]; · iexact H2
      isplitl [H3]; · iexact H3
      isplitl [HA]; · iexact HA
      isplitl [HS]; · iexact HS
      iintro ⟨H0, H1, H2, H3, HA, HS⟩
      isplitl [HA HS Hg]
      · isplitl [HA HS]
        · isplitl [HA]; · iexact HA
          iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7

/-- The body table's row at a point is the body there. -/
theorem row_eq (t : Fin cfg0.N) : defs₀ (F := F) .tc cfg0.body (cfg0.bodyArgs t (cfg0.slots t)) = bodyAt0 t := by
  unfold defs₀; rw [Defs.onTc_tc]

theorem idle_true (t : Fin cfg0.N) (h : t.val % 17 ≠ 16) : idle0 7 (grid0.coords t) = true := by
  show (!(k0_cond4 (grid0.coords t) == 1#1)) = true
  have := mt (cond4_iff t).mp h
  simpa using this
theorem idle_false (t : Fin cfg0.N) (h : t.val % 17 = 16) : idle0 7 (grid0.coords t) = false := by
  show (!(k0_cond4 (grid0.coords t) == 1#1)) = false
  have := (cond4_iff t).mpr h
  simpa using this
theorem flush_false (t : Fin cfg0.N) (h : t.val % 17 ≠ 16) : (cfg0.win 7).flush t = false := by
  cases hf : (cfg0.win 7).flush t with
  | false => rfl
  | true => exact absurd ((flush0_7 t).mp hf) h

/-- The pipeline's demand of the body, at every point. -/
theorem body_obligation (c : Dev nD) : BodyObligation (dats (F := F) m 0 c) (defs₀ (F := F)) Variants.none () Set.univ := fun t => by
  rw [bigSep_W0, bigSep_W0, row_eq]
  by_cases h : t.val % 17 = 16
  · simp only [show idle0 7 (grid0.coords t) = false from idle_false t h]
    exact triple_restated (sound_last m c t h) rfl .rfl fun _ => .rfl
  · simp only [show idle0 7 (grid0.coords t) = true from idle_true t h, show (cfg0.win 7).flush t = false from flush_false t h]
    exact triple_restated (sound_other m c t h) rfl .rfl fun _ => .rfl

theorem hin (c : Dev nD) : Pipeline.ΦA spec0 c ⊢ (dats m 0 c).Φ 0 := by
  rw [show (dats m 0 c).Φ 0 = carried m c 0 from rfl, carried_first m c 0 rfl]

theorem hout (c : Dev nD) : (dats m 0 c).Φ (Fin.last cfg0.N) ⊢ Pipeline.ΦA spec0 c := by
  have hN : cfg0.N = 68 := N_0
  rw [show (dats m 0 c).Φ (Fin.last cfg0.N) = carried m c cfg0.N from rfl, carried_first m c _ (by omega)]

-- the launch theorem's implicit arguments are found by unifying its conclusion with this one, which takes unfolding plain definitions in a
-- metavariable's type
set_option backward.isDefEq.respectTransparency.types false in
/-- The run, with every counter at zero at its end. -/
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c w => (dats m 0 c).share_full (fun _ => rfl) w)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_quiescent m ρ)

/-- The frame: the argument arrays end as launched and every counter at zero. -/
theorem frame_in : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_quiescent m ρ))

end Cert.Kernel5Ideal.Gen

end
-- ==== Proof.PeerDRef.lean ====
module

public import proofs.«01_k».proof.Proof.Gen.Reference5Ideal.Read
public import Idealize.ShloMosaic.Lib.Pointwise

/-! The reference of the experts' sum over the last eighth of the tokens, read at an index. -/

@[expose] public section

set_option maxRecDepth 16384

noncomputable section

namespace Cert.PeerD

open Idealize.ShloMosaic Cert.Reference5Ideal Cert.Reference5Ideal.Gen Cert.Reference5Ideal.Read

/-- The activation of an expert's score, in its approximation by the hyperbolic tangent. -/
def geluE (a : EReal) : EReal :=
  a * (Ideal.ofBits .f32 0x3F000000#32
    * (1 + Ideal.tanh (Ideal.ofBits .f32 0x3F4C422A#32 * (a + Ideal.ofBits .f32 0x3D372713#32 * (a * a * a)))))

/-- A row normed over its 2048 entries and weighted. -/
def normE (y w : Fin 2048 → EReal) (d : Fin 2048) : EReal :=
  y d * Ideal.rsqrt (Ideal.div (∑ k, y k * y k) (Ideal.ofBits .f32 0x45000000#32) + Ideal.ofBits .f32 0x358637BD#32) * w d

section
variable (x0 : FVec Ideal S16384x2048 .bf16) (x1 x2 : FVec Ideal S16384x2048 .f32) (x3 : FVec Ideal S2048x16384 .bf16)
  (x4 : FVec Ideal S16384x2048 .f32) (x5 : FVec Ideal S4x2048 .f32) (x6 : FVec Ideal S2048 .f32)

/-- What the expert `n` adds to column `d` of row `i` of the last 2048. -/
def termR (i : Fin 2048) (d : Fin 2048) (n : Fin 16384) : EReal :=
  geluE (∑ k : Fin 2048, x0 (ix2 ⟨14336 + i.val, by omega⟩ k) * x1 (ix2 n k)) * x3 (ix2 i n) * x2 (ix2 n d)

/-- The stream with the gated sum of all the experts added, in row `i` of the last 2048. -/
def rowR (i : Fin 2048) (d : Fin 2048) : EReal :=
  x4 (ix2 ⟨14336 + i.val, by omega⟩ d) + x5 (ix2 3 d) * ∑ n : Fin 16384, termR x0 x1 x2 x3 i d n

theorem score_at (i : Fin 2048) (n : Fin 16384) :
    (val_main_v3 (F := Ideal) x0 x1 : FVec Ideal S2048x16384 .f32) (ix2 i n)
      = ∑ k : Fin 2048, x0 (ix2 ⟨14336 + i.val, by omega⟩ k) * x1 (ix2 n k) := by
  unfold val_main_v3 val_main_v2 val_main_v1 val_main_v0
  pointwise

theorem gelu_at (i : Fin 2048) (n : Fin 16384) :
    (val_main_v16 (F := Ideal) x0 x1 : FVec Ideal S2048x16384 .f32) (ix2 i n)
      = geluE ((val_main_v3 (F := Ideal) x0 x1 : FVec Ideal S2048x16384 .f32) (ix2 i n)) := by
  unfold val_main_v16 val_main_v15 val_main_v14 val_main_cst_2 val_main_v13 val_main_v12 val_main_cst_1 val_main_v11 val_main_v10
    val_main_v9 val_main_cst_0 val_main_v8 val_main_v7 val_main_v6 val_main_cst val_main_v5 val_main_v4 geluE
  generalize (val_main_v3 (F := Ideal) x0 x1 : FVec Ideal S2048x16384 .f32) = y
  pointwise

theorem sum_at (i : Fin 2048) (d : Fin 2048) :
    (val_main_v19 (F := Ideal) x0 x1 x2 x3 : FVec Ideal S2048x2048 .f32) (ix2 i d) = ∑ n : Fin 16384, termR x0 x1 x2 x3 i d n := by
  unfold val_main_v19 val_main_v18 val_main_v17 termR
  simp only [← score_at, ← gelu_at]
  generalize (val_main_v16 (F := Ideal) x0 x1 : FVec Ideal S2048x16384 .f32) = y
  pointwise

theorem row_at (i : Fin 2048) (d : Fin 2048) :
    (val_main_v27 (F := Ideal) x0 x1 x2 x3 x4 x5 : FVec Ideal S2048x2048 .f32) (ix2 i d) = rowR x0 x1 x2 x3 x4 x5 i d := by
  unfold val_main_v27 val_main_v26 val_main_v25 val_main_v24 val_main_v23 val_main_v22 val_main_v21 rowR
  simp only [← sum_at]
  generalize (val_main_v19 (F := Ideal) x0 x1 x2 x3 : FVec Ideal S2048x2048 .f32) = y
  pointwise

theorem norm_at (i : Fin 2048) (d : Fin 2048) :
    (val_main_v40 (F := Ideal) x0 x1 x2 x3 x4 x5 x6 : FVec Ideal S2048x2048 .f32) (ix2 i d)
      = normE (rowR x0 x1 x2 x3 x4 x5 i) (fun d => x6 (ix1 d)) d := by
  unfold val_main_v40 val_main_v39 val_main_v38 val_main_v37 val_main_v36 val_main_v35 val_main_v34 val_main_v33 val_main_cst_5
    val_main_v32 val_main_v31 val_main_cst_4 val_main_v30 val_main_v29 val_main_cst_3 val_main_v28 normE
  simp only [← row_at]
  generalize (val_main_v27 (F := Ideal) x0 x1 x2 x3 x4 x5 : FVec Ideal S2048x2048 .f32) = y
  pointwise

/-- The reference's last 2048 rows. -/
theorem tail_at (i : Fin 2048) (d : Fin 2048) :
    (val_main_v41 (F := Ideal) x0 x1 x2 x3 x4 x5 x6 : FVec Ideal S16384x2048 .f32) (ix2 ⟨14336 + i.val, by omega⟩ d)
      = normE (rowR x0 x1 x2 x3 x4 x5 i) (fun d => x6 (ix1 d)) d := by
  rw [← norm_at]
  unfold val_main_v41
  generalize (val_main_v40 (F := Ideal) x0 x1 x2 x3 x4 x5 x6 : FVec Ideal S2048x2048 .f32) = y
  generalize (val_main_v20 (F := Ideal) x4 : FVec Ideal S14336x2048 .f32) = z
  pointwise

/-- The reference's first rows. -/
theorem head_at (i : Fin 14336) (d : Fin 2048) :
    (val_main_v41 (F := Ideal) x0 x1 x2 x3 x4 x5 x6 : FVec Ideal S16384x2048 .f32) (ix2 ⟨i.val, by omega⟩ d)
      = x4 (ix2 ⟨i.val, by omega⟩ d) := by
  unfold val_main_v41 val_main_v20
  generalize (val_main_v40 (F := Ideal) x0 x1 x2 x3 x4 x5 x6 : FVec Ideal S2048x2048 .f32) = y
  pointwise
end

end Cert.PeerD

end
-- ==== Proof.PeerDBlock.lean ====
module

public import proofs.«01_k».proof.Proof.PeerDFrame
public import proofs.«01_k».proof.Proof.PeerDRef
public import Idealize.ShloMosaic.Lib.Pointwise
public import Idealize.ShloMosaic.Lib.Pipeline.ValueKit
public import Idealize.ShloMosaic.Lib.StableHlo.RunRead
public import Idealize.ShloMosaic.Lib.Claim
public import Idealize.ShloMosaic.Lib.Tactic.ValueTie

/-! The experts' sum at a grid point, index by index: the scores, what 1024 experts add to the accumulator, the normed block, and the
    blocks of the arrays. -/

@[expose] public section

set_option maxRecDepth 16384

noncomputable section

namespace Cert.PeerD

open Idealize.ShloMosaic Idealize.SL.Sem Cert.Kernel5Ideal Cert.Kernel5Ideal.Gen

/-- The scores of 512 experts. -/
theorem pay3_at (x : FVec Ideal S512x2048 .bf16) (w : FVec Ideal S512x2048 .bf16) (r e : Fin 512) :
    k0_pay3 (F := Ideal) x w (ix3 0 r e) = ∑ k : Fin 2048, x (ix2 r k) * w (ix2 e k) := by
  unfold k0_pay3
  pointwise

/-- The scores of 1024 experts. -/
theorem scores_at (x : FVec Ideal S512x2048 .bf16) (u : FVec Ideal S1024x2048 .bf16) (r : Fin 512) (e : Fin 1024) :
    scoresOf (F := Ideal) x u (ix3 0 r e) = ∑ k : Fin 2048, x (ix2 r k) * u (ix2 e k) := by
  have he := e.isLt
  unfold scoresOf join
  by_cases h : e.val < 512
  · rw [dif_pos (show ((ix3 0 r e : S1x512x1024.Idx) 2).val < 512 from h)]
    refine (pay3_at _ _ r ⟨e.val, h⟩).trans (Finset.sum_congr rfl fun k _ => congrArg (x (ix2 r k) * ·) ?_)
    refine congrArg u (funext fun a => Fin.ext ?_)
    fin_cases a
    · show 0 + 1 * e.val = e.val
      omega
    · show 0 + 1 * k.val = k.val
      omega
  · rw [dif_neg (show ¬ ((ix3 0 r e : S1x512x1024.Idx) 2).val < 512 from h)]
    refine (pay3_at _ _ r ⟨e.val - 512, by omega⟩).trans (Finset.sum_congr rfl fun k _ => congrArg (x (ix2 r k) * ·) ?_)
    refine congrArg u (funext fun a => Fin.ext ?_)
    fin_cases a
    · show 512 + 1 * (e.val - 512) = e.val
      omega
    · show 0 + 1 * k.val = k.val
      omega

/-- A score activated and weighted: the half multiplies the score first here. -/
theorem pay5_at (h : FVec Ideal S1x512x1024 .f32) (w : FVec Ideal S512x1024 .bf16) (r : Fin 512) (e : Fin 1024) :
    k0_pay5 (F := Ideal) h w (ix2 r e) = geluE (h (ix3 0 r e)) * w (ix2 r e) := by
  have key : ∀ a b t : EReal, a * (b * t) = b * a * t := fun a b t => by rw [← mul_assoc, mul_comm a b]
  unfold geluE
  rw [key]
  unfold k0_pay5
  pointwise

/-- A quarter of the columns with 1024 experts added. -/
theorem pay6_at (g : FVec Ideal S512x1024 .bf16) (a : FVec Ideal S512x512 .f32) (v : FVec Ideal S1024x512 .bf16) (r d : Fin 512) :
    k0_pay6 (F := Ideal) g a v (ix2 r d) = a (ix2 r d) + ∑ e : Fin 1024, g (ix2 r e) * v (ix2 e d) := by
  unfold k0_pay6
  pointwise

/-- All the columns with 1024 experts added. -/
theorem acc_at (h : FVec Ideal S1x512x1024 .f32) (w : FVec Ideal S512x1024 .bf16) (v : FVec Ideal S1024x2048 .bf16)
    (a : FVec Ideal S512x2048 .f32) (r : Fin 512) (d : Fin 2048) :
    accOf (F := Ideal) h w v a (ix2 r d)
      = a (ix2 r d) + ∑ e : Fin 1024, geluE (h (ix3 0 r e)) * w (ix2 r e) * v (ix2 e d) := by
  have hd := d.isLt
  simp only [← pay5_at]
  unfold accOf quads
  by_cases h0 : d.val < 512
  · rw [dif_pos (show ((ix2 r d : S512x2048.Idx) 1).val < 512 from h0)]
    refine (pay6_at _ _ _ r ⟨d.val, h0⟩).trans (congrArg₂ (· + ·) (congrArg a (funext fun q => Fin.ext ?_))
      (Finset.sum_congr rfl fun e _ => congrArg (_ * ·) (congrArg v (funext fun q => Fin.ext ?_))))
    · fin_cases q
      · show 0 + 1 * r.val = r.val
        omega
      · show 0 + 1 * d.val = d.val
        omega
    · fin_cases q
      · show 0 + 1 * e.val = e.val
        omega
      · show 0 + 1 * d.val = d.val
        omega
  · rw [dif_neg (show ¬ ((ix2 r d : S512x2048.Idx) 1).val < 512 from h0)]
    by_cases h1 : d.val < 1024
    · rw [dif_pos (show ((ix2 r d : S512x2048.Idx) 1).val < 1024 from h1)]
      refine (pay6_at _ _ _ r ⟨d.val - 512, by omega⟩).trans (congrArg₂ (· + ·) (congrArg a (funext fun q => Fin.ext ?_))
        (Finset.sum_congr rfl fun e _ => congrArg (_ * ·) (congrArg v (funext fun q => Fin.ext ?_))))
      · fin_cases q
        · show 0 + 1 * r.val = r.val
          omega
        · show 512 + 1 * (d.val - 512) = d.val
          omega
      · fin_cases q
        · show 0 + 1 * e.val = e.val
          omega
        · show 512 + 1 * (d.val - 512) = d.val
          omega
    · rw [dif_neg (show ¬ ((ix2 r d : S512x2048.Idx) 1).val < 1024 from h1)]
      by_cases h2 : d.val < 1536
      · rw [dif_pos (show ((ix2 r d : S512x2048.Idx) 1).val < 1536 from h2)]
        refine (pay6_at _ _ _ r ⟨d.val - 1024, by omega⟩).trans (congrArg₂ (· + ·) (congrArg a (funext fun q => Fin.ext ?_))
          (Finset.sum_congr rfl fun e _ => congrArg (_ * ·) (congrArg v (funext fun q => Fin.ext ?_))))
        · fin_cases q
          · show 0 + 1 * r.val = r.val
            omega
          · show 1024 + 1 * (d.val - 1024) = d.val
            omega
        · fin_cases q
          · show 0 + 1 * e.val = e.val
            omega
          · show 1024 + 1 * (d.val - 1024) = d.val
            omega
      · rw [dif_neg (show ¬ ((ix2 r d : S512x2048.Idx) 1).val < 1536 from h2)]
        refine (pay6_at _ _ _ r ⟨d.val - 1536, by omega⟩).trans (congrArg₂ (· + ·) (congrArg a (funext fun q => Fin.ext ?_))
          (Finset.sum_congr rfl fun e _ => congrArg (_ * ·) (congrArg v (funext fun q => Fin.ext ?_))))
        · fin_cases q
          · show 0 + 1 * r.val = r.val
            omega
          · show 1536 + 1 * (d.val - 1536) = d.val
            omega
        · fin_cases q
          · show 0 + 1 * e.val = e.val
            omega
          · show 1536 + 1 * (d.val - 1536) = d.val
            omega

/-- The cleared accumulator. -/
theorem zero_at (r : Fin 512) (d : Fin 2048) : (k0_pay23 (F := Ideal)) (ix2 r d) = 0 := by
  unfold k0_pay23
  pointwise

/-- The block a row tile's last point stores. -/
theorem out_at (x : FVec Ideal S512x2048 .f32) (g : FVec Ideal S1x1x2048 .f32) (a : FVec Ideal S512x2048 .f32) (w : FVec Ideal S1x2048 .f32)
    (r : Fin 512) (d : Fin 2048) :
    k0_pay2 (F := Ideal) (k0_pay22 x g a) w (ix2 r d)
      = normE (fun k => x (ix2 r k) + g (ix3 0 0 k) * a (ix2 r k)) (fun k => w (ix2 0 k)) d := by
  unfold k0_pay2 k0_pay22 normE
  pointwise

/-! ## The blocks -/

section
variable (m : (ℓ : Loc nD τ sig) → Buf (Elt Ideal) ℓ) (c : Dev nD)

theorem pt_lt (t : Fin cfg0.N) : t.val < 68 := lt_of_lt_of_eq t.isLt (show cfg0.N = 68 from N_0)

/-- Where each window's block lies, over the grid. -/
theorem idx_0 : ∀ t : Fin cfg0.N, win0_0.index t = ![28 + t.val / 17, 0] := (by decide +kernel : ∀ t : Fin grid0.N, _)
theorem idx_1 : ∀ t : Fin cfg0.N, win0_1.index t = ![min (t.val % 17) 15, 0] := (by decide +kernel : ∀ t : Fin grid0.N, _)
theorem idx_2 : ∀ t : Fin cfg0.N, win0_2.index t = ![t.val % 17 - 1, 0] := (by decide +kernel : ∀ t : Fin grid0.N, _)
theorem idx_3 : ∀ t : Fin cfg0.N, win0_3.index t = ![t.val / 17, t.val % 17 - 1] := (by decide +kernel : ∀ t : Fin grid0.N, _)
theorem idx_4 : ∀ t : Fin cfg0.N, win0_4.index t = ![28 + t.val / 17, 0] := (by decide +kernel : ∀ t : Fin grid0.N, _)
theorem idx_5 : ∀ t : Fin cfg0.N, win0_5.index t = ![3, 0, 0] := (by decide +kernel : ∀ t : Fin grid0.N, _)
theorem idx_6 : ∀ t : Fin cfg0.N, win0_6.index t = ![0, 0] := (by decide +kernel : ∀ t : Fin grid0.N, _)
theorem idx_7 : ∀ t : Fin cfg0.N, win0_7.index t = ![28 + t.val / 17, 0] := (by decide +kernel : ∀ t : Fin grid0.N, _)

theorem blk_0 (t : Fin cfg0.N) (r : Fin 512) (k : Fin 2048) :
    (iblk m c 0 t : Vec Ideal S512x2048 .bf16) (ix2 r k)
      = (V m c main_arg0 : Vec Ideal S16384x2048 .bf16) (ix2 ⟨512 * (28 + t.val / 17) + r.val, by have := pt_lt t; omega⟩ k) := by
  have h := idx_0 t
  blk_ext [iblk, h]
theorem blk_1 (t : Fin cfg0.N) (e : Fin 1024) (k : Fin 2048) :
    (iblk m c 1 t : Vec Ideal S1024x2048 .bf16) (ix2 e k)
      = (V m c main_v0 : Vec Ideal S16384x2048 .bf16) (ix2 ⟨1024 * min (t.val % 17) 15 + e.val, by omega⟩ k) := by
  have h := idx_1 t
  blk_ext [iblk, h]
theorem blk_2 (t : Fin cfg0.N) (e : Fin 1024) (d : Fin 2048) :
    (iblk m c 2 t : Vec Ideal S1024x2048 .bf16) (ix2 e d)
      = (V m c main_v1 : Vec Ideal S16384x2048 .bf16) (ix2 ⟨1024 * (t.val % 17 - 1) + e.val, by omega⟩ d) := by
  have h := idx_2 t
  blk_ext [iblk, h]
theorem blk_3 (t : Fin cfg0.N) (r : Fin 512) (e : Fin 1024) :
    (iblk m c 3 t : Vec Ideal S512x1024 .bf16) (ix2 r e)
      = (V m c main_arg3 : Vec Ideal S2048x16384 .bf16) (ix2 ⟨512 * (t.val / 17) + r.val, by have := pt_lt t; omega⟩
          ⟨1024 * (t.val % 17 - 1) + e.val, by omega⟩) := by
  have h := idx_3 t
  blk_ext [iblk, h]
theorem blk_4 (t : Fin cfg0.N) (r : Fin 512) (d : Fin 2048) :
    (iblk m c 4 t : Vec Ideal S512x2048 .f32) (ix2 r d)
      = (V m c main_arg4 : Vec Ideal S16384x2048 .f32) (ix2 ⟨512 * (28 + t.val / 17) + r.val, by have := pt_lt t; omega⟩ d) := by
  have h := idx_4 t
  blk_ext [iblk, h]
theorem blk_5 (t : Fin cfg0.N) (d : Fin 2048) :
    (iblk m c 5 t : Vec Ideal S1x1x2048 .f32) (ix3 0 0 d) = (V m c main_v2 : Vec Ideal S4x1x2048 .f32) (ix3 3 0 d) := by
  have h := idx_5 t
  blk_ext [iblk, h]
theorem blk_6 (t : Fin cfg0.N) (d : Fin 2048) :
    (iblk m c 6 t : Vec Ideal S1x2048 .f32) (ix2 0 d) = (V m c main_v3 : Vec Ideal S1x2048 .f32) (ix2 0 d) := by
  have h := idx_6 t
  blk_ext [iblk, h]

/-! ## The arrays the region finds -/

theorem keys_at (n : Fin 16384) (k : Fin 2048) :
    (V m c main_v0 : Vec Ideal S16384x2048 .bf16) (ix2 n k) = (m (c.tc.loc main_arg1) : FVec Ideal S16384x2048 .f32) (ix2 n k) := by
  have h : (V m c main_v0 : Vec Ideal S16384x2048 .bf16)
      = (truncf (F := Ideal) .bf16 (m (c.tc.loc main_arg1) : FVec Ideal S16384x2048 .f32) bitsLt_bf16_f32) := by
    show StableHlo.after hostOps0 (fun b => m (c, b)) _ = _
    unfold_abbrev_sides
    after_reads_simp
  rw [h]
  rfl

theorem values_at (n : Fin 16384) (d : Fin 2048) :
    (V m c main_v1 : Vec Ideal S16384x2048 .bf16) (ix2 n d) = (m (c.tc.loc main_arg2) : FVec Ideal S16384x2048 .f32) (ix2 n d) := by
  have h : (V m c main_v1 : Vec Ideal S16384x2048 .bf16)
      = (truncf (F := Ideal) .bf16 (m (c.tc.loc main_arg2) : FVec Ideal S16384x2048 .f32) bitsLt_bf16_f32) := by
    show StableHlo.after hostOps0 (fun b => m (c, b)) _ = _
    unfold_abbrev_sides
    after_reads_simp
  rw [h]
  rfl

theorem gate_at (b : Fin 4) (d : Fin 2048) :
    (V m c main_v2 : Vec Ideal S4x1x2048 .f32) (ix3 b 0 d) = (m (c.tc.loc main_arg5) : FVec Ideal S4x2048 .f32) (ix2 b d) := by
  have h : (V m c main_v2 : Vec Ideal S4x1x2048 .f32)
      = shapeCast S4x1x2048 (m (c.tc.loc main_arg5) : FVec Ideal S4x2048 .f32) (h := shapeCasts_S4x2048_S4x1x2048) := by
    show StableHlo.after hostOps0 (fun b => m (c, b)) _ = _
    unfold_abbrev_sides
    after_reads_simp
    rfl
  rw [h]
  generalize (m (c.tc.loc main_arg5) : FVec Ideal S4x2048 .f32) = y
  pointwise

theorem weight_at (d : Fin 2048) :
    (V m c main_v3 : Vec Ideal S1x2048 .f32) (ix2 0 d) = (m (c.tc.loc main_arg6) : FVec Ideal S2048 .f32) (ix1 d) := by
  have h : (V m c main_v3 : Vec Ideal S1x2048 .f32)
      = shapeCast S1x2048 (m (c.tc.loc main_arg6) : FVec Ideal S2048 .f32) (h := shapeCasts_S2048_S1x2048) := by
    show StableHlo.after hostOps0 (fun b => m (c, b)) _ = _
    unfold_abbrev_sides
    after_reads_simp
    rfl
  rw [h]
  generalize (m (c.tc.loc main_arg6) : FVec Ideal S2048 .f32) = y
  pointwise

/-- The result's array starts as the stream. -/
theorem stream_eq : (V m c main_v4 : Vec Ideal S16384x2048 .f32) = (m (c.tc.loc main_arg4) : FVec Ideal S16384x2048 .f32) := by
  show StableHlo.after hostOps0 (fun b => m (c, b)) _ = _
  unfold_abbrev_sides
  after_reads_simp
  rfl
end

end Cert.PeerD

end
-- ==== Proof.PeerDValue.lean ====
module

public import proofs.«01_k».proof.Proof.PeerDBlock
public import Idealize.ShloMosaic.Lib.Pipeline.ValueKit.Partial

/-! The experts' sum: the accumulator over a row tile's points, and the array of results. -/

@[expose] public section

set_option maxRecDepth 16384

noncomputable section

namespace Cert.PeerD

open Idealize.ShloMosaic Idealize.SL.Sem Cert.Kernel5Ideal Cert.Kernel5Ideal.Gen

/-- Sixteen sums of 1024 terms are one sum of 16384. -/
theorem sum_blocks (g : ℕ → EReal) : ∑ b ∈ Finset.range 16, ∑ e : Fin 1024, g (1024 * b + e.val) = ∑ n : Fin 16384, g n.val := by
  have h : ∀ j : ℕ, ∑ b ∈ Finset.range j, ∑ e : Fin 1024, g (1024 * b + e.val) = ∑ n ∈ Finset.range (1024 * j), g n := by
    intro j
    induction j with
    | zero => rfl
    | succ j ih =>
      rw [Finset.sum_range_succ, ih, show 1024 * (j + 1) = 1024 * j + 1024 by omega, Finset.sum_range_add,
        Finset.sum_range (fun x => g (1024 * j + x))]
  rw [h 16, Finset.sum_range]

section
variable (m : (ℓ : Loc nD τ sig) → Buf (Elt Ideal) ℓ) (c : Dev nD)

/-- What expert `n` adds, of the kernel's arguments. -/
abbrev termM (i : Fin 2048) (d : Fin 2048) (n : Fin 16384) : EReal :=
  termR (m (c.tc.loc main_arg0)) (m (c.tc.loc main_arg1)) (m (c.tc.loc main_arg2)) (m (c.tc.loc main_arg3)) i d n

/-- The same, at any number. -/
def termN (i : Fin 2048) (d : Fin 2048) (n : ℕ) : EReal := if h : n < 16384 then termM m c i d ⟨n, h⟩ else 0

/-- The accumulator after the `j`-th point of row tile `I` is the sum over the first `j` blocks of experts. -/
theorem acAt_at (I : ℕ) (hI : I < 4) (r : Fin 512) (d : Fin 2048) : ∀ j : ℕ, j ≤ 16 →
    acAt m c (17 * I + j) (ix2 r d)
      = ∑ b ∈ Finset.range j, ∑ e : Fin 1024, termN m c ⟨512 * I + r.val, by omega⟩ d (1024 * b + e.val) := by
  intro j
  induction j with
  | zero =>
    intro _
    rw [acAt_first m c (17 * I + 0) (by omega), zero_at, Finset.range_zero, Finset.sum_empty]
  | succ j ih =>
    intro hj
    have ht : 17 * I + (j + 1) < cfg0.N := by rw [show cfg0.N = 68 from N_0]; omega
    have hs : 17 * I + j < cfg0.N := by rw [show cfg0.N = 68 from N_0]; omega
    have step := acAt_step m c ⟨17 * I + (j + 1), ht⟩ (by show (17 * I + (j + 1)) % 17 ≠ 0; omega)
    have sc := scAt_val m c ⟨17 * I + j, hs⟩
    have e1 : (⟨17 * I + (j + 1), ht⟩ : Fin cfg0.N).val - 1 = 17 * I + j := by show 17 * I + (j + 1) - 1 = _; omega
    rw [e1] at step
    rw [show acAt m c (17 * I + (j + 1)) = _ from step, show scAt m c (17 * I + j) = _ from sc]
    refine (acc_at _ _ _ _ r d).trans ?_
    rw [ih (by omega), Finset.sum_range_succ]
    refine congrArg (_ + ·) (Finset.sum_congr rfl fun e _ => ?_)
    have he := e.isLt
    have key : ∀ {a a' w w' v v' : EReal}, a = a' → w = w' → v = v' → geluE a * w * v = geluE a' * w' * v' := by
      rintro _ _ _ _ _ _ rfl rfl rfl; rfl
    unfold termN
    rw [dif_pos (by omega)]
    refine key ?_ ?_ ?_
    · refine (scores_at _ _ r e).trans (Finset.sum_congr rfl fun k _ => congrArg₂ (· * ·) ?_ ?_)
      · refine (blk_0 m c ⟨17 * I + j, hs⟩ r k).trans (congrArg (m (c.tc.loc main_arg0) : FVec Ideal S16384x2048 .bf16)
          (congrArg (ix2 · k) (Fin.ext ?_)))
        show 512 * (28 + (17 * I + j) / 17) + r.val = 14336 + (512 * I + r.val)
        omega
      · refine (blk_1 m c ⟨17 * I + j, hs⟩ e k).trans ((keys_at m c _ k).trans
          (congrArg (m (c.tc.loc main_arg1) : FVec Ideal S16384x2048 .f32) (congrArg (ix2 · k) (Fin.ext ?_))))
        show 1024 * min ((17 * I + j) % 17) 15 + e.val = 1024 * j + e.val
        omega
    · refine (blk_3 m c ⟨17 * I + (j + 1), ht⟩ r e).trans (congrArg (m (c.tc.loc main_arg3) : FVec Ideal S2048x16384 .bf16)
        (congrArg₂ ix2 (Fin.ext ?_) (Fin.ext ?_)))
      · show 512 * ((17 * I + (j + 1)) / 17) + r.val = 512 * I + r.val
        omega
      · show 1024 * ((17 * I + (j + 1)) % 17 - 1) + e.val = 1024 * j + e.val
        omega
    · refine (blk_2 m c ⟨17 * I + (j + 1), ht⟩ e d).trans ((values_at m c _ d).trans
        (congrArg (m (c.tc.loc main_arg2) : FVec Ideal S16384x2048 .f32) (congrArg (ix2 · d) (Fin.ext ?_))))
      show 1024 * ((17 * I + (j + 1)) % 17 - 1) + e.val = 1024 * j + e.val
      omega

/-- The accumulator at a row tile's last point is the sum over all the experts. -/
theorem acAt_last (t : Fin cfg0.N) (ht : t.val % 17 = 16) (r : Fin 512) (d : Fin 2048) :
    acAt m c t.val (ix2 r d)
      = ∑ n : Fin 16384, termM m c ⟨512 * (t.val / 17) + r.val, by have := pt_lt t; omega⟩ d n := by
  have hl := pt_lt t
  have e : t.val = 17 * (t.val / 17) + 16 := by omega
  rw [show acAt m c t.val = acAt m c (17 * (t.val / 17) + 16) from congrArg (acAt m c) e,
    acAt_at m c (t.val / 17) (by omega) r d 16 le_rfl, sum_blocks]
  refine Finset.sum_congr rfl fun n _ => ?_
  unfold termN
  rw [dif_pos n.isLt]

/-- The kernel's array of results is the reference's. -/
theorem result_eq :
    (dats m 0 c).arrAt 7 cfg0.N
      = (Reference5Ideal.Read.val_main_v41 (F := Ideal) (m (c.tc.loc main_arg0)) (m (c.tc.loc main_arg1)) (m (c.tc.loc main_arg2))
          (m (c.tc.loc main_arg3)) (m (c.tc.loc main_arg4)) (m (c.tc.loc main_arg5)) (m (c.tc.loc main_arg6)) : FVec Ideal S16384x2048 .f32) := by
  refine (dats m 0 c).arrAt_eq_of_coversWhere_of_agree 7 _ (fun β => 28 ≤ β (0 : Fin _)) (by decide +kernel) (fun t hf y => ?_) (fun j hj => ?_)
  · blk_simp
    rw [after0_7]
    obtain ⟨r, d, rfl⟩ : ∃ (r : Fin 512) (d : Fin 2048), y = ix2 r d :=
      ⟨y 0, y 1, by funext a; fin_cases a <;> rfl⟩
    have hl := pt_lt t
    have ht : t.val % 17 = 16 := (flush0_7 t).mp hf
    have he : ((cfg0.win 7).blk t).view.emb (ix2 r d)
        = (ix2 ⟨14336 + (512 * (t.val / 17) + r.val), by omega⟩ d : S16384x2048.Idx) := by
      have h := idx_7 t
      blk_ext [h]
    refine (out_at _ _ _ _ r d).trans ?_
    refine Eq.trans ?_ (congrArg (Reference5Ideal.Read.val_main_v41 (F := Ideal) (m (c.tc.loc main_arg0)) (m (c.tc.loc main_arg1)) (m (c.tc.loc main_arg2))
          (m (c.tc.loc main_arg3)) (m (c.tc.loc main_arg4)) (m (c.tc.loc main_arg5)) (m (c.tc.loc main_arg6)) : FVec Ideal S16384x2048 .f32) he.symm)
    refine Eq.trans ?_ (tail_at _ _ _ _ _ _ _ ⟨512 * (t.val / 17) + r.val, by omega⟩ d).symm
    refine congrArg₂ (normE · · d) (funext fun k => ?_) (funext fun k => ?_)
    · rw [acAt_last m c t ht r k, blk_5, gate_at]
      unfold rowR
      refine congrArg₂ (· + ·) ?_ rfl
      refine (blk_4 m c t r k).trans (congrArg (m (c.tc.loc main_arg4) : FVec Ideal S16384x2048 .f32)
          (congrArg (ix2 · k) (Fin.ext ?_)))
      show 512 * (28 + t.val / 17) + r.val = 14336 + (512 * (t.val / 17) + r.val)
      omega
    · rw [blk_6, weight_at]
  · have hr : (j (0 : Fin 2)).val < 14336 := by
      blk_simp [Pipeline.Window.cell_apply] at hj
      omega
    rw [A_eq]
    show (V m c main_v4 : Vec Ideal S16384x2048 .f32) j = _
    rw [stream_eq]
    obtain ⟨i, d, hi, rfl⟩ : ∃ (i : Fin 14336) (d : Fin 2048) (hi : i.val < 16384), j = (ix2 ⟨i.val, hi⟩ d : S16384x2048.Idx) :=
      ⟨⟨(j (0 : Fin 2)).val, hr⟩, j (1 : Fin 2), (j (0 : Fin 2)).isLt, by funext a; fin_cases a <;> rfl⟩
    exact (head_at _ _ _ _ _ _ _ i d).symm
end

end Cert.PeerD

end
-- ==== Proof.PeerDClaim.lean ====
module

public import proofs.«01_k».proof.Defs
public import proofs.«01_k».proof.Proof.PeerDValue
public import proofs.«01_k».proof.Proof.Gen.Reference5Ideal.Run
public import Idealize.ShloMosaic.Adequacy
public import Idealize.ShloMosaic.Init
public import Idealize.ShloMosaic.Lib.Quiescent

/-! The claims of the experts' sum. -/

@[expose] public section

noncomputable section

namespace Cert.PeerD

open Idealize.ShloMosaic Idealize.SL.Sem

attribute [local instance] Cert.Kernel5.Gen.facts

/-- The two printed programs have the same body tables: label by label the same function. -/
theorem bodies_eq : Cert.Kernel5.defs₀ (F := Bits) = Cert.Kernel5Ideal.defs₀ (F := Bits) := by
  funext k
  cases k with
  | tc =>
    funext ℓ a
    match ℓ, a with
    | ⟨0, _⟩, (t, s) => exact rfl
  | scScalar _ => rfl
  | scVector _ _ => rfl

/-- So they have the same tables with the pipelines' labels added. -/
theorem tables_eq : Cert.Kernel5.defs (F := Bits) = Cert.Kernel5Ideal.defs (F := Bits) :=
  congrArg (Pipeline.defs (Cert.Kernel5Ideal.pcfgs (F := Bits))) bodies_eq

/-- The kernel over float words ends with its arguments and semaphores as they were: the run over any float values, at these. -/
theorem frame_kernel : quiescent_Kernel5 (hKernel5 := Cert.Kernel5.Gen.facts) := fun m ρ _ => by
  rw [tables_eq]
  exact Cert.Kernel5Ideal.Gen.frame_in (F := Bits) m ρ

/-- The kernel with exact arithmetic ends with its arguments and semaphores as they were. -/
theorem frame_ideal : quiescent_Kernel5Ideal (hKernel5Ideal := Cert.Kernel5Ideal.Gen.facts) := fun m ρ _ =>
  Cert.Kernel5Ideal.Gen.frame_in (F := Ideal) m ρ

/-- The reference ends with its arguments and semaphores as they were. -/
theorem quiescent_reference : quiescent_Reference5Ideal (hReference5Ideal := Cert.Reference5Ideal.Gen.facts) := fun m ρ _ =>
  (θ_run Cert.Reference5Ideal.defs _ _).mono (fun r h => ⟨fun c => (h c).2, sem_eq_zero_of_no_sems (by decide) r.2⟩)
    (Cert.Reference5Ideal.Value.run (F := Ideal) m ρ)

/-- The kernel's run, its array of results named. -/
theorem run_kernel (m : (ℓ : Loc Cert.Kernel5Ideal.nD Cert.Kernel5Ideal.τ Cert.Kernel5Ideal.sig) → Buf (Elt Ideal) ℓ)
    (ρ : Dev Cert.Kernel5Ideal.nD → PrngReg) :
    θ_run (Cert.Kernel5Ideal.defs (F := Ideal)) (onTc (τ := Cert.Kernel5Ideal.τ) (Cert.Kernel5Ideal.main (F := Ideal))) ⟨m, fun _ => 0, ρ⟩
      (fun r => ∀ c : Dev Cert.Kernel5Ideal.nD,
        r.2.mem (c.tc.loc Cert.Kernel5Ideal.main_v4) = (Cert.Kernel5Ideal.Gen.dats (F := Ideal) m 0 c).arrAt 7 Cert.Kernel5Ideal.cfg0.N) :=
  (θ_run Cert.Kernel5Ideal.defs _ _).mono (fun _ h c => (h c).1 7) (Cert.Kernel5Ideal.Gen.run_main (F := Ideal) m ρ)

/-- The kernel with exact arithmetic ends with the reference's results. -/
theorem algebraic : algebraic_Kernel5Ideal_Reference5Ideal (hKernel5Ideal := Cert.Kernel5Ideal.Gen.facts)
    (hReference5Ideal := Cert.Reference5Ideal.Gen.facts) := by
  intro m ρ m' ρ' _ hagree
  refine ⟨fun c => (Cert.Kernel5Ideal.Gen.dats (F := Ideal) m 0 c).arrAt 7 Cert.Kernel5Ideal.cfg0.N,
    (θ_run Cert.Kernel5Ideal.defs _ _).mono (fun _ h c => ⟨h.1 c, h.2.1 c⟩)
      (θ_run_and (run_kernel m ρ) (Cert.Kernel5Ideal.Gen.frame_in (F := Ideal) m ρ)), ?_⟩
  refine (θ_run Cert.Reference5Ideal.defs _ _).mono (fun _ h c => ⟨?_, (h c).2⟩) (Cert.Reference5Ideal.Value.run (F := Ideal) m' ρ')
  refine (h c).1.trans ((Cert.Reference5Ideal.Read.val_main_v41_eq (F := Ideal) _ _).trans ?_)
  obtain ⟨e0, e1, e2, e3, e4, e5, e6⟩ := hagree c
  rw [e0, e1, e2, e3, e4, e5, e6]
  exact (result_eq m c).symm

end Cert.PeerD

end
-- ==== Proof.Ada.lean ====
module

public import proofs.«01_k».proof.Proof.Gen.Kernel6Ideal.Value
public import proofs.«01_k».proof.Proof.Gen.Reference6Ideal.Run
public import Idealize.ShloMosaic.Lib.Pointwise
public import Idealize.ShloMosaic.Lib.Pipeline.ValueKit
public import Idealize.ShloMosaic.Lib.StableHlo.RunRead
public import Idealize.ShloMosaic.Lib.Claim
public import Idealize.ShloMosaic.Lib.Tactic.ValueTie

/-! The conditioning: every grid point multiplies the activated rows by 1536 columns of the weight and adds the bias,
and the array of results is the reference's. -/

@[expose] public section

set_option maxRecDepth 16384

noncomputable section

namespace Cert.Ada

open Idealize.ShloMosaic Idealize.SL.Sem

section
open Reference6Ideal Reference6Ideal.Gen

/-- The reference's result. -/
def refV (x : FVec Ideal S8x2048 .f32) (w : FVec Ideal S2048x12288 .f32) (b : FVec Ideal S12288 .f32) :
    FVec Ideal S8x12288 .f32 :=
  addf (Host.dotGeneral dot_S8x2048_S2048x12288_S8x12288_1_0_0_1_n_n none
      (mulf x (Host.divf (broadcastInDim S8x2048 ![] bcast_S_S8x2048 (constant S_ .f32 0x3F800000#32))
        (addf (broadcastInDim S8x2048 ![] bcast_S_S8x2048 (constant S_ .f32 0x3F800000#32)) (Host.exp (Host.negf x))))) w)
    (broadcastInDim S8x12288 ![0, 1] bcast_S1x12288_S8x12288_0_1 (broadcastInDim S1x12288 ![1] bcast_S12288_S1x12288_1 b))
end

open Cert.Kernel6Ideal Cert.Kernel6Ideal.Gen

/-- A number times the logistic function of it. -/
def siluE (x : EReal) : EReal := x * Ideal.div 1 (1 + Ideal.exp (-x))

/-- What a grid point stores. -/
theorem pay_at (x : FVec Ideal S8x2048 .f32) (w : FVec Ideal S2048x1536 .f32) (b : FVec Ideal S1x1536 .f32)
    (r : Fin 8) (d : Fin 1536) :
    k0_pay1 (F := Ideal) x w b (ix2 r d) = (∑ k : Fin 2048, siluE (x (ix2 r k)) * w (ix2 k d)) + b (ix2 0 d) := by
  unfold k0_pay1 siluE
  pointwise
  simp only [zero_sub]

/-- The reference's result at an index. -/
theorem ref_at (x : FVec Ideal S8x2048 .f32) (w : FVec Ideal S2048x12288 .f32) (b : FVec Ideal S12288 .f32)
    (r : Fin 8) (d : Fin 12288) :
    refV x w b (ix2 r d) = (∑ k : Fin 2048, siluE (x (ix2 r k)) * w (ix2 k d)) + b (ix1 d) := by
  unfold refV siluE
  pointwise

section
variable (m : (ℓ : Loc nD τ sig) → Buf (Elt Ideal) ℓ) (c : Dev nD)

/-- Where each window's block lies, over the grid. -/
theorem idx_at : ∀ t : Fin cfg0.N, win0_0.index t = ![0, 0] ∧ win0_1.index t = ![0, t.val]
    ∧ win0_2.index t = ![0, t.val] ∧ win0_3.index t = ![0, t.val] :=
  (by decide +kernel : ∀ t : Fin grid0.N, _)

theorem pt_lt (t : Fin cfg0.N) : t.val < 8 := lt_of_lt_of_eq t.isLt (show cfg0.N = 8 from N_0)

/-- The rows, whole. -/
theorem blk_0 (t : Fin cfg0.N) (r : Fin 8) (d : Fin 2048) :
    (iblk m c 0 t : Vec Ideal S8x2048 .f32) (ix2 r d) = (V m c main_arg0 : Vec Ideal S8x2048 .f32) (ix2 r d) := by
  have h := (idx_at t).1
  blk_ext [iblk, h]

/-- The weight's columns of a point. -/
theorem blk_1 (t : Fin cfg0.N) (k : Fin 2048) (d : Fin 1536) :
    (iblk m c 1 t : Vec Ideal S2048x1536 .f32) (ix2 k d)
      = (V m c main_arg1 : Vec Ideal S2048x12288 .f32) (ix2 k ⟨1536 * t.val + d.val, by have := pt_lt t; omega⟩) := by
  have h := (idx_at t).2.1
  blk_ext [iblk, h]

/-- The bias's columns of a point. -/
theorem blk_2 (t : Fin cfg0.N) (d : Fin 1536) :
    (iblk m c 2 t : Vec Ideal S1x1536 .f32) (ix2 0 d)
      = (V m c main_v0 : Vec Ideal S1x12288 .f32) (ix2 0 ⟨1536 * t.val + d.val, by have := pt_lt t; omega⟩) := by
  have h := (idx_at t).2.2.1
  blk_ext [iblk, h]

/-- The bias the kernel is called with. -/
theorem bias_at (d : Fin 12288) :
    (V m c main_v0 : Vec Ideal S1x12288 .f32) (ix2 0 d) = (m (c.tc.loc main_arg2) : FVec Ideal S12288 .f32) (ix1 d) := by
  have h : (V m c main_v0 : Vec Ideal S1x12288 .f32)
      = shapeCast S1x12288 (m (c.tc.loc main_arg2) : FVec Ideal S12288 .f32) (h := shapeCasts_S12288_S1x12288) := by
    show StableHlo.after (List.flatten [hostOps0]) (fun b => m (c, b)) _ = _
    unfold_abbrev_sides
    after_reads_simp
    rfl
  rw [h]
  exact shapeCast_apply _ shapeCasts_S12288_S1x12288 (ix2 0 d) (ix1 d)
    (by rewrite [Shape.rowMajor_val_one, Shape.rowMajor_val_two]
        show d.val = 0 * 12288 + d.val
        omega)

theorem V_arg0 : V m c main_arg0 = m (c.tc.loc main_arg0) := by
  show StableHlo.after (List.flatten [hostOps0]) (fun b => m (c, b)) _ = _
  unfold_abbrev_sides
  after_reads_simp

theorem V_arg1 : V m c main_arg1 = m (c.tc.loc main_arg1) := by
  show StableHlo.after (List.flatten [hostOps0]) (fun b => m (c, b)) _ = _
  unfold_abbrev_sides
  after_reads_simp

/-- The kernel's array of results is the reference's. -/
theorem result_eq :
    (dats m 0 c).arrAt 3 cfg0.N
      = (refV (m (c.tc.loc main_arg0)) (m (c.tc.loc main_arg1)) (m (c.tc.loc main_arg2)) : FVec Ideal S8x12288 .f32) := by
  refine (dats m 0 c).arrAt_eq_of_covers 3 _ (by decide +kernel) fun t hf y => ?_
  blk_simp
  rw [after0_3]
  frame_out
  obtain ⟨r, d, rfl⟩ : ∃ (r : Fin 8) (d : Fin 1536), y = ix2 r d :=
    ⟨y 0, y 1, by funext a; fin_cases a <;> rfl⟩
  have ht := pt_lt t
  have he : ((cfg0.win 3).blk t).view.emb (ix2 r d) = (ix2 r ⟨1536 * t.val + d.val, by omega⟩ : S8x12288.Idx) := by
    have h := (idx_at t).2.2.2
    blk_ext [h]
  refine (pay_at _ _ _ r d).trans ?_
  refine Eq.trans ?_ (congrArg (refV (m (c.tc.loc main_arg0)) (m (c.tc.loc main_arg1)) (m (c.tc.loc main_arg2))
          : FVec Ideal S8x12288 .f32) he.symm)
  rw [ref_at, blk_2, bias_at]
  refine congrArg (· + _) (Finset.sum_congr rfl fun k _ => ?_)
  rw [blk_0, blk_1, V_arg0, V_arg1]
end

end Cert.Ada

end
-- ==== Proof.AdaClaim.lean ====
module

public import proofs.«01_k».proof.Defs
public import proofs.«01_k».proof.Proof.Ada
public import Idealize.ShloMosaic.Adequacy
public import Idealize.ShloMosaic.Init
public import Idealize.ShloMosaic.Lib.Quiescent

/-! The claims of the conditioning. -/

@[expose] public section

noncomputable section

namespace Cert.Ada

open Idealize.ShloMosaic Idealize.SL.Sem

theorem quiescent_reference : quiescent_Reference6Ideal (hReference6Ideal := Cert.Reference6Ideal.Gen.facts) := fun m ρ _ =>
  (θ_run Cert.Reference6Ideal.defs _ _).mono (fun r h => ⟨fun c => (h c).2, sem_eq_zero_of_no_sems (by decide) r.2⟩)
    (Cert.Reference6Ideal.Value.run (F := Ideal) m ρ)

/-- The kernel with exact arithmetic ends with the reference's results. -/
theorem algebraic : algebraic_Kernel6Ideal_Reference6Ideal (hKernel6Ideal := Cert.Kernel6Ideal.Gen.facts)
    (hReference6Ideal := Cert.Reference6Ideal.Gen.facts) := by
  intro m ρ m' ρ' _ hagree
  refine ⟨_, Cert.Kernel6Ideal.Value.run_blocks (F := Ideal) m ρ, ?_⟩
  refine (θ_run Cert.Reference6Ideal.defs _ _).mono (fun _ h c => ⟨?_, (h c).2⟩) (Cert.Reference6Ideal.Value.run (F := Ideal) m' ρ')
  refine (h c).1.trans ?_
  obtain ⟨e0, e1, e2⟩ := hagree c
  rw [e0, e1, e2]
  exact (result_eq m c).symm

end Cert.Ada

end
-- ==== Proof.lean ====
module

public import proofs.«01_k».proof.Defs
public import proofs.«01_k».proof.Proof.Gen.Kernel5
public import proofs.«01_k».proof.Proof.Gen.Kernel5Ideal
public import proofs.«01_k».proof.Proof.Gen.Kernel5Ideal.Frame
public import proofs.«01_k».proof.Proof.Gen.Kernel5Ideal.Skeleton
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel.Frame
public import proofs.«01_k».proof.Proof.Gen.KernelIdeal.Value
public import proofs.«01_k».proof.Proof.Gen.ReferenceIdeal.Run
public import proofs.«01_k».proof.Proof.Gen.Pre_finite_weights
public import proofs.«01_k».proof.Proof.Tie
public import proofs.«01_k».proof.Proof.MergeClaim
public import proofs.«01_k».proof.Proof.InProjClaim
public import proofs.«01_k».proof.Proof.PeerQClaim
public import proofs.«01_k».proof.Proof.PeerDClaim
public import proofs.«01_k».proof.Proof.AdaClaim
public import proofs.«01_k».proof.Proof.Gen.Kernel3.Frame
public import proofs.«01_k».proof.Proof.Gen.Kernel4.Frame
public import Idealize.ShloMosaic.Adequacy
public import Idealize.ShloMosaic.Init
public import Idealize.ShloMosaic.Lib.Quiescent

/-! # Six kernels of the layer compute what their references compute

`Cert.Claim` is proved at the end. The attention's value is read in `Proof/Unit.lean` (256 query rows of one head),
`Proof/Block.lean`, `Proof/CaseA.lean`, `Proof/CaseB.lean` (a grid point), `Proof/Sweep.lean` (the grid); the reference's
in `Proof/RefRead.lean`; they meet in `Proof/Tie.lean`. The input projection's run and value are
in `Proof/InProj*.lean`. The merge is in `Proof/Merge*.lean`, the experts' queries in
`Proof/PeerQ*.lean`, the experts' sum in `Proof/PeerD*.lean`, the conditioning's product in `Proof/Ada*.lean`. -/
@[expose] public section

noncomputable section

namespace Cert.Proof

open Idealize.ShloMosaic Idealize.SL.Sem Cert.Attn

/-- A bit-and that is one has both bits one. -/
theorem and_one : ∀ a b : BitVec 1, a &&& b = 1#1 → a = 1#1 ∧ b = 1#1 := by decide

/-- What the precondition says: the weights of both norms are real numbers. -/
theorem weights_real (A : FVec Ideal Pre_finite_weights.S4x4096x11776 .bf16) (B : FVec Ideal Pre_finite_weights.S4x256x11776 .bf16)
    (w w' : FVec Ideal Pre_finite_weights.S128 .f32)
    (h : @Pre_finite_weights.fn Pre_finite_weights.Gen.facts Ideal _ A B w w' = fun _ => 1#1) (d : Fin 128) :
    IsR (w (ix1 d)) ∧ IsR (w' (ix1 d)) := by
  have hinf : Ideal.ofBits .f32 0x7F800000#32 = (⊤ : EReal) := by simp [Ideal.ofBits, Ideal.ieee]
  have e := congrFun h (ix1 d)
  unfold Pre_finite_weights.fn at e
  obtain ⟨h1, h2⟩ := and_one _ _ e
  have g : ∀ x : EReal, BitVec.ofBool (decide (max x (-x) < Ideal.ofBits .f32 0x7F800000#32)) = 1#1 → IsR x := by
    intro x hx
    rw [hinf] at hx
    by_cases hlt : max x (-x) < ⊤
    · exact IsR.of_abs_lt hlt
    · rw [decide_eq_false hlt] at hx; exact absurd hx (by decide)
  exact ⟨g _ h1, g _ h2⟩

theorem quiescent_ReferenceIdeal : quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel with exact arithmetic ends with the reference's results. -/
theorem algebraic : algebraic_KernelIdeal_ReferenceIdeal_pre_finite_weights (hKernelIdeal := Cert.KernelIdeal.Gen.facts)
    (hReferenceIdeal := Cert.ReferenceIdeal.Gen.facts) (hPre_finite_weights := Cert.Pre_finite_weights.Gen.facts) := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  refine (h c).1.trans ((Cert.ReferenceIdeal.Read.val_main_v126_eq (F := Ideal) (StableHlo.launchContents m' c)).trans ?_)
  obtain ⟨e0, e1, e2, e3⟩ := hagree c
  have e : ∀ {x0 x0' x1 x1' x2 x2' x3 x3'}, x0 = x0' → x1 = x1' → x2 = x2' → x3 = x3' →
      Cert.ReferenceIdeal.Read.val_main_v126 (F := Ideal) x0 x1 x2 x3 = Cert.ReferenceIdeal.Read.val_main_v126 x0' x1' x2' x3' := by
    rintro _ _ _ _ _ _ _ _ rfl rfl rfl rfl; rfl
  refine (e e0 e1 e2 e3).trans ?_
  refine funext fun i => (G11_ref m c (fun d => ?_) (fun d => ?_) i).symm
  · exact (weights_real _ _ _ _ (hpre c) d).1
  · exact (weights_real _ _ _ _ (hpre c) d).2

/-- Everything claimed. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Pre_finite_weights.Gen.facts, fun m ρ _ => Cert.Kernel.Gen.frame m ρ, fun m ρ _ => Cert.KernelIdeal.Gen.frame m ρ,
  fun m ρ _ => Cert.KernelIdeal.Gen.frame m ρ, quiescent_ReferenceIdeal, fun m ρ _ => quiescent_ReferenceIdeal m ρ trivial,
  InProj.frame_kernel, InProj.frame_ideal, InProj.quiescent_reference,
  fun m ρ _ => Cert.Kernel3.Gen.frame m ρ, fun m ρ _ => Cert.Kernel3Ideal.Gen.frame m ρ, Merge.quiescent_reference,
  fun m ρ _ => Cert.Kernel4.Gen.frame m ρ, fun m ρ _ => Cert.Kernel4Ideal.Gen.frame m ρ, PeerQ.quiescent_reference,
  PeerD.frame_kernel, PeerD.frame_ideal, PeerD.quiescent_reference,
  fun m ρ _ => Cert.Kernel6.Gen.frame m ρ, fun m ρ _ => Cert.Kernel6Ideal.Gen.frame m ρ, Ada.quiescent_reference,
  IdealRules.named_const.statement Cert.KernelIdeal.κ "scale_log2e" .f32 0x3E0293EE#32 _ rfl, algebraic,
  trivial, InProj.algebraic, trivial, Merge.algebraic, trivial, PeerQ.algebraic,
  trivial, PeerD.algebraic, trivial, Ada.algebraic⟩

end Cert.Proof

end
